-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scales [hPre_positive_scales : Cert.Pre_positive_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scales [hPre_positive_scales : Cert.Pre_positive_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_positive_scales [hKernelIdeal : Cert.KernelIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_positive_scales [hReferenceIdeal : Cert.ReferenceIdeal.Facts] [hPre_positive_scales : Cert.Pre_positive_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "masked" .f32 0xC7600000#32 ⊥
  ∧ IdealRules.named_const.Statement Cert.KernelIdeal.κ "score_scale" .f32 0x3E0293EE#32 (((Real.log 2)⁻¹ * (Real.sqrt 128)⁻¹ : ℝ) : EReal)

def algebraic_KernelIdeal_ReferenceIdeal_pre_positive_scales [hKernelIdeal : Cert.KernelIdeal.Facts] [hReferenceIdeal : Cert.ReferenceIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_positive_scales : Cert.Pre_positive_scales.Facts),
    quiescent_Kernel (hKernel := hKernel)
    ∧ quiescent_KernelIdeal (hKernelIdeal := hKernelIdeal)
    ∧ quiescent_KernelIdeal_pre_positive_scales (hKernelIdeal := hKernelIdeal) (hPre_positive_scales := hPre_positive_scales)
    ∧ quiescent_ReferenceIdeal (hReferenceIdeal := hReferenceIdeal)
    ∧ quiescent_ReferenceIdeal_pre_positive_scales (hReferenceIdeal := hReferenceIdeal) (hPre_positive_scales := hPre_positive_scales)
    ∧ preserves_Kernel_KernelIdeal
    ∧ algebraic_KernelIdeal_ReferenceIdeal_pre_positive_scales (hKernelIdeal := hKernelIdeal) (hReferenceIdeal := hReferenceIdeal) (hPre_positive_scales := hPre_positive_scales)
-- ==== Pre_positive_scales.lean ====
abbrev S2x896x56x128 : Shape := ⟨4, ![2, 896, 56, 128]⟩
abbrev S2x56 : Shape := ⟨2, ![2, 56]⟩
abbrev S2x896x8x128 : Shape := ⟨4, ![2, 896, 8, 128]⟩
abbrev S2x8 : Shape := ⟨2, ![2, 8]⟩
abbrev S2x56x160 : Shape := ⟨3, ![2, 56, 160]⟩
abbrev S2x56x240 : Shape := ⟨3, ![2, 56, 240]⟩
abbrev S_ : Shape := ⟨0, ![]⟩

class Facts : Prop where
  bcast_S_S2x56 : S_.BroadcastsInDim S2x56 (![] : Fin 0 → Fin S2x56.rank)
  bcast_S_S2x8 : S_.BroadcastsInDim S2x8 (![] : Fin 0 → Fin S2x8.rank)

variable [Facts]

def fn {F : FTy → Type} [FloatOps F] (main_arg0 : FVec F S2x896x56x128 .fp8e4m3) (main_arg1 : FVec F S2x56 .f32) (main_arg2 : FVec F S2x896x8x128 .fp8e4m3) (main_arg3 : FVec F S2x8 .f32) (main_arg4 : FVec F S2x896x8x128 .fp8e4m3) (main_arg5 : FVec F S2x8 .f32) (main_arg6 : IVec S2x56x160 32) (main_arg7 : IVec S2x56 32) (main_arg8 : IVec S2x56x240 32) (main_arg9 : IVec S2x56 32) : IVec S2x56 1 × IVec S2x56 1 × IVec S2x8 1 × IVec S2x8 1 :=
  let main_cst : FVec F S_ .f32 := constant S_ .f32 0x00000000#32
  let main_v0 : FVec F S2x56 .f32 := broadcastInDim S2x56 ![] bcast_S_S2x56 main_cst
  let main_v1 : IVec S2x56 1 := cmpf .ogt main_arg1 main_v0
  let main_cst_0 : FVec F S_ .f32 := constant S_ .f32 0x7F800000#32
  let main_v2 : FVec F S2x56 .f32 := broadcastInDim S2x56 ![] bcast_S_S2x56 main_cst_0
  let main_v3 : IVec S2x56 1 := cmpf .olt main_arg1 main_v2
  let main_cst_1 : FVec F S_ .f32 := constant S_ .f32 0x00000000#32
  let main_v4 : FVec F S2x8 .f32 := broadcastInDim S2x8 ![] bcast_S_S2x8 main_cst_1
  let main_v5 : IVec S2x8 1 := cmpf .ogt main_arg3 main_v4
  let main_cst_2 : FVec F S_ .f32 := constant S_ .f32 0x7F800000#32
  let main_v6 : FVec F S2x8 .f32 := broadcastInDim S2x8 ![] bcast_S_S2x8 main_cst_2
  let main_v7 : IVec S2x8 1 := cmpf .olt main_arg3 main_v6
  (main_v1, main_v3, main_v5, main_v7)
-- ==== Kernel.lean ====
abbrev S2x896x56x128 : Shape := ⟨4, ![2, 896, 56, 128]⟩
abbrev S2x56 : Shape := ⟨2, ![2, 56]⟩
abbrev S2x896x8x128 : Shape := ⟨4, ![2, 896, 8, 128]⟩
abbrev S2x8 : Shape := ⟨2, ![2, 8]⟩
abbrev S2x56x160 : Shape := ⟨3, ![2, 56, 160]⟩
abbrev S2x56x240 : Shape := ⟨3, ![2, 56, 240]⟩
abbrev S2x896x7168 : Shape := ⟨3, ![2, 896, 7168]⟩
abbrev S1x896x8x128 : Shape := ⟨4, ![1, 896, 8, 128]⟩
abbrev S1x56x160 : Shape := ⟨3, ![1, 56, 160]⟩
abbrev S1x56x240 : Shape := ⟨3, ![1, 56, 240]⟩
abbrev S1x896x896 : Shape := ⟨3, ![1, 896, 896]⟩
abbrev S16x896x128 : Shape := ⟨3, ![16, 896, 128]⟩
abbrev S8x896x128 : Shape := ⟨3, ![8, 896, 128]⟩
abbrev S8x128x896 : Shape := ⟨3, ![8, 128, 896]⟩
abbrev S256x256 : Shape := ⟨2, ![256, 256]⟩
abbrev S8x56x128 : Shape := ⟨3, ![8, 56, 128]⟩
abbrev S7x32x128 : Shape := ⟨3, ![7, 32, 128]⟩
abbrev S128x128 : Shape := ⟨2, ![128, 128]⟩
abbrev S2x7x32x128 : Shape := ⟨4, ![2, 7, 32, 128]⟩
abbrev S2x896x256 : Shape := ⟨3, ![2, 896, 256]⟩
abbrev S1x896x1x128 : Shape := ⟨4, ![1, 896, 1, 128]⟩
abbrev S896x128 : Shape := ⟨2, ![896, 128]⟩
abbrev S1x896x128 : Shape := ⟨3, ![1, 896, 128]⟩
abbrev S128x896 : Shape := ⟨2, ![128, 896]⟩
abbrev S1x128x896 : Shape := ⟨3, ![1, 128, 896]⟩
abbrev S56x56 : Shape := ⟨2, ![56, 56]⟩
abbrev S56x128 : Shape := ⟨2, ![56, 128]⟩
abbrev S1x56 : Shape := ⟨2, ![1, 56]⟩
abbrev S56 : Shape := ⟨1, ![56]⟩
abbrev S56x1 : Shape := ⟨2, ![56, 1]⟩
abbrev S1x56x128 : Shape := ⟨3, ![1, 56, 128]⟩
abbrev S1x56x112 : Shape := ⟨3, ![1, 56, 112]⟩
abbrev S56x112 : Shape := ⟨2, ![56, 112]⟩
abbrev S56x16 : Shape := ⟨2, ![56, 16]⟩
abbrev S56x128x1 : Shape := ⟨3, ![56, 128, 1]⟩
abbrev S1x56x32 : Shape := ⟨3, ![1, 56, 32]⟩
abbrev S56x32 : Shape := ⟨2, ![56, 32]⟩
abbrev S56x96 : Shape := ⟨2, ![56, 96]⟩
abbrev S72x128 : Shape := ⟨2, ![72, 128]⟩
abbrev S32x128 : Shape := ⟨2, ![32, 128]⟩
abbrev S1x32x128 : Shape := ⟨3, ![1, 32, 128]⟩
abbrev S8x128 : Shape := ⟨2, ![8, 128]⟩
abbrev S1x1x128 : Shape := ⟨3, ![1, 1, 128]⟩
abbrev S1x128 : Shape := ⟨2, ![1, 128]⟩
abbrev S1x1x8x128 : Shape := ⟨4, ![1, 1, 8, 128]⟩
abbrev S1x8x128 : Shape := ⟨3, ![1, 8, 128]⟩
abbrev S8x128x1 : Shape := ⟨3, ![8, 128, 1]⟩
abbrev S1x256 : Shape := ⟨2, ![1, 256]⟩
abbrev S1x1 : Shape := ⟨2, ![1, 1]⟩
abbrev S1x128x128 : Shape := ⟨3, ![1, 128, 128]⟩
abbrev S256x128 : Shape := ⟨2, ![256, 128]⟩
abbrev S1x1x32x128 : Shape := ⟨4, ![1, 1, 32, 128]⟩
abbrev S128x256 : Shape := ⟨2, ![128, 256]⟩
abbrev S1x128x256 : Shape := ⟨3, ![1, 128, 256]⟩
abbrev S256 : Shape := ⟨1, ![256]⟩
abbrev S1x256x128 : Shape := ⟨3, ![1, 256, 128]⟩
abbrev S1x256x256 : Shape := ⟨3, ![1, 256, 256]⟩
abbrev S384x256 : Shape := ⟨2, ![384, 256]⟩
abbrev S1x384x128 : Shape := ⟨3, ![1, 384, 128]⟩
abbrev S384x128 : Shape := ⟨2, ![384, 128]⟩
abbrev S1x384x256 : Shape := ⟨3, ![1, 384, 256]⟩
abbrev S512x256 : Shape := ⟨2, ![512, 256]⟩
abbrev S1x512x128 : Shape := ⟨3, ![1, 512, 128]⟩
abbrev S512x128 : Shape := ⟨2, ![512, 128]⟩
abbrev S1x512x256 : Shape := ⟨3, ![1, 512, 256]⟩
abbrev S1x128x384 : Shape := ⟨3, ![1, 128, 384]⟩
abbrev S128x384 : Shape := ⟨2, ![128, 384]⟩
abbrev S640x256 : Shape := ⟨2, ![640, 256]⟩
abbrev S1x640x128 : Shape := ⟨3, ![1, 640, 128]⟩
abbrev S640x128 : Shape := ⟨2, ![640, 128]⟩
abbrev S1x640x256 : Shape := ⟨3, ![1, 640, 256]⟩
abbrev S1x128x512 : Shape := ⟨3, ![1, 128, 512]⟩
abbrev S128x512 : Shape := ⟨2, ![128, 512]⟩
abbrev S768x256 : Shape := ⟨2, ![768, 256]⟩
abbrev S1x768x128 : Shape := ⟨3, ![1, 768, 128]⟩
abbrev S768x128 : Shape := ⟨2, ![768, 128]⟩
abbrev S1x768x256 : Shape := ⟨3, ![1, 768, 256]⟩
abbrev S1x128x640 : Shape := ⟨3, ![1, 128, 640]⟩
abbrev S128x640 : Shape := ⟨2, ![128, 640]⟩
abbrev S896x256 : Shape := ⟨2, ![896, 256]⟩
abbrev S1x896x256 : Shape := ⟨3, ![1, 896, 256]⟩
abbrev S1x128x768 : Shape := ⟨3, ![1, 128, 768]⟩
abbrev S128x768 : Shape := ⟨2, ![128, 768]⟩
abbrev S128 : Shape := ⟨1, ![128]⟩

abbrev nBuf : Space → Nat
  | .hbm => 11
  | .vmem => 25
  | .smem => 3
  | _ => 0

abbrev bufTy : (tb : Table) → Fin (tcTables nBuf tb) → BufTy
  | .hbm, ⟨0, _⟩ => ⟨S2x896x56x128, .fp8e4m3⟩
  | .hbm, ⟨1, _⟩ => ⟨S2x56, .f32⟩
  | .hbm, ⟨2, _⟩ => ⟨S2x896x8x128, .fp8e4m3⟩
  | .hbm, ⟨3, _⟩ => ⟨S2x8, .f32⟩
  | .hbm, ⟨4, _⟩ => ⟨S2x896x8x128, .fp8e4m3⟩
  | .hbm, ⟨5, _⟩ => ⟨S2x8, .f32⟩
  | .hbm, ⟨6, _⟩ => ⟨S2x56x160, .i32⟩
  | .hbm, ⟨7, _⟩ => ⟨S2x56, .i32⟩
  | .hbm, ⟨8, _⟩ => ⟨S2x56x240, .i32⟩
  | .hbm, ⟨9, _⟩ => ⟨S2x56, .i32⟩
  | .hbm, ⟨10, _⟩ => ⟨S2x896x7168, .bf16⟩
  | .local _ .vmem, ⟨0, _⟩ => ⟨S1x896x8x128, .fp8e4m3⟩
  | .local _ .vmem, ⟨1, _⟩ => ⟨S1x896x8x128, .fp8e4m3⟩
  | .local _ .vmem, ⟨2, _⟩ => ⟨S1x896x8x128, .fp8e4m3⟩
  | .local _ .vmem, ⟨3, _⟩ => ⟨S1x896x8x128, .fp8e4m3⟩
  | .local _ .vmem, ⟨4, _⟩ => ⟨S1x896x8x128, .fp8e4m3⟩
  | .local _ .vmem, ⟨5, _⟩ => ⟨S1x896x8x128, .fp8e4m3⟩
  | .local _ .vmem, ⟨6, _⟩ => ⟨S1x56x160, .i32⟩
  | .local _ .vmem, ⟨7, _⟩ => ⟨S1x56x160, .i32⟩
  | .local _ .vmem, ⟨8, _⟩ => ⟨S2x56, .i32⟩
  | .local _ .vmem, ⟨9, _⟩ => ⟨S1x56x240, .i32⟩
  | .local _ .vmem, ⟨10, _⟩ => ⟨S1x56x240, .i32⟩
  | .local _ .vmem, ⟨11, _⟩ => ⟨S2x56, .i32⟩
  | .local _ .vmem, ⟨12, _⟩ => ⟨S1x896x896, .bf16⟩
  | .local _ .vmem, ⟨13, _⟩ => ⟨S1x896x896, .bf16⟩
  | .local _ .vmem, ⟨14, _⟩ => ⟨S16x896x128, .fp8e4m3⟩
  | .local _ .vmem, ⟨15, _⟩ => ⟨S8x896x128, .fp8e4m3⟩
  | .local _ .vmem, ⟨16, _⟩ => ⟨S8x128x896, .bf16⟩
  | .local _ .vmem, ⟨17, _⟩ => ⟨S8x896x128, .fp8e4m3⟩
  | .local _ .vmem, ⟨18, _⟩ => ⟨S256x256, .fp8e5m2⟩
  | .local _ .vmem, ⟨19, _⟩ => ⟨S8x56x128, .i32⟩
  | .local _ .vmem, ⟨20, _⟩ => ⟨S7x32x128, .i32⟩
  | .local _ .vmem, ⟨21, _⟩ => ⟨S128x128, .i32⟩
  | .local _ .vmem, ⟨22, _⟩ => ⟨S2x7x32x128, .i32⟩
  | .local _ .vmem, ⟨23, _⟩ => ⟨S2x7x32x128, .i32⟩
  | .local _ .vmem, ⟨24, _⟩ => ⟨S2x896x256, .f32⟩
  | .local _ .smem, ⟨0, _⟩ => ⟨S2x56, .f32⟩
  | .local _ .smem, ⟨1, _⟩ => ⟨S2x8, .f32⟩
  | .local _ .smem, ⟨2, _⟩ => ⟨S2x8, .f32⟩
  | _, _ => ⟨S2x896x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v8889 : Index := Scalar.indexCast arg0
  let c0_6143 : Index := 0#32
  ![v8889.toNat, 0]
@[reducible] def k0_t1_loop : Scf.Loop 32 :=
  let c0_i32_6165 : BitVec 32 := 0#32
  let c128_i32_6166 : BitVec 32 := 128#32
  let v8936 : BitVec 32 := Scalar.addi c0_i32_6165 c128_i32_6166
  let c1_i32_6167 : BitVec 32 := 1#32
  ⟨c0_i32_6165, v8936, c1_i32_6167⟩
@[reducible] def k0_t2_loop : Scf.Loop 32 :=
  let c0_i32_6169 : BitVec 32 := 0#32
  let c112_i32 : BitVec 32 := 112#32
  let v8938 : BitVec 32 := Scalar.addi c0_i32_6169 c112_i32
  let c1_i32_6170 : BitVec 32 := 1#32
  ⟨c0_i32_6169, v8938, c1_i32_6170⟩
@[reducible] def k0_t3_loop : Scf.Loop 32 :=
  let c0_i32_6274 : BitVec 32 := 0#32
  let c128_i32_6275 : BitVec 32 := 128#32
  let v9151 : BitVec 32 := Scalar.addi c0_i32_6274 c128_i32_6275
  let c1_i32_6276 : BitVec 32 := 1#32
  ⟨c0_i32_6274, v9151, c1_i32_6276⟩
@[reducible] def k0_t4_loop : Scf.Loop 32 :=
  let c0_i32_6278 : BitVec 32 := 0#32
  let c32_i32_6279 : BitVec 32 := 32#32
  let v9153 : BitVec 32 := Scalar.addi c0_i32_6278 c32_i32_6279
  let c1_i32_6280 : BitVec 32 := 1#32
  ⟨c0_i32_6278, v9153, c1_i32_6280⟩
def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_off2 (i : grid0.Coords) (c0_i32_5984 : BitVec 32) : Fin 3 → Nat :=
  let c8_i32 : BitVec 32 := 8#32
  let arg1 : BitVec 32 := BitVec.ofNat 32 (i 1).val
  let c2_i32_5979 : BitVec 32 := 2#32
  let v8740 : BitVec 32 := Scalar.remsi arg1 c2_i32_5979
  let v8741 : BitVec 32 := Scalar.muli c8_i32 v8740
  let v8744 : BitVec 32 := Scalar.addi v8741 c0_i32_5984
  let v8745 : Index := Scalar.indexCast v8744
  let c0_5985 : Index := 0#32
  let c0_5986 : Index := 0#32
  ![v8745.toNat, 0, 0]
def k0_off3 (i : grid0.Coords) (c0_i32_3 : BitVec 32) (c0_i32_4 : BitVec 32) : Fin 3 → Nat :=
  let c0 : Index := 0#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v14 : Index := Scalar.indexCast v8
  let c0_7 : Index := 0#32
  ![0, v14.toNat, 0]
def k0_off3_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off4 (i : grid0.Coords) (c0_i32_3 : BitVec 32) (c0_i32_4 : BitVec 32) : Fin 3 → Nat :=
  let c1 : Index := 1#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v19 : Index := Scalar.indexCast v8
  let c0_8 : Index := 0#32
  ![1, v19.toNat, 0]
def k0_off4_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off5 (i : grid0.Coords) (c0_i32_3 : BitVec 32) (c0_i32_4 : BitVec 32) : Fin 3 → Nat :=
  let c2 : Index := 2#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v34 : Index := Scalar.indexCast v8
  let c0_15 : Index := 0#32
  ![2, v34.toNat, 0]
def k0_off5_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off6 (i : grid0.Coords) (c0_i32_3 : BitVec 32) (c0_i32_4 : BitVec 32) : Fin 3 → Nat :=
  let c3 : Index := 3#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v49 : Index := Scalar.indexCast v8
  let c0_23 : Index := 0#32
  ![3, v49.toNat, 0]
def k0_off6_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off7 (i : grid0.Coords) (c0_i32_3 : BitVec 32) (c0_i32_4 : BitVec 32) : Fin 3 → Nat :=
  let c4 : Index := 4#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v64 : Index := Scalar.indexCast v8
  let c0_31 : Index := 0#32
  ![4, v64.toNat, 0]
def k0_off7_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off8 (i : grid0.Coords) (c0_i32_3 : BitVec 32) (c0_i32_4 : BitVec 32) : Fin 3 → Nat :=
  let c5 : Index := 5#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v79 : Index := Scalar.indexCast v8
  let c0_39 : Index := 0#32
  ![5, v79.toNat, 0]
def k0_off8_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off9 (i : grid0.Coords) (c0_i32_3 : BitVec 32) (c0_i32_4 : BitVec 32) : Fin 3 → Nat :=
  let c6 : Index := 6#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v94 : Index := Scalar.indexCast v8
  let c0_47 : Index := 0#32
  ![6, v94.toNat, 0]
def k0_off9_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off10 (i : grid0.Coords) (c0_i32_3 : BitVec 32) (c0_i32_4 : BitVec 32) : Fin 3 → Nat :=
  let c7 : Index := 7#32
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v109 : Index := Scalar.indexCast v8
  let c0_55 : Index := 0#32
  ![7, v109.toNat, 0]
def k0_off10_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off11 (i : grid0.Coords) (c0_i32_3 : BitVec 32) (c0_i32_4 : BitVec 32) : Fin 2 → Nat :=
  let arg0 : BitVec 32 := BitVec.ofNat 32 (i 0).val
  let v1714 : Index := Scalar.indexCast arg0
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let v1715 : Index := Scalar.indexCast v8
  ![v1714.toNat, v1715.toNat]
def k0_off11_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off12 (i : grid0.Coords) : Fin 2 → Nat :=
  let arg0 : BitVec 32 := BitVec.ofNat 32 (i 0).val
  let v1717 : Index := Scalar.indexCast arg0
  let arg1 : BitVec 32 := BitVec.ofNat 32 (i 1).val
  let v1718 : Index := Scalar.indexCast arg1
  ![v1717.toNat, v1718.toNat]
def k0_off13 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32 : BitVec 32 := 16#32
  let v1738 : BitVec 32 := Scalar.remsi v8 c16_i32
  let v1739 : Index := Scalar.indexCast v1738
  let c0_1025 : Index := 0#32
  let c0_1026 : Index := 0#32
  ![v1739.toNat, 0, 0]
def k0_off13_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off14 (i : grid0.Coords) : Fin 3 → Nat :=
  let arg1 : BitVec 32 := BitVec.ofNat 32 (i 1).val
  let v1762 : Index := Scalar.indexCast arg1
  let c0_1046 : Index := 0#32
  let c0_1047 : Index := 0#32
  ![v1762.toNat, 0, 0]
def k0_off15 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32_1056 : BitVec 32 := 16#32
  let v1774 : BitVec 32 := Scalar.remsi v8 c16_i32_1056
  let v1775 : Index := Scalar.indexCast v1774
  let c128 : Index := 128#32
  let c0_1057 : Index := 0#32
  ![v1775.toNat, 128, 0]
def k0_off15_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off16 (i : grid0.Coords) : Fin 3 → Nat :=
  let arg1 : BitVec 32 := BitVec.ofNat 32 (i 1).val
  let v1812 : Index := Scalar.indexCast arg1
  let c0_1093 : Index := 0#32
  let c0_1094 : Index := 0#32
  ![v1812.toNat, 0, 0]
def k0_off17 (i : grid0.Coords) : Fin 3 → Nat :=
  let arg1 : BitVec 32 := BitVec.ofNat 32 (i 1).val
  let v1833 : Index := Scalar.indexCast arg1
  let c0_1107 : Index := 0#32
  let c0_1108 : Index := 0#32
  ![v1833.toNat, 0, 0]
def k0_off18 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32_1116 : BitVec 32 := 16#32
  let v1853 : BitVec 32 := Scalar.remsi v8 c16_i32_1116
  let v1854 : Index := Scalar.indexCast v1853
  let c256 : Index := 256#32
  let c0_1117 : Index := 0#32
  ![v1854.toNat, 256, 0]
def k0_off18_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off19 (i : grid0.Coords) : Fin 3 → Nat :=
  let arg1 : BitVec 32 := BitVec.ofNat 32 (i 1).val
  let v1904 : Index := Scalar.indexCast arg1
  let c0_1169 : Index := 0#32
  let c0_1170 : Index := 0#32
  ![v1904.toNat, 0, 0]
def k0_off20 (i : grid0.Coords) : Fin 3 → Nat :=
  let arg1 : BitVec 32 := BitVec.ofNat 32 (i 1).val
  let v1925 : Index := Scalar.indexCast arg1
  let c0_1183 : Index := 0#32
  let c0_1184 : Index := 0#32
  ![v1925.toNat, 0, 0]
def k0_off21 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32_1192 : BitVec 32 := 16#32
  let v1945 : BitVec 32 := Scalar.remsi v8 c16_i32_1192
  let v1946 : Index := Scalar.indexCast v1945
  let c384 : Index := 384#32
  let c0_1193 : Index := 0#32
  ![v1946.toNat, 384, 0]
def k0_off21_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off22 (i : grid0.Coords) : Fin 3 → Nat :=
  let arg1 : BitVec 32 := BitVec.ofNat 32 (i 1).val
  let v2009 : Index := Scalar.indexCast arg1
  let c0_1261 : Index := 0#32
  let c0_1262 : Index := 0#32
  ![v2009.toNat, 0, 0]
def k0_off23 (i : grid0.Coords) : Fin 3 → Nat :=
  let arg1 : BitVec 32 := BitVec.ofNat 32 (i 1).val
  let v2030 : Index := Scalar.indexCast arg1
  let c0_1275 : Index := 0#32
  let c0_1276 : Index := 0#32
  ![v2030.toNat, 0, 0]
def k0_off24 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32_1284 : BitVec 32 := 16#32
  let v2050 : BitVec 32 := Scalar.remsi v8 c16_i32_1284
  let v2051 : Index := Scalar.indexCast v2050
  let c512 : Index := 512#32
  let c0_1285 : Index := 0#32
  ![v2051.toNat, 512, 0]
def k0_off24_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off25 (i : grid0.Coords) : Fin 3 → Nat :=
  let arg1 : BitVec 32 := BitVec.ofNat 32 (i 1).val
  let v2127 : Index := Scalar.indexCast arg1
  let c0_1369 : Index := 0#32
  let c0_1370 : Index := 0#32
  ![v2127.toNat, 0, 0]
def k0_off26 (i : grid0.Coords) : Fin 3 → Nat :=
  let arg1 : BitVec 32 := BitVec.ofNat 32 (i 1).val
  let v2148 : Index := Scalar.indexCast arg1
  let c0_1383 : Index := 0#32
  let c0_1384 : Index := 0#32
  ![v2148.toNat, 0, 0]
def k0_off27 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32_1392 : BitVec 32 := 16#32
  let v2168 : BitVec 32 := Scalar.remsi v8 c16_i32_1392
  let v2169 : Index := Scalar.indexCast v2168
  let c640 : Index := 640#32
  let c0_1393 : Index := 0#32
  ![v2169.toNat, 640, 0]
def k0_off27_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off28 (i : grid0.Coords) : Fin 3 → Nat :=
  let arg1 : BitVec 32 := BitVec.ofNat 32 (i 1).val
  let v2258 : Index := Scalar.indexCast arg1
  let c0_1493 : Index := 0#32
  let c0_1494 : Index := 0#32
  ![v2258.toNat, 0, 0]
def k0_off29 (i : grid0.Coords) : Fin 3 → Nat :=
  let arg1 : BitVec 32 := BitVec.ofNat 32 (i 1).val
  let v2279 : Index := Scalar.indexCast arg1
  let c0_1507 : Index := 0#32
  let c0_1508 : Index := 0#32
  ![v2279.toNat, 0, 0]
def k0_off30 (i : grid0.Coords) (c0_i32_3 : BitVec 32) (c0_i32_4 : BitVec 32) : Fin 3 → Nat :=
  let c7_i32_2 : BitVec 32 := 7#32
  let arg1 : BitVec 32 := BitVec.ofNat 32 (i 1).val
  let v6 : BitVec 32 := Scalar.muli c7_i32_2 arg1
  let v7 : BitVec 32 := Scalar.addi v6 c0_i32_3
  let v8 : BitVec 32 := Scalar.addi v7 c0_i32_4
  let c16_i32_1516 : BitVec 32 := 16#32
  let v2299 : BitVec 32 := Scalar.remsi v8 c16_i32_1516
  let v2300 : Index := Scalar.indexCast v2299
  let c768 : Index := 768#32
  let c0_1517 : Index := 0#32
  ![v2300.toNat, 768, 0]
def k0_off30_at (r : Fin 7) : BitVec 32 × BitVec 32 :=
  if r.val < 3 then
    if r.val < 1 then
      (0#32, 0#32)
    else
      if r.val < 2 then
        (0#32, 1#32)
      else
        (2#32, 0#32)
  else
    if r.val < 5 then
      if r.val < 4 then
        (2#32, 1#32)
      else
        (4#32, 0#32)
    else
      if r.val < 6 then
        (4#32, 1#32)
      else
        (6#32, 0#32)
def k0_off31 (i : grid0.Coords) : Fin 3 → Nat :=
  let arg1 : BitVec 32 := BitVec.ofNat 32 (i 1).val
  let v2402 : Index := Scalar.indexCast arg1
  let c0_1633 : Index := 0#32
  let c0_1634 : Index := 0#32
  ![v2402.toNat, 0, 0]
def k0_off32 (i : grid0.Coords) : Fin 3 → Nat :=
  let arg1 : BitVec 32 := BitVec.ofNat 32 (i 1).val
  let v2423 : Index := Scalar.indexCast arg1
  let c0_1647 : Index := 0#32
  let c0_1648 : Index := 0#32
  ![v2423.toNat, 0, 0]
def k0_off33 (i : grid0.Coords) : Fin 3 → Nat :=
  let arg1 : BitVec 32 := BitVec.ofNat 32 (i 1).val
  let v2452 : Index := Scalar.indexCast arg1
  let c0_1660 : Index := 0#32
  let c0_1661 : Index := 0#32
  ![v2452.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x896x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x896x8x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x56x160 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x56 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x56x240 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2x56 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x896x896 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "masked" => some ⊥
  | "score_scale" => some (((Real.log 2)⁻¹ * (Real.sqrt 128)⁻¹ : ℝ) : EReal)
  | _ => none
-- ==== ReferenceIdeal.lean ====
abbrev S2x896x56x128 : Shape := ⟨4, ![2, 896, 56, 128]⟩
abbrev S2x56 : Shape := ⟨2, ![2, 56]⟩
abbrev S2x896x8x128 : Shape := ⟨4, ![2, 896, 8, 128]⟩
abbrev S2x8 : Shape := ⟨2, ![2, 8]⟩
abbrev S2x56x160 : Shape := ⟨3, ![2, 56, 160]⟩
abbrev S2x56x240 : Shape := ⟨3, ![2, 56, 240]⟩
abbrev S896 : Shape := ⟨1, ![896]⟩
abbrev S896x1 : Shape := ⟨2, ![896, 1]⟩
abbrev S1x896 : Shape := ⟨2, ![1, 896]⟩
abbrev S896x896 : Shape := ⟨2, ![896, 896]⟩
abbrev S160 : Shape := ⟨1, ![160]⟩
abbrev S2x56x1 : Shape := ⟨3, ![2, 56, 1]⟩
abbrev S1x1x160 : Shape := ⟨3, ![1, 1, 160]⟩
abbrev S240 : Shape := ⟨1, ![240]⟩
abbrev S1x1x240 : Shape := ⟨3, ![1, 1, 240]⟩
abbrev S2x56x160x1 : Shape := ⟨4, ![2, 56, 160, 1]⟩
abbrev S1x1x1x896 : Shape := ⟨4, ![1, 1, 1, 896]⟩
abbrev S2x56x160x896 : Shape := ⟨4, ![2, 56, 160, 896]⟩
abbrev S_ : Shape := ⟨0, ![]⟩
abbrev S2x56x896 : Shape := ⟨3, ![2, 56, 896]⟩
abbrev S2x56x240x1x1 : Shape := ⟨5, ![2, 56, 240, 1, 1]⟩
abbrev S1x1x1x896x896 : Shape := ⟨5, ![1, 1, 1, 896, 896]⟩
abbrev S2x56x240x896x896 : Shape := ⟨5, ![2, 56, 240, 896, 896]⟩
abbrev S2x56x896x896 : Shape := ⟨4, ![2, 56, 896, 896]⟩
abbrev S2x56x1x896 : Shape := ⟨4, ![2, 56, 1, 896]⟩
abbrev S1x1x896x896 : Shape := ⟨4, ![1, 1, 896, 896]⟩
abbrev S2x896x8x7x128 : Shape := ⟨5, ![2, 896, 8, 7, 128]⟩
abbrev S2x8x896x896x7 : Shape := ⟨5, ![2, 8, 896, 896, 7]⟩
abbrev S2x8x7x896x896 : Shape := ⟨5, ![2, 8, 7, 896, 896]⟩
abbrev S2x8x7 : Shape := ⟨3, ![2, 8, 7]⟩
abbrev S2x8x1 : Shape := ⟨3, ![2, 8, 1]⟩
abbrev S2x8x7x1x1 : Shape := ⟨5, ![2, 8, 7, 1, 1]⟩
abbrev S2x8x7x896 : Shape := ⟨4, ![2, 8, 7, 896]⟩
abbrev S2x8x7x896x1 : Shape := ⟨5, ![2, 8, 7, 896, 1]⟩
abbrev S2x8x128x7x896 : Shape := ⟨5, ![2, 8, 128, 7, 896]⟩
abbrev S2x1x8x1x1 : Shape := ⟨5, ![2, 1, 8, 1, 1]⟩
abbrev S2x896x7168 : Shape := ⟨3, ![2, 896, 7168]⟩

abbrev nBuf : Space → Nat
  | .hbm => 106
  | .vmem => 6
  | .smem => 0
  | _ => 0

abbrev bufTy : (tb : Table) → Fin (tcTables nBuf tb) → BufTy
  | .hbm, ⟨0, _⟩ => ⟨S2x896x56x128, .fp8e4m3⟩
  | .hbm, ⟨1, _⟩ => ⟨S2x56, .f32⟩
  | .hbm, ⟨2, _⟩ => ⟨S2x896x8x128, .fp8e4m3⟩
  | .hbm, ⟨3, _⟩ => ⟨S2x8, .f32⟩
  | .hbm, ⟨4, _⟩ => ⟨S2x896x8x128, .fp8e4m3⟩
  | .hbm, ⟨5, _⟩ => ⟨S2x8, .f32⟩
  | .hbm, ⟨6, _⟩ => ⟨S2x56x160, .i32⟩
  | .hbm, ⟨7, _⟩ => ⟨S2x56, .i32⟩
  | .hbm, ⟨8, _⟩ => ⟨S2x56x240, .i32⟩
  | .hbm, ⟨9, _⟩ => ⟨S2x56, .i32⟩
  | .hbm, ⟨10, _⟩ => ⟨S2x896x56x128, .bf16⟩
  | .hbm, ⟨11, _⟩ => ⟨S2x896x8x128, .bf16⟩
  | .hbm, ⟨12, _⟩ => ⟨S2x896x8x128, .bf16⟩
  | .hbm, ⟨13, _⟩ => ⟨S896, .i32⟩
  | .hbm, ⟨14, _⟩ => ⟨S896x1, .i32⟩
  | .hbm, ⟨15, _⟩ => ⟨S1x896, .i32⟩
  | .hbm, ⟨16, _⟩ => ⟨S896x896, .i32⟩
  | .hbm, ⟨17, _⟩ => ⟨S896x896, .i32⟩
  | .hbm, ⟨18, _⟩ => ⟨S896x896, .i32⟩
  | .hbm, ⟨19, _⟩ => ⟨S160, .i32⟩
  | .hbm, ⟨20, _⟩ => ⟨S2x56x1, .i32⟩
  | .hbm, ⟨21, _⟩ => ⟨S1x1x160, .i32⟩
  | .hbm, ⟨22, _⟩ => ⟨S2x56x160, .i32⟩
  | .hbm, ⟨23, _⟩ => ⟨S2x56x160, .i32⟩
  | .hbm, ⟨24, _⟩ => ⟨S2x56x160, .i1⟩
  | .hbm, ⟨25, _⟩ => ⟨S240, .i32⟩
  | .hbm, ⟨26, _⟩ => ⟨S2x56x1, .i32⟩
  | .hbm, ⟨27, _⟩ => ⟨S1x1x240, .i32⟩
  | .hbm, ⟨28, _⟩ => ⟨S2x56x240, .i32⟩
  | .hbm, ⟨29, _⟩ => ⟨S2x56x240, .i32⟩
  | .hbm, ⟨30, _⟩ => ⟨S2x56x240, .i1⟩
  | .hbm, ⟨31, _⟩ => ⟨S2x56x160x1, .i32⟩
  | .hbm, ⟨32, _⟩ => ⟨S1x1x1x896, .i32⟩
  | .hbm, ⟨33, _⟩ => ⟨S2x56x160x896, .i32⟩
  | .hbm, ⟨34, _⟩ => ⟨S2x56x160x896, .i32⟩
  | .hbm, ⟨35, _⟩ => ⟨S2x56x160x896, .i1⟩
  | .hbm, ⟨36, _⟩ => ⟨S2x56x160x1, .i1⟩
  | .hbm, ⟨37, _⟩ => ⟨S2x56x160x896, .i1⟩
  | .hbm, ⟨38, _⟩ => ⟨S2x56x160x896, .i1⟩
  | .hbm, ⟨39, _⟩ => ⟨S_, .i1⟩
  | .hbm, ⟨40, _⟩ => ⟨S2x56x896, .i1⟩
  | .hbm, ⟨41, _⟩ => ⟨S2x56x240x1x1, .i32⟩
  | .hbm, ⟨42, _⟩ => ⟨S1x1x1x896x896, .i32⟩
  | .hbm, ⟨43, _⟩ => ⟨S2x56x240x896x896, .i32⟩
  | .hbm, ⟨44, _⟩ => ⟨S2x56x240x896x896, .i32⟩
  | .hbm, ⟨45, _⟩ => ⟨S2x56x240x896x896, .i1⟩
  | .hbm, ⟨46, _⟩ => ⟨S2x56x240x1x1, .i1⟩
  | .hbm, ⟨47, _⟩ => ⟨S2x56x240x896x896, .i1⟩
  | .hbm, ⟨48, _⟩ => ⟨S2x56x240x896x896, .i1⟩
  | .hbm, ⟨49, _⟩ => ⟨S_, .i1⟩
  | .hbm, ⟨50, _⟩ => ⟨S2x56x896x896, .i1⟩
  | .hbm, ⟨51, _⟩ => ⟨S_, .i32⟩
  | .hbm, ⟨52, _⟩ => ⟨S896x896, .i32⟩
  | .hbm, ⟨53, _⟩ => ⟨S896x896, .i1⟩
  | .hbm, ⟨54, _⟩ => ⟨S2x56x1x896, .i1⟩
  | .hbm, ⟨55, _⟩ => ⟨S2x56x896x896, .i1⟩
  | .hbm, ⟨56, _⟩ => ⟨S2x56x896x896, .i1⟩
  | .hbm, ⟨57, _⟩ => ⟨S1x1x896x896, .i1⟩
  | .hbm, ⟨58, _⟩ => ⟨S2x56x896x896, .i1⟩
  | .hbm, ⟨59, _⟩ => ⟨S2x56x896x896, .i1⟩
  | .hbm, ⟨60, _⟩ => ⟨S2x896x8x7x128, .bf16⟩
  | .hbm, ⟨61, _⟩ => ⟨S2x8x896x896x7, .f32⟩
  | .hbm, ⟨62, _⟩ => ⟨S2x8x7x896x896, .f32⟩
  | .hbm, ⟨63, _⟩ => ⟨S2x8x7, .f32⟩
  | .hbm, ⟨64, _⟩ => ⟨S2x8x1, .f32⟩
  | .hbm, ⟨65, _⟩ => ⟨S2x8x7, .f32⟩
  | .hbm, ⟨66, _⟩ => ⟨S2x8x7, .f32⟩
  | .hbm, ⟨67, _⟩ => ⟨S_, .f32⟩
  | .hbm, ⟨68, _⟩ => ⟨S_, .f32⟩
  | .hbm, ⟨69, _⟩ => ⟨S2x8x7, .f32⟩
  | .hbm, ⟨70, _⟩ => ⟨S2x8x7, .f32⟩
  | .hbm, ⟨71, _⟩ => ⟨S2x8x7x1x1, .f32⟩
  | .hbm, ⟨72, _⟩ => ⟨S2x8x7x896x896, .f32⟩
  | .hbm, ⟨73, _⟩ => ⟨S2x8x7x896x896, .f32⟩
  | .hbm, ⟨74, _⟩ => ⟨S2x8x7x896x896, .i1⟩
  | .hbm, ⟨75, _⟩ => ⟨S_, .f32⟩
  | .hbm, ⟨76, _⟩ => ⟨S_, .f32⟩
  | .hbm, ⟨77, _⟩ => ⟨S2x8x7x896x896, .f32⟩
  | .hbm, ⟨78, _⟩ => ⟨S2x8x7x896x896, .f32⟩
  | .hbm, ⟨79, _⟩ => ⟨S_, .f32⟩
  | .hbm, ⟨80, _⟩ => ⟨S2x8x7x896, .f32⟩
  | .hbm, ⟨81, _⟩ => ⟨S2x8x7x896x1, .f32⟩
  | .hbm, ⟨82, _⟩ => ⟨S2x8x7x896x896, .f32⟩
  | .hbm, ⟨83, _⟩ => ⟨S2x8x7x896x896, .f32⟩
  | .hbm, ⟨84, _⟩ => ⟨S2x8x7x896x896, .f32⟩
  | .hbm, ⟨85, _⟩ => ⟨S_, .f32⟩
  | .hbm, ⟨86, _⟩ => ⟨S2x8x7x896, .f32⟩
  | .hbm, ⟨87, _⟩ => ⟨S2x8x7x896x1, .f32⟩
  | .hbm, ⟨88, _⟩ => ⟨S_, .f32⟩
  | .hbm, ⟨89, _⟩ => ⟨S2x8x7x896x1, .f32⟩
  | .hbm, ⟨90, _⟩ => ⟨S2x8x7x896x1, .i1⟩
  | .hbm, ⟨91, _⟩ => ⟨S2x8x7x896x896, .f32⟩
  | .hbm, ⟨92, _⟩ => ⟨S2x8x7x896x896, .f32⟩
  | .hbm, ⟨93, _⟩ => ⟨S_, .f32⟩
  | .hbm, ⟨94, _⟩ => ⟨S_, .f32⟩
  | .hbm, ⟨95, _⟩ => ⟨S2x8x7x896x896, .i1⟩
  | .hbm, ⟨96, _⟩ => ⟨S2x8x7x896x896, .f32⟩
  | .hbm, ⟨97, _⟩ => ⟨S2x8x7x896x896, .f32⟩
  | .hbm, ⟨98, _⟩ => ⟨S2x8x7x896x896, .bf16⟩
  | .hbm, ⟨99, _⟩ => ⟨S2x8x128x7x896, .f32⟩
  | .hbm, ⟨100, _⟩ => ⟨S2x896x8x7x128, .f32⟩
  | .hbm, ⟨101, _⟩ => ⟨S2x1x8x1x1, .f32⟩
  | .hbm, ⟨102, _⟩ => ⟨S2x896x8x7x128, .f32⟩
  | .hbm, ⟨103, _⟩ => ⟨S2x896x8x7x128, .f32⟩
  | .hbm, ⟨104, _⟩ => ⟨S2x896x7168, .f32⟩
  | .hbm, ⟨105, _⟩ => ⟨S2x896x7168, .bf16⟩
  | .local _ .vmem, ⟨0, _⟩ => ⟨S2x896x56x128, .fp8e4m3⟩
  | .local _ .vmem, ⟨1, _⟩ => ⟨S2x896x8x128, .fp8e4m3⟩
  | .local _ .vmem, ⟨2, _⟩ => ⟨S2x896x8x128, .fp8e4m3⟩
  | .local _ .vmem, ⟨3, _⟩ => ⟨S2x896x56x128, .bf16⟩
  | .local _ .vmem, ⟨4, _⟩ => ⟨S2x896x8x128, .bf16⟩
  | .local _ .vmem, ⟨5, _⟩ => ⟨S2x896x8x128, .bf16⟩
  | _, _ => ⟨S2x896x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_0 : Ref sig .tc := ⟨.hbm, 49, rfl⟩
abbrev main_v36 : Ref sig .tc := ⟨.hbm, 50, rfl⟩
abbrev main_c_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_2 : Ref sig .tc := ⟨.hbm, 75, rfl⟩
abbrev main_call0_v0 : Ref sig .tc := ⟨.hbm, 76, rfl⟩
abbrev main_call0_v1 : Ref sig .tc := ⟨.hbm, 77, rfl⟩
abbrev main_v59 : Ref sig .tc := ⟨.hbm, 78, rfl⟩
abbrev main_cst_3 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_6 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x896x56x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x56x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
module

public import proofs.«01_k».proof.Proof.Gen.Kernel.Frame
public import proofs.«01_k».proof.Proof.Gen.Kernel.Skeleton
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The elements a staged block's memref covers, held at `f`. -/
abbrev ptv (c : Dev nD) {sp : Space} {S : Shape} {e : EltTy} (M : Memref sig .tc sp S e) (f : Bf (F := F) c M) : sProp 𝕄 :=
  M.view.loc (c : Thread nD τ) ↦[M.view.set]{fullShare} f

/-- The body at one grid point, from any contents of the twenty-two buffers it addresses: it runs to its return, the ten
    staged operands as they were, the result's block and the scratch at some contents. -/
theorem bodyRun (c : Dev nD) (i : grid0.Coords)
    (M2 : Memref sig .tc .smem S2x56 .f32) (h2 : M2.IsWhole)
    (M3 : Memref sig .tc .smem S2x8 .f32) (h3 : M3.IsWhole)
    (M4 : Memref sig .tc .smem S2x8 .f32) (h4 : M4.IsWhole)
    (M5 : Memref sig .tc .vmem S1x896x8x128 .fp8e4m3) (h5 : M5.IsWhole)
    (M6 : Memref sig .tc .vmem S1x896x8x128 .fp8e4m3) (h6 : M6.IsWhole)
    (M7 : Memref sig .tc .vmem S1x896x8x128 .fp8e4m3) (h7 : M7.IsWhole)
    (M8 : Memref sig .tc .vmem S1x56x160 .i32) (h8 : M8.IsWhole)
    (M9 : Memref sig .tc .vmem S2x56 .i32) (h9 : M9.IsWhole)
    (M10 : Memref sig .tc .vmem S1x56x240 .i32) (h10 : M10.IsWhole)
    (M11 : Memref sig .tc .vmem S2x56 .i32) (h11 : M11.IsWhole)
    (M12 : Memref sig .tc .vmem S1x896x896 .bf16) (h12 : M12.IsWhole)
    (M13 : Memref sig .tc .vmem S16x896x128 .fp8e4m3) (h13 : M13.IsWhole)
    (M14 : Memref sig .tc .vmem S8x896x128 .fp8e4m3) (h14 : M14.IsWhole)
    (M15 : Memref sig .tc .vmem S8x128x896 .bf16) (h15 : M15.IsWhole)
    (M16 : Memref sig .tc .vmem S8x896x128 .fp8e4m3) (h16 : M16.IsWhole)
    (M17 : Memref sig .tc .vmem S256x256 .fp8e5m2) (h17 : M17.IsWhole)
    (M18 : Memref sig .tc .vmem S8x56x128 .i32) (h18 : M18.IsWhole)
    (M19 : Memref sig .tc .vmem S7x32x128 .i32) (h19 : M19.IsWhole)
    (M20 : Memref sig .tc .vmem S128x128 .i32) (h20 : M20.IsWhole)
    (M21 : Memref sig .tc .vmem S2x7x32x128 .i32) (h21 : M21.IsWhole)
    (M22 : Memref sig .tc .vmem S2x7x32x128 .i32) (h22 : M22.IsWhole)
    (M23 : Memref sig .tc .vmem S2x896x256 .f32) (h23 : M23.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) (E : Set ℕ) (Q : PUnit → sProp 𝕄) :
    iprop(ptv c M2 f2 ∗ ptv c M3 f3 ∗ ptv c M4 f4 ∗ ptv c M5 f5 ∗ ptv c M6 f6 ∗ ptv c M7 f7 ∗ ptv c M8 f8 ∗ ptv c M9 f9 ∗ ptv c M10 f10 ∗ ptv c M11 f11 ∗ ptv c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23
      ∗ (iprop(ptv c M2 f2 ∗ ptv c M3 f3 ∗ ptv c M4 f4 ∗ ptv c M5 f5 ∗ ptv c M6 f6 ∗ ptv c M7 f7 ∗ ptv c M8 f8 ∗ ptv c M9 f9 ∗ ptv c M10 f10 ∗ ptv c M11 f11 ∗ (∃ f, ptv c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f) ∗ (∃ f, pt c M23 f)) -∗ Q ⟨⟩))
    ⊢ wp frame (wpE (defs₀ (F := F)) Variants.none c none) E (cc0_vslash_fp8 i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) Q := by
  iintro ⟨H2, H3, H4, H5, H6, H7, H8, H9, H10, H11, H12, H13, H14, H15, H16, H17, H18, H19, H20, H21, H22, H23, Hk⟩
  simp only [cc0_vslash_fp8_eq_skeleton]; unfold cc0_vslash_fp8_skel
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

end Cert.Kernel.Hand

end
-- ==== Proof.KernelFrame.lean ====
module

public import proofs.«01_k».proof.Proof.Gen.Kernel.Frame
public import proofs.«01_k».proof.Proof.KernelBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands the body is handed -/

abbrev ms0_0 (t : Fin cfg0.N) : Memref sig .tc .smem S2x56 .f32 := win0_0.stage (cfg0.slots t 0)
abbrev ms0_1 (t : Fin cfg0.N) : Memref sig .tc .smem S2x8 .f32 := win0_1.stage (cfg0.slots t 1)
abbrev ms0_2 (t : Fin cfg0.N) : Memref sig .tc .smem S2x8 .f32 := win0_2.stage (cfg0.slots t 2)
abbrev ms0_3 (t : Fin cfg0.N) : Memref sig .tc .vmem S1x896x8x128 .fp8e4m3 := win0_3.stage (cfg0.slots t 3)
abbrev ms0_4 (t : Fin cfg0.N) : Memref sig .tc .vmem S1x896x8x128 .fp8e4m3 := win0_4.stage (cfg0.slots t 4)
abbrev ms0_5 (t : Fin cfg0.N) : Memref sig .tc .vmem S1x896x8x128 .fp8e4m3 := win0_5.stage (cfg0.slots t 5)
abbrev ms0_6 (t : Fin cfg0.N) : Memref sig .tc .vmem S1x56x160 .i32 := win0_6.stage (cfg0.slots t 6)
abbrev ms0_7 (t : Fin cfg0.N) : Memref sig .tc .vmem S2x56 .i32 := win0_7.stage (cfg0.slots t 7)
abbrev ms0_8 (t : Fin cfg0.N) : Memref sig .tc .vmem S1x56x240 .i32 := win0_8.stage (cfg0.slots t 8)
abbrev ms0_9 (t : Fin cfg0.N) : Memref sig .tc .vmem S2x56 .i32 := win0_9.stage (cfg0.slots t 9)
abbrev ms0_10 (t : Fin cfg0.N) : Memref sig .tc .vmem S1x896x896 .bf16 := win0_10.stage (cfg0.slots t 10)
abbrev scM0 : Memref sig .tc .vmem S16x896x128 .fp8e4m3 := Memref.whole cc0_scratch0
abbrev scM1 : Memref sig .tc .vmem S8x896x128 .fp8e4m3 := Memref.whole cc0_scratch1
abbrev scM2 : Memref sig .tc .vmem S8x128x896 .bf16 := Memref.whole cc0_scratch2
abbrev scM3 : Memref sig .tc .vmem S8x896x128 .fp8e4m3 := Memref.whole cc0_scratch3
abbrev scM4 : Memref sig .tc .vmem S256x256 .fp8e5m2 := Memref.whole cc0_scratch4
abbrev scM5 : Memref sig .tc .vmem S8x56x128 .i32 := Memref.whole cc0_scratch5
abbrev scM6 : Memref sig .tc .vmem S7x32x128 .i32 := Memref.whole cc0_scratch6
abbrev scM7 : Memref sig .tc .vmem S128x128 .i32 := Memref.whole cc0_scratch7
abbrev scM8 : Memref sig .tc .vmem S2x7x32x128 .i32 := Memref.whole cc0_scratch8
abbrev scM9 : Memref sig .tc .vmem S2x7x32x128 .i32 := Memref.whole cc0_scratch9
abbrev scM10 : Memref sig .tc .vmem S2x896x256 .f32 := Memref.whole cc0_scratch10

/-- The body's buffers between grid points: the eleven scratch buffers at some contents, the generator register at some state. -/
theorem PhiA0_eq (c : Dev nD) :
    (Pipeline.ΦA (Val := Elt F) (U := UR sig nD τ) spec0 c : sProp 𝕄)
      = iprop(iprop((∃ f, pt c scM0 f) ∗ (∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f)) ∗ (∃ r, prngReg c r)) := by
  unfold Pipeline.ΦA; rw [scopedRest0_eq]

/-! ## The proof data: every staged operand left as found, nothing said of the result's block -/

/-- What the body may leave in a window's buffer: an operand as it was, the result's block at anything. -/
def rafter (w : Fin cfg0.W) (Y X : (cfg0.win w).block.Idx → Elt F (cfg0.win w).elt) : Prop :=
  match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => True

def rdat (c : Dev nD) : RDat τ (Elt F) Unit ℕ (UR sig nD τ) ℕ cfg0 c where
  A w := V m c (Pipeline.arrRef spec0 w)
  after w _ Y X := rafter w Y X
  Φ _ := Pipeline.ΦA spec0 c
  q _ := fullShare
  owed _ := 0

theorem A_eq (c : Dev nD) (w : Fin cfg0.W) : (rdat m c).A w = V m c (Pipeline.arrRef spec0 w) := by dsimp only [rdat]

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X) ∗ (∃ X, ⌜(rdat m c).after 1 t (Y 1) X⌝ ∗ owns (c : Thread nD τ) (ms0_1 t) fullShare X) ∗ (∃ X, ⌜(rdat m c).after 2 t (Y 2) X⌝ ∗ owns (c : Thread nD τ) (ms0_2 t) fullShare X) ∗ (∃ X, ⌜(rdat m c).after 3 t (Y 3) X⌝ ∗ owns (c : Thread nD τ) (ms0_3 t) fullShare X) ∗ (∃ X, ⌜(rdat m c).after 4 t (Y 4) X⌝ ∗ owns (c : Thread nD τ) (ms0_4 t) fullShare X) ∗ (∃ X, ⌜(rdat m c).after 5 t (Y 5) X⌝ ∗ owns (c : Thread nD τ) (ms0_5 t) fullShare X) ∗ (∃ X, ⌜(rdat m c).after 6 t (Y 6) X⌝ ∗ owns (c : Thread nD τ) (ms0_6 t) fullShare X) ∗ (∃ X, ⌜(rdat m c).after 7 t (Y 7) X⌝ ∗ owns (c : Thread nD τ) (ms0_7 t) fullShare X) ∗ (∃ X, ⌜(rdat m c).after 8 t (Y 8) X⌝ ∗ owns (c : Thread nD τ) (ms0_8 t) fullShare X) ∗ (∃ X, ⌜(rdat m c).after 9 t (Y 9) X⌝ ∗ owns (c : Thread nD τ) (ms0_9 t) fullShare X) ∗ (∃ X, ⌜(rdat m c).after 10 t (Y 10) X⌝ ∗ owns (c : Thread nD τ) (ms0_10 t) fullShare X))

/-- The body at a point: its operands opened, the run, the operands closed. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA0_eq]
  unfold owns
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩⟩, Hg⟩, HO, ⟨%x0, %e0, H0⟩, ⟨%x1, %e1, H1⟩, ⟨%x2, %e2, H2⟩, ⟨%x3, %e3, H3⟩, ⟨%x4, %e4, H4⟩, ⟨%x5, %e5, H5⟩, ⟨%x6, %e6, H6⟩, ⟨%x7, %e7, H7⟩, ⟨%x8, %e8, H8⟩, ⟨%x9, %e9, H9⟩, ⟨%x10, %e10, H10⟩⟩
  iapply (bodyRun c (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ scM0 _ scM1 _ scM2 _ scM3 _ scM4 _ scM5 _ scM6 _ scM7 _ scM8 _ scM9 _ scM10 _ x0 x1 x2 x3 x4 x5 x6 x7 x8 x9 x10 s0 s1 s2 s3 s4 s5 s6 s7 s8 s9 s10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, H9, ⟨%x10', H10⟩, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HO]; · iexact HO
  isplitl [H0]
  · iexists (Y 0); isplitr
    · ipureintro; rfl
    iexists x0; isplitr
    · ipureintro; exact e0
    iexact H0
  isplitl [H1]
  · iexists (Y 1); isplitr
    · ipureintro; rfl
    iexists x1; isplitr
    · ipureintro; exact e1
    iexact H1
  isplitl [H2]
  · iexists (Y 2); isplitr
    · ipureintro; rfl
    iexists x2; isplitr
    · ipureintro; exact e2
    iexact H2
  isplitl [H3]
  · iexists (Y 3); isplitr
    · ipureintro; rfl
    iexists x3; isplitr
    · ipureintro; exact e3
    iexact H3
  isplitl [H4]
  · iexists (Y 4); isplitr
    · ipureintro; rfl
    iexists x4; isplitr
    · ipureintro; exact e4
    iexact H4
  isplitl [H5]
  · iexists (Y 5); isplitr
    · ipureintro; rfl
    iexists x5; isplitr
    · ipureintro; exact e5
    iexact H5
  isplitl [H6]
  · iexists (Y 6); isplitr
    · ipureintro; rfl
    iexists x6; isplitr
    · ipureintro; exact e6
    iexact H6
  isplitl [H7]
  · iexists (Y 7); isplitr
    · ipureintro; rfl
    iexists x7; isplitr
    · ipureintro; exact e7
    iexact H7
  isplitl [H8]
  · iexists (Y 8); isplitr
    · ipureintro; rfl
    iexists x8; isplitr
    · ipureintro; exact e8
    iexact H8
  isplitl [H9]
  · iexists (Y 9); isplitr
    · ipureintro; rfl
    iexists x9; isplitr
    · ipureintro; exact e9
    iexact H9
  iexists ((ms0_10 t).view.read (Elt F) x10'); isplitr
  · ipureintro; exact trivial
  iexists x10'; isplitr
  · ipureintro; rfl
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y _ => by
  rw [bigSep_W0, bigSep_W0, defs₀_row]
  exact triple_restated (sound_body m c t Y) rfl .rfl fun _ => .rfl

/-! ## The run and the frame -/

set_option backward.isDefEq.respectTransparency.types false in
theorem run_main : θ_run defs (onTc (τ := τ) (main (F := F))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun _ => .rfl) (hout := fun _ => .rfl)

/-- The whole program from any memory with zero counters: it ends, nothing faults, the ten argument arrays end as they
    were and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 3 rfl).trans rfl,
      (h.1.arr_in c 0 rfl).trans rfl,
      (h.1.arr_in c 4 rfl).trans rfl,
      (h.1.arr_in c 1 rfl).trans rfl,
      (h.1.arr_in c 5 rfl).trans rfl,
      (h.1.arr_in c 2 rfl).trans rfl,
      (h.1.arr_in c 6 rfl).trans rfl,
      (h.1.arr_in c 7 rfl).trans rfl,
      (h.1.arr_in c 8 rfl).trans rfl,
      (h.1.arr_in c 9 rfl).trans rfl⟩, h.2⟩) (run_main m ρ)

end Cert.Kernel.Hand

end
-- ==== Proof.KernelIdealBody.lean ====
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A memref's buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The elements a staged block's memref covers, held at `f`. -/
abbrev ptv (c : Dev nD) {sp : Space} {S : Shape} {e : EltTy} (M : Memref sig .tc sp S e) (f : Bf (F := F) c M) : sProp 𝕄 :=
  M.view.loc (c : Thread nD τ) ↦[M.view.set]{fullShare} f

/-- The body at one grid point, from any contents of the twenty-two buffers it addresses: it runs to its return, the ten
    staged operands as they were; the contents it leaves in the result's block and in the scratch that later points read
    are found by the run. -/
def bodyRun (c : Dev nD) (i : grid0.Coords)
    (M2 : Memref sig .tc .smem S2x56 .f32) (h2 : M2.IsWhole)
    (M3 : Memref sig .tc .smem S2x8 .f32) (h3 : M3.IsWhole)
    (M4 : Memref sig .tc .smem S2x8 .f32) (h4 : M4.IsWhole)
    (M5 : Memref sig .tc .vmem S1x896x8x128 .fp8e4m3) (h5 : M5.IsWhole)
    (M6 : Memref sig .tc .vmem S1x896x8x128 .fp8e4m3) (h6 : M6.IsWhole)
    (M7 : Memref sig .tc .vmem S1x896x8x128 .fp8e4m3) (h7 : M7.IsWhole)
    (M8 : Memref sig .tc .vmem S1x56x160 .i32) (h8 : M8.IsWhole)
    (M9 : Memref sig .tc .vmem S2x56 .i32) (h9 : M9.IsWhole)
    (M10 : Memref sig .tc .vmem S1x56x240 .i32) (h10 : M10.IsWhole)
    (M11 : Memref sig .tc .vmem S2x56 .i32) (h11 : M11.IsWhole)
    (M12 : Memref sig .tc .vmem S1x896x896 .bf16) (h12 : M12.IsWhole)
    (M13 : Memref sig .tc .vmem S16x896x128 .fp8e4m3) (h13 : M13.IsWhole)
    (M14 : Memref sig .tc .vmem S8x896x128 .fp8e4m3) (h14 : M14.IsWhole)
    (M15 : Memref sig .tc .vmem S8x128x896 .bf16) (h15 : M15.IsWhole)
    (M16 : Memref sig .tc .vmem S8x896x128 .fp8e4m3) (h16 : M16.IsWhole)
    (M17 : Memref sig .tc .vmem S256x256 .fp8e5m2) (h17 : M17.IsWhole)
    (M18 : Memref sig .tc .vmem S8x56x128 .i32) (h18 : M18.IsWhole)
    (M19 : Memref sig .tc .vmem S7x32x128 .i32) (h19 : M19.IsWhole)
    (M20 : Memref sig .tc .vmem S128x128 .i32) (h20 : M20.IsWhole)
    (M21 : Memref sig .tc .vmem S2x7x32x128 .i32) (h21 : M21.IsWhole)
    (M22 : Memref sig .tc .vmem S2x7x32x128 .i32) (h22 : M22.IsWhole)
    (M23 : Memref sig .tc .vmem S2x896x256 .f32) (h23 : M23.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) :
    (w12 : Bf (F := F) c M12) ×' (w13 : Bf (F := F) c M13) ×' (w14 : Bf (F := F) c M14) ×' (w15 : Bf (F := F) c M15) ×' (w17 : Bf (F := F) c M17) ×' (w18 : Bf (F := F) c M18) ×' (w19 : Bf (F := F) c M19) ×'
    (∀ (E : Set ℕ) (Q : PUnit → sProp 𝕄),
    iprop(ptv c M2 f2 ∗ ptv c M3 f3 ∗ ptv c M4 f4 ∗ ptv c M5 f5 ∗ ptv c M6 f6 ∗ ptv c M7 f7 ∗ ptv c M8 f8 ∗ ptv c M9 f9 ∗ ptv c M10 f10 ∗ ptv c M11 f11 ∗ ptv c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23
      ∗ (iprop(ptv c M2 f2 ∗ ptv c M3 f3 ∗ ptv c M4 f4 ∗ ptv c M5 f5 ∗ ptv c M6 f6 ∗ ptv c M7 f7 ∗ ptv c M8 f8 ∗ ptv c M9 f9 ∗ ptv c M10 f10 ∗ ptv c M11 f11 ∗ ptv c M12 w12 ∗ pt c M13 w13 ∗ pt c M14 w14 ∗ pt c M15 w15 ∗ (∃ f, pt c M16 f) ∗ pt c M17 w17 ∗ pt c M18 w18 ∗ pt c M19 w19 ∗ (∃ f, pt c M20 f) ∗ (∃ f, pt c M21 f) ∗ (∃ f, pt c M22 f) ∗ (∃ f, pt c M23 f)) -∗ Q ⟨⟩))
    ⊢ wp frame (wpE (defs₀ (F := F)) Variants.none c none) E (cc0_vslash_fp8 i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) Q) := by
  refine ⟨?_, ?_, ?_, ?_, ?_, ?_, ?_, fun E Q => ?run⟩
  case run =>
    iintro ⟨H2, H3, H4, H5, H6, H7, H8, H9, H10, H11, H12, H13, H14, H15, H16, H17, H18, H19, H20, H21, H22, H23, Hk⟩
    simp only [cc0_vslash_fp8_eq_skeleton]; unfold cc0_vslash_fp8_skel
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexists _; iexact H20
    isplitl [H21]; · iexists _; iexact H21
    isplitl [H22]; · iexists _; iexact H22
    iexists _; iexact H23

end Cert.KernelIdeal.Hand

end
-- ==== Proof.KernelIdealFrame.lean ====
module

public import proofs.«01_k».proof.Proof.Gen.KernelIdeal.Frame
public import proofs.«01_k».proof.Proof.KernelIdealBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The operands the body is handed -/

abbrev ms0_0 (t : Fin cfg0.N) : Memref sig .tc .smem S2x56 .f32 := win0_0.stage (cfg0.slots t 0)
abbrev ms0_1 (t : Fin cfg0.N) : Memref sig .tc .smem S2x8 .f32 := win0_1.stage (cfg0.slots t 1)
abbrev ms0_2 (t : Fin cfg0.N) : Memref sig .tc .smem S2x8 .f32 := win0_2.stage (cfg0.slots t 2)
abbrev ms0_3 (t : Fin cfg0.N) : Memref sig .tc .vmem S1x896x8x128 .fp8e4m3 := win0_3.stage (cfg0.slots t 3)
abbrev ms0_4 (t : Fin cfg0.N) : Memref sig .tc .vmem S1x896x8x128 .fp8e4m3 := win0_4.stage (cfg0.slots t 4)
abbrev ms0_5 (t : Fin cfg0.N) : Memref sig .tc .vmem S1x896x8x128 .fp8e4m3 := win0_5.stage (cfg0.slots t 5)
abbrev ms0_6 (t : Fin cfg0.N) : Memref sig .tc .vmem S1x56x160 .i32 := win0_6.stage (cfg0.slots t 6)
abbrev ms0_7 (t : Fin cfg0.N) : Memref sig .tc .vmem S2x56 .i32 := win0_7.stage (cfg0.slots t 7)
abbrev ms0_8 (t : Fin cfg0.N) : Memref sig .tc .vmem S1x56x240 .i32 := win0_8.stage (cfg0.slots t 8)
abbrev ms0_9 (t : Fin cfg0.N) : Memref sig .tc .vmem S2x56 .i32 := win0_9.stage (cfg0.slots t 9)
abbrev ms0_10 (t : Fin cfg0.N) : Memref sig .tc .vmem S1x896x896 .bf16 := win0_10.stage (cfg0.slots t 10)
abbrev scM0 : Memref sig .tc .vmem S16x896x128 .fp8e4m3 := Memref.whole cc0_scratch0
abbrev scM1 : Memref sig .tc .vmem S8x896x128 .fp8e4m3 := Memref.whole cc0_scratch1
abbrev scM2 : Memref sig .tc .vmem S8x128x896 .bf16 := Memref.whole cc0_scratch2
abbrev scM3 : Memref sig .tc .vmem S8x896x128 .fp8e4m3 := Memref.whole cc0_scratch3
abbrev scM4 : Memref sig .tc .vmem S256x256 .fp8e5m2 := Memref.whole cc0_scratch4
abbrev scM5 : Memref sig .tc .vmem S8x56x128 .i32 := Memref.whole cc0_scratch5
abbrev scM6 : Memref sig .tc .vmem S7x32x128 .i32 := Memref.whole cc0_scratch6
abbrev scM7 : Memref sig .tc .vmem S128x128 .i32 := Memref.whole cc0_scratch7
abbrev scM8 : Memref sig .tc .vmem S2x7x32x128 .i32 := Memref.whole cc0_scratch8
abbrev scM9 : Memref sig .tc .vmem S2x7x32x128 .i32 := Memref.whole cc0_scratch9
abbrev scM10 : Memref sig .tc .vmem S2x896x256 .f32 := Memref.whole cc0_scratch10

/-- The body's buffers between grid points: the eleven scratch buffers at some contents, the generator register at some state. -/
theorem PhiA0_eq (c : Dev nD) :
    (Pipeline.ΦA (Val := Elt F) (U := UR sig nD τ) spec0 c : sProp 𝕄)
      = iprop(iprop((∃ f, pt c scM0 f) ∗ (∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f)) ∗ (∃ r, prngReg c r)) := by
  unfold Pipeline.ΦA; rw [scopedRest0_eq]

/-! ## The proof data: every staged operand left as found; what is said of the result's block and of the scratch that later
    points read is a parameter -/

/-- What the run maintains: `Inv n` of the scratch before grid point `n`, `Res t` of the block left at point `t`. -/
structure Track (F : FTy → Type) (c : Dev nD) where
  Inv : ℕ → Bf (F := F) c scM0 → Bf (F := F) c scM1 → Bf (F := F) c scM2 → Bf (F := F) c scM4 → Bf (F := F) c scM5 → Bf (F := F) c scM6 → Prop
  Res : Fin cfg0.N → (S1x896x896.Idx → Elt F .bf16) → Prop

/-- The operands at point `t` are the blocks of the arguments. -/
structure Ops (c : Dev nD) (t : Fin cfg0.N)
    (x0 : Bf (F := F) c (ms0_0 t)) (x1 : Bf (F := F) c (ms0_1 t)) (x2 : Bf (F := F) c (ms0_2 t)) (x3 : Bf (F := F) c (ms0_3 t)) (x4 : Bf (F := F) c (ms0_4 t)) (x5 : Bf (F := F) c (ms0_5 t)) (x6 : Bf (F := F) c (ms0_6 t)) (x7 : Bf (F := F) c (ms0_7 t)) (x8 : Bf (F := F) c (ms0_8 t)) (x9 : Bf (F := F) c (ms0_9 t)) : Prop where
  e0 : (ms0_0 t).view.read (Elt F) x0 = iblk m c 0 t
  e1 : (ms0_1 t).view.read (Elt F) x1 = iblk m c 1 t
  e2 : (ms0_2 t).view.read (Elt F) x2 = iblk m c 2 t
  e3 : (ms0_3 t).view.read (Elt F) x3 = iblk m c 3 t
  e4 : (ms0_4 t).view.read (Elt F) x4 = iblk m c 4 t
  e5 : (ms0_5 t).view.read (Elt F) x5 = iblk m c 5 t
  e6 : (ms0_6 t).view.read (Elt F) x6 = iblk m c 6 t
  e7 : (ms0_7 t).view.read (Elt F) x7 = iblk m c 7 t
  e8 : (ms0_8 t).view.read (Elt F) x8 = iblk m c 8 t
  e9 : (ms0_9 t).view.read (Elt F) x9 = iblk m c 9 t

/-- A tracking the body keeps: from the argument blocks and the scratch as tracked, it leaves the result's block and the
    scratch as tracked. -/
def Keeps (c : Dev nD) (T : Track F c) : Prop :=
  ∀ (t : Fin cfg0.N) (x0 : Bf (F := F) c (ms0_0 t)) (x1 : Bf (F := F) c (ms0_1 t)) (x2 : Bf (F := F) c (ms0_2 t)) (x3 : Bf (F := F) c (ms0_3 t)) (x4 : Bf (F := F) c (ms0_4 t)) (x5 : Bf (F := F) c (ms0_5 t)) (x6 : Bf (F := F) c (ms0_6 t)) (x7 : Bf (F := F) c (ms0_7 t)) (x8 : Bf (F := F) c (ms0_8 t)) (x9 : Bf (F := F) c (ms0_9 t)) (x10 : Bf (F := F) c (ms0_10 t))
    (s0 : Bf (F := F) c scM0) (s1 : Bf (F := F) c scM1) (s2 : Bf (F := F) c scM2) (s3 : Bf (F := F) c scM3) (s4 : Bf (F := F) c scM4) (s5 : Bf (F := F) c scM5) (s6 : Bf (F := F) c scM6) (s7 : Bf (F := F) c scM7) (s8 : Bf (F := F) c scM8) (s9 : Bf (F := F) c scM9) (s10 : Bf (F := F) c scM10),
    Ops m c t x0 x1 x2 x3 x4 x5 x6 x7 x8 x9 → T.Inv t.val s0 s1 s2 s4 s5 s6 →
    let r := bodyRun c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    T.Res t ((ms0_10 t).view.read (Elt F) r.1) ∧ T.Inv (t.val + 1) r.2.1 r.2.2.1 r.2.2.2.1 r.2.2.2.2.1 r.2.2.2.2.2.1 r.2.2.2.2.2.2.1

variable (T : (c : Dev nD) → Track F c)

/-- The scratch before point `n`: at contents that meet the tracking, the rest at anything; the generator register at some state. -/
def ΦT (c : Dev nD) (n : ℕ) : sProp 𝕄 :=
  iprop((∃ s0, ∃ s1, ∃ s2, ∃ s4, ∃ s5, ∃ s6, ⌜(T c).Inv n s0 s1 s2 s4 s5 s6⌝ ∗ pt c scM0 s0 ∗ pt c scM1 s1 ∗ pt c scM2 s2 ∗ (∃ f, pt c scM3 f) ∗ pt c scM4 s4 ∗ pt c scM5 s5 ∗ pt c scM6 s6 ∗ (∃ f, pt c scM7 f) ∗ (∃ f, pt c scM8 f) ∗ (∃ f, pt c scM9 f) ∗ (∃ f, pt c scM10 f)) ∗ (∃ r, prngReg c r))

/-- What the body may leave in a window's buffer: an operand as it was, the result's block as tracked. -/
def rafter (c : Dev nD) (w : Fin cfg0.W) (t : Fin cfg0.N) (Y X : (cfg0.win w).block.Idx → Elt F (cfg0.win w).elt) : Prop :=
  match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => (T c).Res t X

def rdat (c : Dev nD) : RDat τ (Elt F) Unit ℕ (UR sig nD τ) ℕ cfg0 c where
  A w := V m c (Pipeline.arrRef spec0 w)
  after w t Y X := rafter T c w t Y X
  Φ t := ΦT T c t.val
  q _ := fullShare
  owed _ := 0

theorem A_eq (c : Dev nD) (w : Fin cfg0.W) : (rdat m T c).A w = V m c (Pipeline.arrRef spec0 w) := by dsimp only [rdat]

/-- An argument's window holds its block at every point. -/
theorem finds_in (c : Dev nD) (w : Fin cfg0.W) (hw : (cfg0.win w).isOut = false) (hclip : ∀ t t' : Fin cfg0.N, (cfg0.win w).index t = (cfg0.win w).index t' → (cfg0.win w).clip (cfg0.grid.coords t) = (cfg0.win w).clip (cfg0.grid.coords t'))
    (hkeep : ∀ t Y X, (rdat m T c).after w t Y X → X = Y) (t : Fin cfg0.N) (Y) (h : (rdat m T c).Finds w t Y) : ∃ d, Y = (rdat m T c).fetched w t d :=
  (rdat m T c).finds_in_eq_fetched w hw hclip hkeep t Y h

def bodyPre (c : Dev nD) (t : Fin cfg0.N) (Y : (w : Fin cfg0.W) → (cfg0.win w).block.Idx → Elt F (cfg0.win w).elt) : sProp 𝕄 :=
  iprop((rdat m T c).Φ t.castSucc ∗ (rdat m T c).owesAt () t.castSucc
    ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10))
def bodyPost (c : Dev nD) (t : Fin cfg0.N) (Y : (w : Fin cfg0.W) → (cfg0.win w).block.Idx → Elt F (cfg0.win w).elt) : sProp 𝕄 :=
  iprop((rdat m T c).Φ t.succ ∗ (rdat m T c).owesAt () t.succ
    ∗ (∃ X, ⌜(rdat m T c).after 0 t (Y 0) X⌝ ∗ owns (c : Thread nD τ) (ms0_0 t) fullShare X) ∗ (∃ X, ⌜(rdat m T c).after 1 t (Y 1) X⌝ ∗ owns (c : Thread nD τ) (ms0_1 t) fullShare X) ∗ (∃ X, ⌜(rdat m T c).after 2 t (Y 2) X⌝ ∗ owns (c : Thread nD τ) (ms0_2 t) fullShare X) ∗ (∃ X, ⌜(rdat m T c).after 3 t (Y 3) X⌝ ∗ owns (c : Thread nD τ) (ms0_3 t) fullShare X) ∗ (∃ X, ⌜(rdat m T c).after 4 t (Y 4) X⌝ ∗ owns (c : Thread nD τ) (ms0_4 t) fullShare X) ∗ (∃ X, ⌜(rdat m T c).after 5 t (Y 5) X⌝ ∗ owns (c : Thread nD τ) (ms0_5 t) fullShare X) ∗ (∃ X, ⌜(rdat m T c).after 6 t (Y 6) X⌝ ∗ owns (c : Thread nD τ) (ms0_6 t) fullShare X) ∗ (∃ X, ⌜(rdat m T c).after 7 t (Y 7) X⌝ ∗ owns (c : Thread nD τ) (ms0_7 t) fullShare X) ∗ (∃ X, ⌜(rdat m T c).after 8 t (Y 8) X⌝ ∗ owns (c : Thread nD τ) (ms0_8 t) fullShare X) ∗ (∃ X, ⌜(rdat m T c).after 9 t (Y 9) X⌝ ∗ owns (c : Thread nD τ) (ms0_9 t) fullShare X) ∗ (∃ X, ⌜(rdat m T c).after 10 t (Y 10) X⌝ ∗ owns (c : Thread nD τ) (ms0_10 t) fullShare X))

/-- The body at a point: its operands opened, the run, the operands closed. -/
theorem sound_body (c : Dev nD) (hT : Keeps m c (T c)) (t : Fin cfg0.N) (Y : (w : Fin cfg0.W) → (cfg0.win w).block.Idx → Elt F (cfg0.win w).elt)
    (hY : Y 0 = iblk m c 0 t ∧ Y 1 = iblk m c 1 t ∧ Y 2 = iblk m c 2 t ∧ Y 3 = iblk m c 3 t ∧ Y 4 = iblk m c 4 t ∧ Y 5 = iblk m c 5 t ∧ Y 6 = iblk m c 6 t ∧ Y 7 = iblk m c 7 t ∧ Y 8 = iblk m c 8 t ∧ Y 9 = iblk m c 9 t) :
    bodyPre m T c t Y ⊢ wp frame (wpE (defs₀ (F := F)) Variants.none c none) Set.univ (bodyAt0 t) (fun _ => bodyPost m T c t Y) := by
  unfold bodyPre bodyPost bodyAt0
  rw [show (rdat m T c).owesAt () t.succ = (rdat m T c).owesAt () t.castSucc from rfl,
    show (rdat m T c).Φ t.castSucc = ΦT T c t.val from rfl, show (rdat m T c).Φ t.succ = ΦT T c (t.val + 1) from rfl]
  obtain ⟨y0, y1, y2, y3, y4, y5, y6, y7, y8, y9⟩ := hY
  unfold ΦT
  unfold owns
  iintro ⟨⟨⟨%s0, %s1, %s2, %s4, %s5, %s6, %hI, S0, S1, S2, ⟨%s3, S3⟩, S4, S5, S6, ⟨%s7, S7⟩, ⟨%s8, S8⟩, ⟨%s9, S9⟩, ⟨%s10, S10⟩⟩, Hg⟩, HO, ⟨%x0, %e0, H0⟩, ⟨%x1, %e1, H1⟩, ⟨%x2, %e2, H2⟩, ⟨%x3, %e3, H3⟩, ⟨%x4, %e4, H4⟩, ⟨%x5, %e5, H5⟩, ⟨%x6, %e6, H6⟩, ⟨%x7, %e7, H7⟩, ⟨%x8, %e8, H8⟩, ⟨%x9, %e9, H9⟩, ⟨%x10, %e10, H10⟩⟩
  have hk := hT t x0 x1 x2 x3 x4 x5 x6 x7 x8 x9 x10 s0 s1 s2 s3 s4 s5 s6 s7 s8 s9 s10 ⟨e0.trans y0, e1.trans y1, e2.trans y2, e3.trans y3, e4.trans y4, e5.trans y5, e6.trans y6, e7.trans y7, e8.trans y8, e9.trans y9⟩ hI
  iapply (bodyRun c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10).2.2.2.2.2.2.2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, H9, H10, S0, S1, S2, S3, S4, S5, S6, S7, S8, S9, S10⟩
  isplitl [S0 S1 S2 S3 S4 S5 S6 S7 S8 S9 S10 Hg]
  · isplitl [S0 S1 S2 S3 S4 S5 S6 S7 S8 S9 S10]
    · iexists _; iexists _; iexists _; iexists _; iexists _; iexists _
      isplitr
      · ipureintro; exact hk.2
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HO]; · iexact HO
  isplitl [H0]
  · iexists (Y 0); isplitr
    · ipureintro; rfl
    iexists x0; isplitr
    · ipureintro; exact e0
    iexact H0
  isplitl [H1]
  · iexists (Y 1); isplitr
    · ipureintro; rfl
    iexists x1; isplitr
    · ipureintro; exact e1
    iexact H1
  isplitl [H2]
  · iexists (Y 2); isplitr
    · ipureintro; rfl
    iexists x2; isplitr
    · ipureintro; exact e2
    iexact H2
  isplitl [H3]
  · iexists (Y 3); isplitr
    · ipureintro; rfl
    iexists x3; isplitr
    · ipureintro; exact e3
    iexact H3
  isplitl [H4]
  · iexists (Y 4); isplitr
    · ipureintro; rfl
    iexists x4; isplitr
    · ipureintro; exact e4
    iexact H4
  isplitl [H5]
  · iexists (Y 5); isplitr
    · ipureintro; rfl
    iexists x5; isplitr
    · ipureintro; exact e5
    iexact H5
  isplitl [H6]
  · iexists (Y 6); isplitr
    · ipureintro; rfl
    iexists x6; isplitr
    · ipureintro; exact e6
    iexact H6
  isplitl [H7]
  · iexists (Y 7); isplitr
    · ipureintro; rfl
    iexists x7; isplitr
    · ipureintro; exact e7
    iexact H7
  isplitl [H8]
  · iexists (Y 8); isplitr
    · ipureintro; rfl
    iexists x8; isplitr
    · ipureintro; exact e8
    iexact H8
  isplitl [H9]
  · iexists (Y 9); isplitr
    · ipureintro; rfl
    iexists x9; isplitr
    · ipureintro; exact e9
    iexact H9
  iexists _; isplitr
  · ipureintro; exact hk.1
  iexists _; isplitr
  · ipureintro; rfl
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) (hT : Keeps m c (T c)) : (rdat m T c).BodyObligation (defs₀ (F := F)) Variants.none () Set.univ := fun t Y hF => by
  rw [bigSep_W0, bigSep_W0, defs₀_row]
  refine triple_restated (sound_body m T c hT t Y ⟨?_, ?_, ?_, ?_, ?_, ?_, ?_, ?_, ?_, ?_⟩) rfl .rfl fun _ => .rfl
  · exact (finds_in m T c 0 rfl (fun _ _ _ => rfl) (fun _ _ _ h => h) t _ (hF 0)).choose_spec
  · exact (finds_in m T c 1 rfl (fun _ _ _ => rfl) (fun _ _ _ h => h) t _ (hF 1)).choose_spec
  · exact (finds_in m T c 2 rfl (fun _ _ _ => rfl) (fun _ _ _ h => h) t _ (hF 2)).choose_spec
  · exact (finds_in m T c 3 rfl (fun _ _ _ => rfl) (fun _ _ _ h => h) t _ (hF 3)).choose_spec
  · exact (finds_in m T c 4 rfl (fun _ _ _ => rfl) (fun _ _ _ h => h) t _ (hF 4)).choose_spec
  · exact (finds_in m T c 5 rfl (fun _ _ _ => rfl) (fun _ _ _ h => h) t _ (hF 5)).choose_spec
  · exact (finds_in m T c 6 rfl (fun _ _ _ => rfl) (fun _ _ _ h => h) t _ (hF 6)).choose_spec
  · exact (finds_in m T c 7 rfl (fun _ _ _ => rfl) (fun _ _ _ h => h) t _ (hF 7)).choose_spec
  · exact (finds_in m T c 8 rfl (fun _ _ _ => rfl) (fun _ _ _ h => h) t _ (hF 8)).choose_spec
  · exact (finds_in m T c 9 rfl (fun _ _ _ => rfl) (fun _ _ _ h => h) t _ (hF 9)).choose_spec

/-! ## The run and the frame -/

theorem ΦT_in (c : Dev nD) (h0 : ∀ s0 s1 s2 s4 s5 s6, (T c).Inv 0 s0 s1 s2 s4 s5 s6) : Pipeline.ΦA (Val := Elt F) (U := UR sig nD τ) spec0 c ⊢ ΦT T c 0 := by
  rw [PhiA0_eq]; unfold ΦT
  iintro ⟨⟨⟨%s0, S0⟩, ⟨%s1, S1⟩, ⟨%s2, S2⟩, S3, ⟨%s4, S4⟩, ⟨%s5, S5⟩, ⟨%s6, S6⟩, S7, S8, S9, S10⟩, Hg⟩
  isplitl [S0 S1 S2 S3 S4 S5 S6 S7 S8 S9 S10]
  · iexists s0; iexists s1; iexists s2; iexists s4; iexists s5; iexists s6
    isplitr
    · ipureintro; exact h0 _ _ _ _ _ _
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iexact Hg

theorem ΦT_out (c : Dev nD) (n : ℕ) : ΦT T c n ⊢ Pipeline.ΦA (Val := Elt F) (U := UR sig nD τ) spec0 c := by
  rw [PhiA0_eq]; unfold ΦT
  iintro ⟨⟨%s0, %s1, %s2, %s4, %s5, %s6, %hI, S0, S1, S2, S3, S4, S5, S6, S7, S8, S9, S10⟩, Hg⟩
  isplitl [S0 S1 S2 S3 S4 S5 S6 S7 S8 S9 S10]
  · isplitl [S0]; · iexists _; iexact S0
    isplitl [S1]; · iexists _; iexact S1
    isplitl [S2]; · iexists _; iexact S2
    isplitl [S3]; · iexact S3
    isplitl [S4]; · iexists _; iexact S4
    isplitl [S5]; · iexists _; iexact S5
    isplitl [S6]; · iexists _; iexact S6
    isplitl [S7]; · iexact S7
    isplitl [S8]; · iexact S8
    isplitl [S9]; · iexact S9
    iexact S10
  iexact Hg

set_option backward.isDefEq.respectTransparency.types false in
theorem run_main (hT : ∀ c, Keeps m c (T c)) (h0 : ∀ c s0 s1 s2 s4 s5 s6, (T c).Inv 0 s0 s1 s2 s4 s5 s6) : θ_run defs (onTc (τ := τ) (main (F := F))) (s₀ m ρ)
    (fun r => RDat.FramePost (cfgs 0) (rdat m T) (V m) r ∧ r.2.sem = fun _ => 0) :=
  RDat.θ_run_frame_track (Q' := _) cfgs (0 : Fin 1) launch0 defs₀ Variants.none (rdat m T) m ρ main
    (hbody := fun c => body_obligation m T c (hT c)) (hshare := fun c w => by unfold RDat.share; split <;> rfl)
    (howed := fun _ _ => rfl) (V := V m) (hmain := hmain m Variants.none) (hA := A_eq m T)
    (hin := fun c => ΦT_in T c (h0 c)) (hout := fun c => ΦT_out T c _)

/-- The whole program from any memory with zero counters: it ends, nothing faults, the ten argument arrays end as they
    were and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 3 rfl).trans rfl,
      (h.1.arr_in c 0 rfl).trans rfl,
      (h.1.arr_in c 4 rfl).trans rfl,
      (h.1.arr_in c 1 rfl).trans rfl,
      (h.1.arr_in c 5 rfl).trans rfl,
      (h.1.arr_in c 2 rfl).trans rfl,
      (h.1.arr_in c 6 rfl).trans rfl,
      (h.1.arr_in c 7 rfl).trans rfl,
      (h.1.arr_in c 8 rfl).trans rfl,
      (h.1.arr_in c 9 rfl).trans rfl⟩, h.2⟩) (run_main m ρ (fun _ => ⟨fun _ _ _ _ _ _ _ => True, fun _ _ => True⟩) (fun _ _ => by intros; exact ⟨trivial, trivial⟩) (fun _ _ _ _ _ _ _ => trivial))

end Cert.KernelIdeal.Hand

end
-- ==== Proof.Spec.lean ====
module

public import Idealize.ShloMosaic.Lib.Pointwise

@[expose] public section

set_option maxRecDepth 16384

noncomputable section

/-! The mathematics both programs compute, on extended reals: one row of masked attention, and the two ways of evaluating it. -/
namespace Cert.Spec

open Idealize.ShloMosaic

/-- The ten arguments, each as a function of its coordinates. -/
structure Inp where
  q : Fin 2 → Fin 896 → Fin 56 → Fin 128 → EReal
  qs : Fin 2 → Fin 56 → EReal
  k : Fin 2 → Fin 896 → Fin 8 → Fin 128 → EReal
  ks : Fin 2 → Fin 8 → EReal
  v : Fin 2 → Fin 896 → Fin 8 → Fin 128 → EReal
  vs : Fin 2 → Fin 8 → EReal
  vi : Fin 2 → Fin 56 → Fin 160 → BitVec 32
  vc : Fin 2 → Fin 56 → BitVec 32
  so : Fin 2 → Fin 56 → Fin 240 → BitVec 32
  sc : Fin 2 → Fin 56 → BitVec 32

namespace Inp
variable (x : Inp)

/-- Head `h` of batch `b` lists key `j` in its vertical list. -/
def inV (b : Fin 2) (h : Fin 56) (j : ℕ) : Prop := ∃ u : Fin 160, x.vi b h u = BitVec.ofNat 32 j ∧ (u : ℤ) < (x.vc b h).toInt
/-- It lists the distance `o` in its slash list. -/
def inS (b : Fin 2) (h : Fin 56) (o : ℕ) : Prop := ∃ u : Fin 240, x.so b h u = BitVec.ofNat 32 o ∧ (u : ℤ) < (x.sc b h).toInt
/-- Query `i` sees key `j`. -/
def vis (b : Fin 2) (h : Fin 56) (i j : ℕ) : Prop := j ≤ i ∧ (x.inV b h j ∨ x.inS b h (i - j))

/-- Query head `7 g + r`. -/
def hd (g : Fin 8) (r : Fin 7) : Fin 56 := ⟨g.val * 7 + r.val, by omega⟩
/-- The product of key `j` with query `i`. -/
def dot (b : Fin 2) (g : Fin 8) (r : Fin 7) (i j : Fin 896) : EReal := ∑ e : Fin 128, x.k b j g e * x.q b i (hd g r) e

open Classical in
/-- The scaled, masked score. -/
def sco (b : Fin 2) (g : Fin 8) (r : Fin 7) (i j : Fin 896) : EReal :=
  if x.vis b (hd g r) i j then x.dot b g r i j * Ideal.div (x.qs b (hd g r) * x.ks b g) ((Real.sqrt 128 : ℝ) : EReal) else ⊥
def ex (b : Fin 2) (g : Fin 8) (r : Fin 7) (i j : Fin 896) : EReal :=
  Ideal.exp (x.sco b g r i j - Finset.fold max ⊥ (fun j => x.sco b g r i j) Finset.univ)
def tot (b : Fin 2) (g : Fin 8) (r : Fin 7) (i : Fin 896) : EReal := ∑ j, x.ex b g r i j
open Classical in
/-- The result at batch `b`, query `i`, head `7 g + r`, component `d`. -/
def out (b : Fin 2) (i : Fin 896) (g : Fin 8) (r : Fin 7) (d : Fin 128) : EReal :=
  (∑ j, x.v b j g d * (if 0 < x.tot b g r i then Ideal.div (x.ex b g r i j) (x.tot b g r i) else 0)) * x.vs b g

open Classical in
/-- The unscaled score with the mask added, as the kernel forms it. -/
def kS (b : Fin 2) (g : Fin 8) (r : Fin 7) (i j : Fin 896) : EReal :=
  x.dot b g r i j + (if x.vis b (hd g r) i j then 0 else ⊥)
def kM (n : ℕ) (hn : n ≤ 896) (b : Fin 2) (g : Fin 8) (r : Fin 7) (i : Fin 896) : EReal :=
  Finset.fold max ⊥ (fun j : Fin n => x.kS b g r i (j.castLE hn)) Finset.univ
def kC (b : Fin 2) (g : Fin 8) (r : Fin 7) : EReal :=
  x.qs b (hd g r) * x.ks b g * (((Real.log 2)⁻¹ * (Real.sqrt 128)⁻¹ : ℝ) : EReal)
def kP (n : ℕ) (hn : n ≤ 896) (b : Fin 2) (g : Fin 8) (r : Fin 7) (i : Fin 896) (j : Fin n) : EReal :=
  Ideal.exp2 ((x.kS b g r i (j.castLE hn) - x.kM n hn b g r i) * x.kC b g r)
/-- The result from the first `n` keys, normalised at the end. -/
def kOut (n : ℕ) (hn : n ≤ 896) (b : Fin 2) (i : Fin 896) (g : Fin 8) (r : Fin 7) (d : Fin 128) : EReal :=
  (∑ j : Fin n, x.v b (j.castLE hn) g d * x.kP n hn b g r i j) * Ideal.div (x.vs b g) (∑ j : Fin n, x.kP n hn b g r i j)

end Inp

/-! ## One row -/

theorem sub_mul_coe (a m : EReal) {c : ℝ} (hc : 0 < c) : (a - m) * (c : EReal) = a * c - m * c := by
  rw [sub_eq_add_neg, EReal.right_distrib_of_nonneg_of_ne_top (by exact_mod_cast hc.le) (EReal.coe_ne_top c), sub_eq_add_neg,
    EReal.neg_mul]

theorem exp2_eq (z : EReal) {c : ℝ} (hc : 0 < c) : Ideal.exp2 (z * ((c * (Real.log 2)⁻¹ : ℝ) : EReal)) = Ideal.exp (z * c) := by
  have hl : 0 < Real.log 2 := Real.log_pos (by norm_num)
  have h2 : 0 < c * (Real.log 2)⁻¹ := by positivity
  induction z using EReal.rec with
  | bot => rw [EReal.bot_mul_coe_of_pos h2, EReal.bot_mul_coe_of_pos hc]; rfl
  | top => rw [EReal.top_mul_coe_of_pos h2, EReal.top_mul_coe_of_pos hc]; rfl
  | coe z =>
    rw [← EReal.coe_mul, ← EReal.coe_mul]
    change ((Real.rpow 2 (z * (c * (Real.log 2)⁻¹)) : ℝ) : EReal) = ((Real.exp (z * c) : ℝ) : EReal)
    congr 1
    rw [Real.rpow_eq_pow, Real.rpow_def_of_pos (by norm_num)]
    congr 1
    field_simp

theorem exp_bot : Ideal.exp ⊥ = 0 := rfl
theorem fold_max_mul {ι : Type*} (s : Finset ι) (f : ι → EReal) {c : ℝ} (hc : 0 < c) :
    Finset.fold max ⊥ (fun j => f j * (c : EReal)) s = Finset.fold max ⊥ f s * (c : EReal) := by
  classical
  induction s using Finset.induction_on with
  | empty => simp [EReal.bot_mul_coe_of_pos hc]
  | insert a s ha ih =>
    rw [Finset.fold_insert ha, Finset.fold_insert ha, ih]
    have hm : Monotone fun z : EReal => z * (c : EReal) := fun x y h => mul_le_mul_of_nonneg_right h (by exact_mod_cast hc.le)
    exact (hm.map_max).symm

theorem fold_max_castLE {n N : ℕ} (h : n ≤ N) (t : Fin N → EReal) (ht : ∀ j : Fin N, n ≤ j.val → t j = ⊥) :
    Finset.fold max ⊥ t Finset.univ = Finset.fold max ⊥ (fun j : Fin n => t (j.castLE h)) Finset.univ := by
  apply le_antisymm
  · refine (Finset.fold_max_le _).2 ⟨bot_le, fun j _ => ?_⟩
    by_cases hj : j.val < n
    · exact (Finset.le_fold_max _).2 (Or.inr ⟨⟨j.val, hj⟩, Finset.mem_univ _, le_refl _⟩)
    · rw [ht j (by omega)]; exact bot_le
  · exact (Finset.fold_max_le _).2 ⟨bot_le, fun j _ => (Finset.le_fold_max _).2 (Or.inr ⟨j.castLE h, Finset.mem_univ _, le_refl _⟩)⟩

theorem sum_castLE {n N : ℕ} (h : n ≤ N) (t : Fin N → EReal) (ht : ∀ j : Fin N, n ≤ j.val → t j = 0) :
    ∑ j, t j = ∑ j : Fin n, t (j.castLE h) := by
  obtain ⟨k, rfl⟩ := Nat.exists_eq_add_of_le h
  rw [Fin.sum_univ_add, Finset.sum_eq_zero (s := Finset.univ) (f := fun i => t (Fin.natAdd n i)) (fun i _ => ht _ (by simp)), add_zero]
  rfl

theorem sum_mul_coe {ι : Type*} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A row normalised at the end, and the same row normalised term by term: equal, whatever the scores, since a maximum that is
    not a real number makes every weight zero. -/
theorem row_norm {n : ℕ} (a : Fin n → EReal) (v : Fin n → EReal) (vs : EReal) {c : ℝ} (hc : 0 < c) (E : Fin n → EReal) (T : EReal)
    (hE : ∀ j, E j = Ideal.exp ((a j - Finset.fold max ⊥ a Finset.univ) * c)) (hT : T = ∑ j, E j) :
    (∑ j, v j * E j) * Ideal.div vs T = (∑ j, v j * (if 0 < T then Ideal.div (E j) T else 0)) * vs := by
  have hle : ∀ j, a j ≤ Finset.fold max ⊥ a Finset.univ := fun j => (Finset.le_fold_max _).2 (Or.inr ⟨j, Finset.mem_univ _, le_refl _⟩)
  have hat : Finset.fold max ⊥ a Finset.univ = ⊥ ∨ ∃ j, a j = Finset.fold max ⊥ a Finset.univ := by
    rcases (Finset.le_fold_max (s := Finset.univ) (f := a) (b := (⊥ : EReal)) (Finset.fold max ⊥ a Finset.univ)).1 (le_refl _) with h | ⟨j, _, h⟩
    · exact Or.inl (le_bot_iff.1 h)
    · exact Or.inr ⟨j, le_antisymm (hle j) h⟩
  generalize Finset.fold max ⊥ a Finset.univ = m at *
  have zero (h : ∀ j, E j = 0) : (∑ j, v j * E j) * Ideal.div vs T = (∑ j, v j * (if 0 < T then Ideal.div (E j) T else 0)) * vs := by
    have h0 : T = 0 := by rw [hT]; exact Finset.sum_eq_zero fun j _ => h j
    simp [h, h0]
  induction m using EReal.rec with
  | bot =>
    apply zero; intro j
    rw [hE, le_bot_iff.1 (hle j), sub_eq_add_neg, EReal.bot_add, EReal.bot_mul_coe_of_pos hc, exp_bot]
  | top =>
    apply zero; intro j
    rw [hE, sub_eq_add_neg, EReal.neg_top, EReal.add_bot, EReal.bot_mul_coe_of_pos hc, exp_bot]
  | coe m =>
    obtain ⟨j0, hj0⟩ : ∃ j, a j = m := hat.resolve_left (EReal.coe_ne_bot m)
    have hreal : ∀ j, ∃ e : ℝ, 0 ≤ e ∧ E j = e := by
      intro j
      have h := hle j
      rw [hE]
      induction hA : a j using EReal.rec with
      | bot => exact ⟨0, le_refl _, by rw [sub_eq_add_neg, EReal.bot_add, EReal.bot_mul_coe_of_pos hc, exp_bot]; rfl⟩
      | top => rw [hA] at h; exact absurd (le_antisymm h le_top) (EReal.coe_ne_top m ∘ fun h => by simpa using h.symm)
      | coe x => exact ⟨Real.exp ((x - m) * c), (Real.exp_pos _).le, rfl⟩
    choose e he hEe using hreal
    have hTe : T = ((∑ j, e j : ℝ) : EReal) := by
      rw [hT, Finset.sum_congr rfl fun j _ => hEe j]
      exact (map_sum (⟨⟨Real.toEReal, rfl⟩, EReal.coe_add⟩ : ℝ →+ EReal) e Finset.univ).symm
    have hj1 : e j0 = 1 := by
      have := hEe j0
      rw [hE, hj0, ← EReal.coe_sub, sub_self, EReal.coe_zero, zero_mul] at this
      have h1 : Ideal.exp 0 = ((1 : ℝ) : EReal) := congrArg Real.toEReal Real.exp_zero
      rw [h1] at this
      exact_mod_cast this.symm
    have hpos : 0 < ∑ j, e j := Finset.sum_pos' (fun j _ => he j) ⟨j0, Finset.mem_univ _, by rw [hj1]; norm_num⟩
    generalize (∑ j, e j) = τ at *
    have hd : ∀ y : EReal, Ideal.div y T = y * ((τ⁻¹ : ℝ) : EReal) := by
      intro y
      rw [hTe]
      unfold Ideal.div
      rw [if_neg (by exact_mod_cast hpos.ne'), EReal.coe_inv]
    have hT0 : 0 < T := by rw [hTe]; exact_mod_cast hpos
    simp only [hd, if_pos hT0]
    rw [mul_comm vs, ← mul_assoc, sum_mul_coe _ _ (by positivity)]
    simp only [mul_assoc]

theorem kOut_eq_out (x : Inp) (n : ℕ) (hn : n ≤ 896) (b : Fin 2) (i : Fin 896) (g : Fin 8) (r : Fin 7) (d : Fin 128) (hi : i.val < n)
    (hq : 0 < x.qs b (Inp.hd g r)) (hq' : x.qs b (Inp.hd g r) < ⊤) (hk : 0 < x.ks b g) (hk' : x.ks b g < ⊤) :
    x.kOut n hn b i g r d = x.out b i g r d := by
  classical
  obtain ⟨sq, hsq⟩ : ∃ s : ℝ, x.qs b (Inp.hd g r) = s := ⟨(x.qs b (Inp.hd g r)).toReal, (EReal.coe_toReal hq'.ne (ne_bot_of_gt hq)).symm⟩
  obtain ⟨sk, hsk⟩ : ∃ s : ℝ, x.ks b g = s := ⟨(x.ks b g).toReal, (EReal.coe_toReal hk'.ne (ne_bot_of_gt hk)).symm⟩
  rw [hsq] at hq; rw [hsk] at hk
  have hq0 : 0 < sq := by exact_mod_cast hq
  have hk0 : 0 < sk := by exact_mod_cast hk
  have h128 : 0 < Real.sqrt 128 := Real.sqrt_pos.2 (by norm_num)
  obtain ⟨c, hcd⟩ : ∃ c : ℝ, c = sq * sk * (Real.sqrt 128)⁻¹ := ⟨_, rfl⟩
  have hc : 0 < c := by rw [hcd]; positivity
  have hC : Ideal.div (x.qs b (Inp.hd g r) * x.ks b g) ((Real.sqrt 128 : ℝ) : EReal) = c := by
    rw [hsq, hsk, hcd]; unfold Ideal.div
    rw [if_neg (by exact_mod_cast h128.ne'), ← EReal.coe_inv, ← EReal.coe_mul, ← EReal.coe_mul]
  have hC' : x.kC b g r = ((c * (Real.log 2)⁻¹ : ℝ) : EReal) := by
    unfold Inp.kC
    rw [hsq, hsk, hcd, ← EReal.coe_mul, ← EReal.coe_mul]; congr 1; ring
  have ha : ∀ j : Fin 896, x.sco b g r i j = x.kS b g r i j * c := by
    intro j
    unfold Inp.sco Inp.kS
    rw [hC]
    split
    · rw [add_zero]
    · rw [EReal.add_bot, EReal.bot_mul_coe_of_pos hc]
  have hbot : ∀ j : Fin 896, n ≤ j.val → x.sco b g r i j = ⊥ := by
    intro j hj
    unfold Inp.sco
    exact if_neg fun h => by have := h.1; omega
  have hM : Finset.fold max ⊥ (fun j => x.sco b g r i j) Finset.univ = x.kM n hn b g r i * c := by
    rw [fold_max_castLE hn _ hbot]
    simp only [ha]
    exact fold_max_mul _ _ hc
  have hE : ∀ j : Fin n, x.kP n hn b g r i j = x.ex b g r i (j.castLE hn) := by
    intro j
    unfold Inp.kP Inp.ex
    rw [hC', exp2_eq _ hc, hM, ha, sub_mul_coe _ _ hc]
  have hE0 : ∀ j : Fin 896, n ≤ j.val → x.ex b g r i j = 0 := by
    intro j hj
    unfold Inp.ex
    rw [hbot j hj, sub_eq_add_neg, EReal.bot_add, exp_bot]
  have hT : x.tot b g r i = ∑ j : Fin n, x.kP n hn b g r i j := by
    unfold Inp.tot
    rw [sum_castLE hn _ hE0]
    exact Finset.sum_congr rfl fun j _ => (hE j).symm
  have hz : ∀ j : Fin 896, n ≤ j.val → x.v b j g d * (if 0 < x.tot b g r i then Ideal.div (x.ex b g r i j) (x.tot b g r i) else 0) = 0 := by
    intro j hj
    rw [hE0 j hj]
    split
    · next h => unfold Ideal.div; rw [if_neg h.ne', zero_mul, mul_zero]
    · rw [mul_zero]
  unfold Inp.kOut Inp.out
  rw [sum_castLE hn _ hz, ← hT]
  have := row_norm (fun j : Fin n => x.kS b g r i (j.castLE hn)) (fun j => x.v b (j.castLE hn) g d) (x.vs b g) hc
    (fun j => x.kP n hn b g r i j) (x.tot b g r i) (fun j => by
      change x.kP n hn b g r i j = _
      unfold Inp.kP; rw [hC', exp2_eq _ hc]; rfl) hT
  rw [this]
  congr 1
  exact Finset.sum_congr rfl fun j _ => by rw [hE]

end Cert.Spec
end
-- ==== Proof.Ref.lean ====
module

public import proofs.«01_k».proof.Proof.Gen.ReferenceIdeal.Frame
public import proofs.«01_k».proof.Proof.Gen.ReferenceIdeal.Run
public import proofs.«01_k».proof.Proof.Spec
public import Idealize.ShloMosaic.Lib.Pointwise
public import Idealize.ShloMosaic.Lib.Routing.OpsOrder
public import Idealize.ShloMosaic.Lib.Tactic
public import Idealize.ShloMosaic.Lib.Tactic.CleanTypes
public import Idealize.ShloMosaic.Lib.Pipeline.ValueKit

@[expose] public section

set_option maxRecDepth 16384

noncomputable section

/-! The reference's result, read at an index: the row of masked attention of `Spec.lean`. -/
namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo
open Cert.Spec

/-- The arguments a memory holds on core `c`. -/
def inp (m : (ℓ : Loc nD τ sig) → Buf (Elt Ideal) ℓ) (c : Dev nD) : Inp where
  q b i h e := m ((c.tc : Thread nD τ).loc main_arg0) (ix4 b i h e)
  qs b h := m ((c.tc : Thread nD τ).loc main_arg1) (ix2 b h)
  k b i h e := m ((c.tc : Thread nD τ).loc main_arg2) (ix4 b i h e)
  ks b h := m ((c.tc : Thread nD τ).loc main_arg3) (ix2 b h)
  v b i h e := m ((c.tc : Thread nD τ).loc main_arg4) (ix4 b i h e)
  vs b h := m ((c.tc : Thread nD τ).loc main_arg5) (ix2 b h)
  vi b h u := m ((c.tc : Thread nD τ).loc main_arg6) (ix3 b h u)
  vc b h := m ((c.tc : Thread nD τ).loc main_arg7) (ix2 b h)
  so b h u := m ((c.tc : Thread nD τ).loc main_arg8) (ix3 b h u)
  sc b h := m ((c.tc : Thread nD τ).loc main_arg9) (ix2 b h)

variable (m : (ℓ : Loc nD τ sig) → Buf (Elt Ideal) ℓ) (c : Dev nD)

theorem hz : (![0, 0, 0, 0] : Fin 4 → Nat) = fun _ => 0 := funext fun a => by fin_cases a <;> rfl

/-- What the widening region leaves: the three quantised arrays, unchanged as extended reals. -/
theorem reg0 : reg_main_v0_0 m c = (m ((c.tc : Thread nD τ).loc main_arg0) : S2x896x56x128.Idx → EReal) := by
  refine (dats m 0 c).arrAt_eq_of_cover 3 _ (fun t _ => ?_) (Pipeline.Window.Covers.cover _ (by decide +kernel) (Memref.isWhole_whole _))
  show (cfg0.win 3).cut (grid0.coords t) ((dats m 0 c).after 3 t) = _
  rw [after0_3]
  unfold out0_3
  rw [View.canon_unit_zero hz, View.ld_unit_zero hz]
  rfl
theorem reg1 : reg_main_v0_1 m c = (m ((c.tc : Thread nD τ).loc main_arg2) : S2x896x8x128.Idx → EReal) := by
  refine (dats m 0 c).arrAt_eq_of_cover 4 _ (fun t _ => ?_) (Pipeline.Window.Covers.cover _ (by decide +kernel) (Memref.isWhole_whole _))
  show (cfg0.win 4).cut (grid0.coords t) ((dats m 0 c).after 4 t) = _
  rw [after0_4]
  unfold out0_4
  rw [View.canon_unit_zero hz, View.ld_unit_zero hz]
  rfl
theorem reg2 : reg_main_v0_2 m c = (m ((c.tc : Thread nD τ).loc main_arg4) : S2x896x8x128.Idx → EReal) := by
  refine (dats m 0 c).arrAt_eq_of_cover 5 _ (fun t _ => ?_) (Pipeline.Window.Covers.cover _ (by decide +kernel) (Memref.isWhole_whole _))
  show (cfg0.win 5).cut (grid0.coords t) ((dats m 0 c).after 5 t) = _
  rw [after0_5]
  unfold out0_5
  rw [View.canon_unit_zero hz, View.ld_unit_zero hz]
  rfl

theorem rowfold (op : EReal → EReal → EReal) [Std.Commutative op] [Std.Associative op] (s : FVec Ideal S2x8x7x896x896 .f32) (z : FVec Ideal S_ .f32) (b : Fin 2) (g : Fin 8) (r : Fin 7) (i : Fin 896) :
    (Host.reduce (α := EReal) op s z reducesTo_S2x8x7x896x896_S2x8x7x896_d4 h_S_ : FVec Ideal S2x8x7x896 .f32) (ix4 b g r i)
      = Finset.fold op (z (Shape.Idx.first h_S_)) (fun x => s (ix5 b g r i x)) Finset.univ := by
  pointwise

theorem rowmax (s : FVec Ideal S2x8x7x896x896 .f32) (z : FVec Ideal S_ .f32) (b : Fin 2) (g : Fin 8) (r : Fin 7) (i : Fin 896) :
    (Host.reduce FloatOps.maximumf s z reducesTo_S2x8x7x896x896_S2x8x7x896_d4 h_S_ : FVec Ideal S2x8x7x896 .f32) (ix4 b g r i)
      = Finset.fold max (z (Shape.Idx.first h_S_)) (fun x => s (ix5 b g r i x)) Finset.univ := rowfold max s z b g r i

theorem andi_eq (x y : BitVec 1) : IntOp.andi x y = 1#1 ↔ x = 1#1 ∧ y = 1#1 := by
  revert x y; decide
theorem ori_eq (x y : BitVec 1) : IntOp.ori x y = 1#1 ↔ x = 1#1 ∨ y = 1#1 := by
  revert x y; decide
theorem ofBool_eq (p : Bool) : BitVec.ofBool p = 1#1 ↔ p = true := by cases p <;> decide
theorem cmpi_eq_one (x y : BitVec 32) : IntOp.cmpi .eq x y = 1#1 ↔ x = y := by
  unfold IntOp.cmpi; rw [ofBool_eq]; exact beq_iff_eq
theorem slt_ofNat (u : ℕ) (hu : u < 1000) (n : BitVec 32) : IntOp.cmpi .slt (BitVec.ofNat 32 u) n = 1#1 ↔ (u : ℤ) < n.toInt := by
  unfold IntOp.cmpi; rw [ofBool_eq, BitVec.slt_iff_toInt_lt]
  rw [BitVec.toInt_ofNat', Int.bmod_eq_of_le (by omega) (by omega)]
theorem sub_ofNat (i j : Fin 896) (h : j.val ≤ i.val) : IntOp.subi (BitVec.ofNat 32 i.val) (BitVec.ofNat 32 j.val) = BitVec.ofNat 32 (i.val - j.val) := by
  unfold IntOp.subi
  apply BitVec.eq_of_toNat_eq
  rw [BitVec.toNat_sub, BitVec.toNat_ofNat, BitVec.toNat_ofNat, BitVec.toNat_ofNat]
  omega
theorem vis_iff (i j : Fin 896) : IntOp.cmpi .sge (IntOp.subi (BitVec.ofNat 32 i.val) (BitVec.ofNat 32 j.val)) 0#32 = 1#1 ↔ j.val ≤ i.val := by
  have hi : (BitVec.ofNat 32 i.val).toInt = i.val := by rw [BitVec.toInt_ofNat', Int.bmod_eq_of_le (by omega) (by omega)]
  have hj : (BitVec.ofNat 32 j.val).toInt = j.val := by rw [BitVec.toInt_ofNat', Int.bmod_eq_of_le (by omega) (by omega)]
  unfold IntOp.cmpi IntOp.subi
  rw [ofBool_eq, BitVec.sle_iff_toInt_le, BitVec.toInt_sub, hi, hj, Int.bmod_eq_of_le (by omega) (by omega)]
  simp

theorem ninf : Ideal.ofBits FTy.f32 4286578688#32 = (⊥ : EReal) := by
  simp [Ideal.ofBits, Ideal.ieee]
theorem c128 : Ideal.sqrt (Ideal.ofBits FTy.f32 1124073472#32) = ((Real.sqrt 128 : ℝ) : EReal) := by
  have : Ideal.ofBits FTy.f32 1124073472#32 = ((128 : ℝ) : EReal) := by
    simp [Ideal.ofBits, Ideal.ieee, -EReal.coe_mul]
    exact_mod_cast (by norm_num : (8388608 : ℝ) * (2 ^ 16)⁻¹ = 128)
  rw [this]
  show (if (128 : ℝ) < 0 then (⊥ : EReal) else ((Real.sqrt 128 : ℝ) : EReal)) = _
  rw [if_neg (by norm_num)]

open Classical in
theorem sco_eq (x : Inp) (b : Fin 2) (g : Fin 8) (r : Fin 7) (i j : Fin 896) (w : EReal)
    (hw : w = x.dot b g r i j * Ideal.div (x.qs b (Inp.hd g r) * x.ks b g) ((Real.sqrt 128 : ℝ) : EReal)) :
    Scalar.select
      (IntOp.andi (IntOp.cmpi CmpIPredicate.sge (IntOp.subi (BitVec.ofNat 32 ↑i) (BitVec.ofNat 32 ↑j)) 0#32)
        (IntOp.ori
          (Finset.fold IntOp.ori (0#1)
            (fun u : Fin 160 => IntOp.andi (IntOp.cmpi CmpIPredicate.eq (x.vi b (Inp.hd g r) u) (BitVec.ofNat 32 ↑j))
                (IntOp.cmpi CmpIPredicate.slt (BitVec.ofNat 32 ↑u) (x.vc b (Inp.hd g r)))) Finset.univ)
          (Finset.fold IntOp.ori (0#1)
            (fun u : Fin 240 => IntOp.andi (IntOp.cmpi CmpIPredicate.eq (x.so b (Inp.hd g r) u) (IntOp.subi (BitVec.ofNat 32 ↑i) (BitVec.ofNat 32 ↑j)))
                (IntOp.cmpi CmpIPredicate.slt (BitVec.ofNat 32 ↑u) (x.sc b (Inp.hd g r)))) Finset.univ)))
      w (⊥ : EReal) = x.sco b g r i j := by
  have key : (IntOp.andi (IntOp.cmpi CmpIPredicate.sge (IntOp.subi (BitVec.ofNat 32 ↑i) (BitVec.ofNat 32 ↑j)) 0#32)
        (IntOp.ori
          (Finset.fold IntOp.ori (0#1)
            (fun u : Fin 160 => IntOp.andi (IntOp.cmpi CmpIPredicate.eq (x.vi b (Inp.hd g r) u) (BitVec.ofNat 32 ↑j))
                (IntOp.cmpi CmpIPredicate.slt (BitVec.ofNat 32 ↑u) (x.vc b (Inp.hd g r)))) Finset.univ)
          (Finset.fold IntOp.ori (0#1)
            (fun u : Fin 240 => IntOp.andi (IntOp.cmpi CmpIPredicate.eq (x.so b (Inp.hd g r) u) (IntOp.subi (BitVec.ofNat 32 ↑i) (BitVec.ofNat 32 ↑j)))
                (IntOp.cmpi CmpIPredicate.slt (BitVec.ofNat 32 ↑u) (x.sc b (Inp.hd g r)))) Finset.univ))) = 1#1 ↔ x.vis b (Inp.hd g r) i j := by
    rw [andi_eq, ori_eq, Routing.fold_ori, Routing.fold_ori, vis_iff]
    unfold Inp.vis Inp.inV Inp.inS
    refine and_congr_right fun h => ?_
    rw [sub_ofNat i j h]
    refine or_congr ?_ ?_
    · exact exists_congr fun u => by rw [andi_eq, cmpi_eq_one, slt_ofNat u.val (by omega)]; simp
    · exact exists_congr fun u => by rw [andi_eq, cmpi_eq_one, slt_ofNat u.val (by omega)]; simp
  unfold Scalar.select Inp.sco
  by_cases h : x.vis b (Inp.hd g r) i j
  · rw [if_pos h, ← hw]; simp only [key.2 h]; rfl
  · rw [if_neg h]
    exact if_neg fun hh => h (key.1 hh)

theorem s_apply (V0 : Valuation τ sig (Elt Ideal)) (x : Inp)
    (h0 : ∀ b i h e, (V0 (Proc.devRef .tc main_v0_0) : S2x896x56x128.Idx → EReal) (ix4 b i h e) = x.q b i h e)
    (h1 : ∀ b h, (V0 (Proc.devRef .tc main_arg1) : S2x56.Idx → EReal) (ix2 b h) = x.qs b h)
    (h2 : ∀ b i h e, (V0 (Proc.devRef .tc main_v0_1) : S2x896x8x128.Idx → EReal) (ix4 b i h e) = x.k b i h e)
    (h3 : ∀ b h, (V0 (Proc.devRef .tc main_arg3) : S2x8.Idx → EReal) (ix2 b h) = x.ks b h)
    (h6 : ∀ b h u, (V0 (Proc.devRef .tc main_arg6) : S2x56x160.Idx → BitVec 32) (ix3 b h u) = x.vi b h u)
    (h7 : ∀ b h, (V0 (Proc.devRef .tc main_arg7) : S2x56.Idx → BitVec 32) (ix2 b h) = x.vc b h)
    (h8 : ∀ b h u, (V0 (Proc.devRef .tc main_arg8) : S2x56x240.Idx → BitVec 32) (ix3 b h u) = x.so b h u)
    (h9 : ∀ b h, (V0 (Proc.devRef .tc main_arg9) : S2x56.Idx → BitVec 32) (ix2 b h) = x.sc b h)
    (b : Fin 2) (g : Fin 8) (r : Fin 7) (i j : Fin 896) :
    (res_main_v59 V0 : S2x8x7x896x896.Idx → EReal) (ix5 b g r i j) = x.sco b g r i j := by
  unfold res_main_v59
  clean_types
  pointwise [res_main_v6, res_main_v1]
  rw [c128, ← sco_eq x b g r i j _ rfl]
  have hinf : (id (constant S_ FTy.f32 4286578688#32) ix0 : Ideal .f32) = (⊥ : EReal) := ninf
  rw [hinf]
  unfold Inp.dot
  simp only [← h0, ← h1, ← h2, ← h3, ← h6, ← h7, ← h8, ← h9]
  rfl

/-- The scores, the exponentials and the row sums as arrays of extended reals. -/
abbrev r59 (V0 : Valuation τ sig (Elt Ideal)) : S2x8x7x896x896.Idx → EReal := res_main_v59 V0
abbrev r64 (V0 : Valuation τ sig (Elt Ideal)) : S2x8x7x896x896.Idx → EReal := res_main_v64 V0
abbrev r66 (V0 : Valuation τ sig (Elt Ideal)) : S2x8x7x896x1.Idx → EReal := res_main_v66 V0

theorem exp_row (s : FVec Ideal S2x8x7x896x896 .f32) (b : Fin 2) (g : Fin 8) (r : Fin 7) (i j : Fin 896) :
    (Host.exp (subf s (broadcastInDim S2x8x7x896x896 ![0, 1, 2, 3, 4] bcast_S2x8x7x896x1_S2x8x7x896x896_0_1_2_3_4
        (broadcastInDim S2x8x7x896x1 ![0, 1, 2, 3] bcast_S2x8x7x896_S2x8x7x896x1_0_1_2_3
          (Host.reduce FloatOps.maximumf s (constant S_ .f32 0xFF800000#32) reducesTo_S2x8x7x896x896_S2x8x7x896_d4 h_S_)))) : FVec Ideal S2x8x7x896x896 .f32) (ix5 b g r i j)
      = Ideal.exp (s (ix5 b g r i j) - Finset.fold max (⊥ : EReal) (fun j => s (ix5 b g r i j)) Finset.univ) := by
  have h := rowmax s (constant S_ .f32 0xFF800000#32) b g r i
  generalize Host.reduce FloatOps.maximumf s _ _ _ = M at *
  pointwise
  rw [h]
  have hinf : (constant S_ FTy.f32 4286578688#32 (Shape.Idx.first h_S_) : Ideal .f32) = (⊥ : EReal) := ninf
  rw [hinf]

/-- The values and the value scales as arrays of extended reals. -/
abbrev rv (V0 : Valuation τ sig (Elt Ideal)) : S2x896x8x128.Idx → EReal := V0 (Proc.devRef .tc main_v0_2)
abbrev rvs (V0 : Valuation τ sig (Elt Ideal)) : S2x8.Idx → EReal := V0 (Proc.devRef .tc main_arg5)

theorem e_apply (V0 : Valuation τ sig (Elt Ideal)) (b : Fin 2) (g : Fin 8) (r : Fin 7) (i j : Fin 896) :
    r64 V0 (ix5 b g r i j) = Ideal.exp (r59 V0 (ix5 b g r i j) - Finset.fold max ⊥ (fun j => r59 V0 (ix5 b g r i j)) Finset.univ) :=
  exp_row (res_main_v59 V0) b g r i j

theorem sum_row (s : FVec Ideal S2x8x7x896x896 .f32) (b : Fin 2) (g : Fin 8) (r : Fin 7) (i : Fin 896) :
    (broadcastInDim S2x8x7x896x1 ![0, 1, 2, 3] bcast_S2x8x7x896_S2x8x7x896x1_0_1_2_3 (Host.reduceAdd s (constant S_ .f32 0x00000000#32) reducesTo_S2x8x7x896x896_S2x8x7x896_d4 h_S_) : FVec Ideal S2x8x7x896x1 .f32) (ix5 b g r i 0)
      = ∑ j, (s (ix5 b g r i j) : EReal) := by
  pointwise

theorem t_apply (V0 : Valuation τ sig (Elt Ideal)) (b : Fin 2) (g : Fin 8) (r : Fin 7) (i : Fin 896) :
    r66 V0 (ix5 b g r i 0) = ∑ j, r64 V0 (ix5 b g r i j) := sum_row (res_main_v64 V0) b g r i

open Classical in
theorem out_row (v : FVec Ideal S2x896x8x128 .bf16) (E : FVec Ideal S2x8x7x896x896 .f32) (T : FVec Ideal S2x8x7x896x1 .f32) (vs : FVec Ideal S2x8 .f32)
    (b : Fin 2) (i : Fin 896) (g : Fin 8) (r : Fin 7) (d : Fin 128) (hy : (g.val * 7 + r.val) * 128 + d.val < 7168) :
    (truncf .bf16 (shapeCast _ (mulf (transpose S2x896x8x7x128 [0, 4, 1, 3, 2] (Host.dotGeneral dot_S2x896x8x128_S2x8x7x896x896_S2x8x128x7x896_1_4_3_23_02_01 none v (truncf .bf16 (select (broadcastInDim S2x8x7x896x896 ![0, 1, 2, 3, 4] bcast_S2x8x7x896x1_S2x8x7x896x896_0_1_2_3_4 (cmpf .ogt T (broadcastInDim S2x8x7x896x1 ![] bcast_S_S2x8x7x896x1 (constant S_ .f32 0x00000000#32)))) (Host.divf E (broadcastInDim S2x8x7x896x896 ![0, 1, 2, 3, 4] bcast_S2x8x7x896x1_S2x8x7x896x896_0_1_2_3_4 T)) (broadcastInDim S2x8x7x896x896 ![] bcast_S_S2x8x7x896x896 (id (constant S_ .f32 0x00000000#32)))) bitsLt_bf16_f32)) transposes_S2x8x128x7x896_S2x896x8x7x128_0_4_1_3_2) (broadcastInDim S2x896x8x7x128 ![0, 1, 2, 3, 4] bcast_S2x1x8x1x1_S2x896x8x7x128_0_1_2_3_4 (broadcastInDim S2x1x8x1x1 ![0, 2] bcast_S2x8_S2x1x8x1x1_0_2 vs))) shapeCasts_S2x896x8x7x128_S2x896x7168) bitsLt_bf16_f32 : FVec Ideal S2x896x7168 .bf16)
      (ix3 b i ⟨(g.val * 7 + r.val) * 128 + d.val, hy⟩)
      = (∑ j, v (ix4 b j g d) * (if (0 : EReal) < T (ix5 b g r i 0) then Ideal.div (E (ix5 b g r i j)) (T (ix5 b g r i 0)) else (0 : EReal))) * (vs (ix2 b g) : EReal) := by
  pointwise
  have e1 : ((g.val * 7 + r.val) * 128 + d.val) / 896 = g.val := by omega
  have e2 : ((g.val * 7 + r.val) * 128 + d.val) / 128 % 7 = r.val := by omega
  have e3 : ((g.val * 7 + r.val) * 128 + d.val) % 128 = d.val := by omega
  have hz0 : (id (constant S_ FTy.f32 0#32) ix0 : Ideal .f32) = (0 : EReal) := Ideal.ofBits_zero_f32
  simp only [e1, e2, e3, hz0]

/-- The reference's result, and its value inputs, as arrays of extended reals. -/
abbrev result : S2x896x7168.Idx → EReal :=
  Pipeline.afterTail₀ cfgs (Gen.dats m) 0 (Gen.V0 m) [Gen.hostOps1, Gen.hostOps1_1, Gen.hostOps1_2, Gen.hostOps1_3, Gen.hostOps1_4] c main_v79

/-- The reference's result at batch `b`, query `i`, column `128 (7 g + r) + d`. -/
theorem final (b : Fin 2) (i : Fin 896) (g : Fin 8) (r : Fin 7) (d : Fin 128) (hy : (g.val * 7 + r.val) * 128 + d.val < 7168) :
    result m c (ix3 b i ⟨(g.val * 7 + r.val) * 128 + d.val, hy⟩) = (inp m c).out b i g r d := by
  classical
  have hs : ∀ j, r59 (exitV m c) (ix5 b g r i j) = (inp m c).sco b g r i j := by
    intro j
    refine s_apply (exitV m c) (inp m c) ?_ ?_ ?_ ?_ ?_ ?_ ?_ ?_ b g r i j <;> intros
    · exact congrFun ((exit_main_v0_0 m c).trans (reg0 m c)) _
    · exact congrFun (exit_main_arg1 m c) _
    · exact congrFun ((exit_main_v0_1 m c).trans (reg1 m c)) _
    · exact congrFun (exit_main_arg3 m c) _
    · exact congrFun (exit_main_arg6 m c) _
    · exact congrFun (exit_main_arg7 m c) _
    · exact congrFun (exit_main_arg8 m c) _
    · exact congrFun (exit_main_arg9 m c) _
  have he : ∀ j, r64 (exitV m c) (ix5 b g r i j) = (inp m c).ex b g r i j := by
    intro j
    rw [e_apply]
    simp only [hs]
    rfl
  have ht : r66 (exitV m c) (ix5 b g r i 0) = (inp m c).tot b g r i := by
    rw [t_apply]
    simp only [he]
    rfl
  have hv : ∀ j, (exitV m c (Proc.devRef .tc main_v0_2) : S2x896x8x128.Idx → EReal) (ix4 b j g d) = (inp m c).v b j g d := fun j =>
    congrFun ((exit_main_v0_2 m c).trans (reg2 m c)) _
  have hvs : (exitV m c (Proc.devRef .tc main_arg5) : S2x8.Idx → EReal) (ix2 b g) = (inp m c).vs b g := congrFun (exit_main_arg5 m c) _
  refine (congrFun (fin_main_v79 m c) _).trans ?_
  refine (out_row (exitV m c (Proc.devRef .tc main_v0_2)) (res_main_v64 (exitV m c)) (res_main_v66 (exitV m c)) (exitV m c (Proc.devRef .tc main_arg5)) b i g r d hy).trans ?_
  change (∑ j, rv (exitV m c) (ix4 b j g d) * (if (0 : EReal) < r66 (exitV m c) (ix5 b g r i 0) then Ideal.div (r64 (exitV m c) (ix5 b g r i j)) (r66 (exitV m c) (ix5 b g r i 0)) else (0 : EReal))) * rvs (exitV m c) (ix2 b g) = _
  unfold Inp.out
  rw [ht]
  refine congrArg₂ (· * ·) (Finset.sum_congr rfl fun j _ => ?_) hvs
  rw [he j]
  exact congrArg₂ (· * ·) (hv j) rfl

end Cert.ReferenceIdeal.Hand
end
-- ==== Proof.Slab.lean ====
module

public import Idealize.ShloMosaic.Lib.Pointwise
public import Idealize.ShloMosaic.Lib.WritesUnit
public import Idealize.ShloMosaic.Lib.Pipeline.FrameBody

@[expose] public section

noncomputable section

/-! Reading back a list of stores, one slab at a time. -/
namespace Cert.Slab

open Idealize.ShloMosaic

variable {Val : EltTy → Type} {sig : RefSig} {κ : Kind} {sp : Space} {e : EltTy}

/-- What one store leaves at an index: its payload where its rectangle has it, else what was there. -/
theorem read_cons_unit {s : Shape} (v : View sig κ sp s e) (f : v.ty.Contents Val) {off size : Fin s.rank → ℕ} (inb : ∀ a, off a + size a ≤ s.size a)
    (w : (Rect.unit off size inb).shape.Idx → Val e) (L : List (View.Piece Val s e)) (y : s.Idx) (z : Val e)
    (hin : ∀ x : (Rect.unit off size inb).shape.Idx, (∀ a, (y a).val = off a + (x a).val) → w x = z)
    (hout : (∃ a, (y a).val < off a ∨ off a + size a ≤ (y a).val) → v.read Val (v.writes Val f L) y = z) :
    v.read Val (v.writes Val f ((⟨Rect.unit off size inb, w⟩ : View.Piece Val s e) :: L)) y = z := by
  by_cases h : ∀ a, off a ≤ (y a).val ∧ (y a).val < off a + size a
  · have hx : ∀ a, (y a).val = off a + (Rect.unitLocal (s := s) (off := off) (size := size) y h a).val := fun a => by
      have := h a; show (y a).val = off a + ((y a).val - off a); omega
    rw [View.read_writes_cons_unit_of_mem v f inb w L y _ rfl hx]
    exact hin _ hx
  · have hn : ∃ a, (y a).val < off a ∨ off a + size a ≤ (y a).val := by
      by_contra hc; push Not at hc; exact h hc
    obtain ⟨a, ha⟩ := hn
    rw [View.read_writes_cons_unit_of_not_mem v f inb w L y rfl a ha]
    exact hout ⟨a, ha⟩

/-- A load through a box, read at an index. -/
theorem readAt_at {s : Shape} (v : View sig κ sp s e) (B : LoadRect s) (f : v.ty.Contents Val) (x : B.shape.Idx) (y : s.Idx)
    (hy : ∀ a, (y a).val = B.off a + B.stride a * (x a).val) : v.readAt Val B f x = v.read Val f y :=
  congrArg (v.read Val f) (funext fun a => Fin.ext (hy a).symm)

theorem readAt2 {A B m n : ℕ} (v : View sig κ sp ⟨2, ![A, B]⟩ e) (f : v.ty.Contents Val) {off : Fin 2 → ℕ} (inb) (a : Fin m) (b : Fin n) (a' : Fin A) (b' : Fin B)
    (ha : a'.val = off 0 + a.val) (hb : b'.val = off 1 + b.val) :
    v.readAt Val (Rect.unit (s := ⟨2, ![A, B]⟩) off ![m, n] inb).toLoadRect f (ix2 a b) = v.read Val f (ix2 a' b') :=
  readAt_at v _ f _ _ fun i => match i with
    | 0 => by show a'.val = off 0 + 1 * a.val; omega
    | 1 => by show b'.val = off 1 + 1 * b.val; omega

/-- Every fourth row from row `k` on. -/
theorem readAt_stride {A B m n : ℕ} (v : View sig κ sp ⟨2, ![A, B]⟩ e) (f : v.ty.Contents Val) (k : ℕ) (inb) (a : Fin m) (b : Fin n) (a' : Fin A) (b' : Fin B)
    (ha : a'.val = 4 * a.val + k) (hb : b'.val = b.val) :
    v.readAt Val ({ off := ![k, 0], size := ![m, n], stride := ![4, 1], inb := inb } : LoadRect ⟨2, ![A, B]⟩) f (ix2 a b) = v.read Val f (ix2 a' b') :=
  readAt_at v _ f _ _ fun i => match i with
    | 0 => by show a'.val = k + 4 * a.val; omega
    | 1 => by show b'.val = 0 + 1 * b.val; omega

theorem readAt3 {A B C m n k : ℕ} (v : View sig κ sp ⟨3, ![A, B, C]⟩ e) (f : v.ty.Contents Val) {off : Fin 3 → ℕ} (inb) (a : Fin m) (b : Fin n) (c : Fin k) (a' : Fin A) (b' : Fin B) (c' : Fin C)
    (ha : a'.val = off 0 + a.val) (hb : b'.val = off 1 + b.val) (hc : c'.val = off 2 + c.val) :
    v.readAt Val (Rect.unit (s := ⟨3, ![A, B, C]⟩) off ![m, n, k] inb).toLoadRect f (ix3 a b c) = v.read Val f (ix3 a' b' c') :=
  readAt_at v _ f _ _ fun i => match i with
    | 0 => by show a'.val = off 0 + 1 * a.val; omega
    | 1 => by show b'.val = off 1 + 1 * b.val; omega
    | 2 => by show c'.val = off 2 + 1 * c.val; omega

theorem readAt4 {A B C D m n k l : ℕ} (v : View sig κ sp ⟨4, ![A, B, C, D]⟩ e) (f : v.ty.Contents Val) {off : Fin 4 → ℕ} (inb) (a : Fin m) (b : Fin n) (c : Fin k) (d : Fin l)
    (a' : Fin A) (b' : Fin B) (c' : Fin C) (d' : Fin D) (ha : a'.val = off 0 + a.val) (hb : b'.val = off 1 + b.val) (hc : c'.val = off 2 + c.val) (hd : d'.val = off 3 + d.val) :
    v.readAt Val (Rect.unit (s := ⟨4, ![A, B, C, D]⟩) off ![m, n, k, l] inb).toLoadRect f (ix4 a b c d) = v.read Val f (ix4 a' b' c' d') :=
  readAt_at v _ f _ _ fun i => match i with
    | 0 => by show a'.val = off 0 + 1 * a.val; omega
    | 1 => by show b'.val = off 1 + 1 * b.val; omega
    | 2 => by show c'.val = off 2 + 1 * c.val; omega
    | 3 => by show d'.val = off 3 + 1 * d.val; omega

section three
variable {K m n : ℕ}

theorem slab_in {k : ℕ} (hk : k < K) {off : Fin 3 → ℕ} (ho : off = ![k, 0, 0]) {α : Type} (w : (⟨3, ![1, m, n]⟩ : Shape).Idx → α) (G : Fin K → Fin m → Fin n → α)
    (h : Fin K) (a : Fin m) (b : Fin n) (hw : ∀ a b, w (ix3 0 a b) = G ⟨k, hk⟩ a b) (x : (⟨3, ![1, m, n]⟩ : Shape).Idx)
    (hx : ∀ i : Fin 3, ((ix3 h a b : (⟨3, ![K, m, n]⟩ : Shape).Idx) i).val = off i + (x i).val) : w x = G h a b := by
  subst ho
  have h0 : h.val = k + (x 0).val := hx 0
  have h1 : a.val = 0 + (x 1).val := hx 1
  have h2 : b.val = 0 + (x 2).val := hx 2
  have l0 : (x 0).val < 1 := (x 0).isLt
  have hxe : x = ix3 0 a b := funext fun i => match i with
    | 0 => Fin.ext (show (x 0).val = 0 by omega)
    | 1 => Fin.ext (show (x 1).val = a.val by omega)
    | 2 => Fin.ext (show (x 2).val = b.val by omega)
  rw [hxe, hw]
  congr 1
  exact Fin.ext (show k = h.val by omega)

theorem slab_out {k : ℕ} {off : Fin 3 → ℕ} (ho : off = ![k, 0, 0]) (h : Fin K) (a : Fin m) (b : Fin n)
    (hx : ∃ i : Fin 3, ((ix3 h a b : (⟨3, ![K, m, n]⟩ : Shape).Idx) i).val < off i ∨ off i + (![1, m, n] : Fin 3 → ℕ) i ≤ ((ix3 h a b : (⟨3, ![K, m, n]⟩ : Shape).Idx) i).val) : h.val ≠ k := by
  subst ho
  obtain ⟨i, hi⟩ := hx
  intro hk
  match i, hi with
  | 0, hi => have hi : h.val < k ∨ k + 1 ≤ h.val := hi; omega
  | 1, hi => have hi : a.val < 0 ∨ 0 + m ≤ a.val := hi; omega
  | 2, hi => have hi : b.val < 0 ∨ 0 + n ≤ b.val := hi; omega

/-- A store of the slab `k` of a stack, read back. -/
theorem read_slab (v : View sig κ sp ⟨3, ![K, m, n]⟩ e) (f : v.ty.Contents Val) (k : ℕ) (hk : k < K) {off : Fin 3 → ℕ} (inb) (w : (⟨3, ![1, m, n]⟩ : Shape).Idx → Val e)
    (L : List (View.Piece Val ⟨3, ![K, m, n]⟩ e)) (G : Fin K → Fin m → Fin n → Val e) (h : Fin K) (a : Fin m) (b : Fin n) (ho : off = ![k, 0, 0])
    (hw : ∀ a b, w (ix3 0 a b) = G ⟨k, hk⟩ a b) (hL : h.val ≠ k → v.read Val (v.writes Val f L) (ix3 h a b) = G h a b) :
    v.read Val (v.writes Val f ((⟨Rect.unit (s := ⟨3, ![K, m, n]⟩) off ![1, m, n] inb, w⟩ : View.Piece Val ⟨3, ![K, m, n]⟩ e) :: L)) (ix3 h a b) = G h a b :=
  read_cons_unit v f inb w L _ _ (slab_in hk ho w G h a b hw) fun hx => hL (slab_out ho h a b hx)

/-- The same for a property of the entry read. -/
theorem pred_slab (v : View sig κ sp ⟨3, ![K, m, n]⟩ e) (f : v.ty.Contents Val) (P : Fin K → Fin m → Fin n → Val e → Prop) (k : ℕ) (hk : k < K) {off : Fin 3 → ℕ} (inb) (w : (⟨3, ![1, m, n]⟩ : Shape).Idx → Val e)
    (L : List (View.Piece Val ⟨3, ![K, m, n]⟩ e)) (h : Fin K) (a : Fin m) (b : Fin n) (ho : off = ![k, 0, 0])
    (hw : ∀ a b, P ⟨k, hk⟩ a b (w (ix3 0 a b))) (hL : h.val ≠ k → P h a b (v.read Val (v.writes Val f L) (ix3 h a b))) :
    P h a b (v.read Val (v.writes Val f ((⟨Rect.unit (s := ⟨3, ![K, m, n]⟩) off ![1, m, n] inb, w⟩ : View.Piece Val ⟨3, ![K, m, n]⟩ e) :: L)) (ix3 h a b)) := by
  have := read_slab v f k hk inb w L (fun h' a b => if h'.val = k then w (ix3 0 a b) else v.read Val (v.writes Val f L) (ix3 h' a b)) h a b ho
    (fun a b => (if_pos rfl).symm) (fun hn => (if_neg hn).symm)
  rw [this]
  by_cases hh : h.val = k
  · rw [if_pos hh]; have : h = ⟨k, hk⟩ := Fin.ext hh
    rw [this]; exact hw a b
  · rw [if_neg hh]; exact hL hh

end three

end Cert.Slab

end
-- ==== Proof.Words.lean ====
module

public import Idealize.ShloMosaic.PureOps
public import Idealize.ShloMosaic.Lib.Pointwise

@[expose] public section

namespace Cert.Words

open Idealize.ShloMosaic

/-- A mask word: byte `k` of `w` is `0x78` where `p k`, and zero elsewhere. -/
def IsMask (w : BitVec 32) (p : ℕ → Prop) : Prop := ∀ q, q < 32 → (w.getLsbD q = true ↔ 3 ≤ q % 8 ∧ q % 8 ≤ 6 ∧ p (q / 8))

theorem IsMask.congr {w : BitVec 32} {p p' : ℕ → Prop} (h : IsMask w p) (hp : ∀ k, k < 4 → (p k ↔ p' k)) : IsMask w p' := fun q hq => by
  rw [h q hq, hp (q / 8) (by omega)]

theorem IsMask.and {a b : BitVec 32} {p p' : ℕ → Prop} (h : IsMask a p) (h' : IsMask b p') : IsMask (IntOp.andi a b) fun k => p k ∧ p' k := fun q hq => by
  unfold IntOp.andi; rw [BitVec.getLsbD_and, Bool.and_eq_true, h q hq, h' q hq]; tauto

theorem IsMask.or {a b : BitVec 32} {p p' : ℕ → Prop} (h : IsMask a p) (h' : IsMask b p') : IsMask (IntOp.ori a b) fun k => p k ∨ p' k := fun q hq => by
  unfold IntOp.ori; rw [BitVec.getLsbD_or, Bool.or_eq_true, h q hq, h' q hq]; tauto

theorem IsMask.ite {a b : BitVec 32} {p p' : ℕ → Prop} (c : Prop) [Decidable c] (h : IsMask a p) (h' : IsMask b p') : IsMask (if c then a else b) fun k => if c then p k else p' k := by
  split <;> simp_all

theorem isMask_all : IsMask 0x78787878#32 fun _ => True := by
  intro q hq; simp only [and_true]; revert q; decide

theorem isMask_zero : IsMask 0#32 fun _ => False := by
  intro q hq; simp

theorem isMask_byte (k : ℕ) (hk : k < 4) : IsMask (0x78#32 <<< (8 * k)) fun j => j = k := by
  interval_cases k <;> (intro q hq; revert q; decide)

theorem IsMask.byte {w : BitVec 32} {p : ℕ → Prop} (h : IsMask w p) (k : ℕ) (hk : k < 4) (x : BitVec 8) (hx : ∀ q, q < 8 → x.getLsbD q = w.getLsbD (8 * k + q)) [Decidable (p k)] :
    x = if p k then 0x78#8 else 0#8 := by
  apply BitVec.eq_of_getLsbD_eq
  intro q hq
  have := h (8 * k + q) (by omega)
  rw [show (8 * k + q) % 8 = q by omega, show (8 * k + q) / 8 = k by omega] at this
  rw [hx q hq]
  by_cases hp : p k
  · rw [if_pos hp, Bool.eq_iff_iff, this]; simp only [hp, and_true]; interval_cases q <;> decide
  · rw [if_neg hp, Bool.eq_iff_iff, this]; simp [hp]

/-! ## Spreading one bit of each byte -/

theorem shli_of_lt (x y : BitVec 32) (n : ℕ) (h : y.toNat = n) (hn : n < 32) : IntOp.shli .vector x y = x <<< n := by
  unfold IntOp.shli; rw [if_pos (by omega)]; show x <<< y.toNat = _; rw [h]
theorem shrui_of_lt (x y : BitVec 32) (n : ℕ) (h : y.toNat = n) (hn : n < 32) : IntOp.shrui .vector x y = x >>> n := by
  unfold IntOp.shrui; rw [if_pos (by omega)]; show x >>> y.toNat = _; rw [h]
theorem shrsi_of_lt (x y : BitVec 32) (n : ℕ) (h : y.toNat = n) (hn : n < 32) : IntOp.shrsi .vector x y = x.sshiftRight n := by
  unfold IntOp.shrsi; rw [if_pos (by omega)]; show x.sshiftRight y.toNat = _; rw [h]

theorem msb_bits : ∀ q, q < 32 → ((2155905152#32).getLsbD q = true ↔ q % 8 = 7) := by decide

/-- The bits of `m`, then of the sum of its four shifts. -/
theorem isMask_spread (m : BitVec 32) (p : ℕ → Prop) (hm : ∀ q, q < 32 → (m.getLsbD q = true ↔ q % 8 = 6 ∧ p (q / 8))) :
    IsMask (((m + m >>> 1) + m >>> 2) + m >>> 3) p := by
  have hb : ∀ s q, s ≤ 3 → (m.getLsbD (s + q) = true ↔ s + q < 32 ∧ (s + q) % 8 = 6 ∧ p ((s + q) / 8)) := by
    intro s q hs
    by_cases h : s + q < 32
    · rw [hm _ h]; simp [h]
    · rw [BitVec.getLsbD_of_ge _ _ (by omega)]; simp [h]
  have hb0 : ∀ q, (m.getLsbD q = true ↔ q < 32 ∧ q % 8 = 6 ∧ p (q / 8)) := by
    intro q; have := hb 0 q (by omega); simpa using this
  have z1 : m &&& m >>> 1 = 0#32 := by
    apply BitVec.eq_of_getLsbD_eq; intro q hq
    rw [BitVec.getLsbD_and, BitVec.getLsbD_ushiftRight, Bool.eq_iff_iff, Bool.and_eq_true, hb0, hb 1 q (by omega)]
    simp; omega
  have z2 : (m ||| m >>> 1) &&& m >>> 2 = 0#32 := by
    apply BitVec.eq_of_getLsbD_eq; intro q hq
    rw [BitVec.getLsbD_and, BitVec.getLsbD_or, BitVec.getLsbD_ushiftRight, BitVec.getLsbD_ushiftRight, Bool.eq_iff_iff, Bool.and_eq_true, Bool.or_eq_true, hb0, hb 1 q (by omega), hb 2 q (by omega)]
    simp; omega
  have z3 : (m ||| m >>> 1 ||| m >>> 2) &&& m >>> 3 = 0#32 := by
    apply BitVec.eq_of_getLsbD_eq; intro q hq
    rw [BitVec.getLsbD_and, BitVec.getLsbD_or, BitVec.getLsbD_or, BitVec.getLsbD_ushiftRight, BitVec.getLsbD_ushiftRight, BitVec.getLsbD_ushiftRight, Bool.eq_iff_iff, Bool.and_eq_true, Bool.or_eq_true, Bool.or_eq_true, hb0, hb 1 q (by omega), hb 2 q (by omega), hb 3 q (by omega)]
    simp; omega
  rw [BitVec.add_eq_or_of_and_eq_zero _ _ z1, BitVec.add_eq_or_of_and_eq_zero _ _ z2, BitVec.add_eq_or_of_and_eq_zero _ _ z3]
  intro q hq
  rw [BitVec.getLsbD_or, BitVec.getLsbD_or, BitVec.getLsbD_or, BitVec.getLsbD_ushiftRight, BitVec.getLsbD_ushiftRight, BitVec.getLsbD_ushiftRight, Bool.or_eq_true, Bool.or_eq_true, Bool.or_eq_true, hb0, hb 1 q (by omega), hb 2 q (by omega), hb 3 q (by omega)]
  constructor
  · rintro (((h | h) | h) | h)
    · exact ⟨by omega, by omega, h.2.2⟩
    · exact ⟨by omega, by omega, by rw [show q / 8 = (1 + q) / 8 by omega]; exact h.2.2⟩
    · exact ⟨by omega, by omega, by rw [show q / 8 = (2 + q) / 8 by omega]; exact h.2.2⟩
    · exact ⟨by omega, by omega, by rw [show q / 8 = (3 + q) / 8 by omega]; exact h.2.2⟩
  · rintro ⟨h3, h6, hp⟩
    obtain h | h | h | h : q % 8 = 6 ∨ q % 8 = 5 ∨ q % 8 = 4 ∨ q % 8 = 3 := by omega
    · exact .inl (.inl (.inl ⟨hq, h, hp⟩))
    · exact .inl (.inl (.inr ⟨by omega, by omega, by rw [show (1 + q) / 8 = q / 8 by omega]; exact hp⟩))
    · exact .inl (.inr ⟨by omega, by omega, by rw [show (2 + q) / 8 = q / 8 by omega]; exact hp⟩)
    · exact .inr ⟨by omega, by omega, by rw [show (3 + q) / 8 = q / 8 by omega]; exact hp⟩

/-- Bit `t` of each byte of `w`, spread to the byte `0x78`, as the kernel does it (`s` the shift `7 - t`). -/
theorem isMask_expand (w s : BitVec 32) (t : ℕ) (hs : s.toNat + t = 7) :
    let m := IntOp.shrui .vector (IntOp.andi (IntOp.shli .vector w s) 2155905152#32) 1#32
    IsMask (IntOp.addi (IntOp.addi (IntOp.addi m (IntOp.shrui .vector m 1#32)) (IntOp.shrui .vector m 2#32)) (IntOp.shrui .vector m 3#32)) fun k => w.getLsbD (8 * k + t) = true := by
  intro m
  have hm : m = ((w <<< s.toNat) &&& 2155905152#32) >>> 1 := by
    show IntOp.shrui .vector _ _ = _
    rw [shrui_of_lt _ _ 1 rfl (by omega), shli_of_lt _ _ _ rfl (by omega)]; rfl
  rw [shrui_of_lt _ _ 1 rfl (by omega), shrui_of_lt _ _ 2 rfl (by omega), shrui_of_lt _ _ 3 rfl (by omega)]
  refine isMask_spread m _ fun q hq => ?_
  rw [hm, BitVec.getLsbD_ushiftRight, BitVec.getLsbD_and, Bool.and_eq_true]
  by_cases h : q = 31
  · subst h; simp
  · rw [msb_bits (1 + q) (by omega), BitVec.getLsbD_shiftLeft]
    constructor
    · rintro ⟨h1, h2⟩
      simp only [Bool.and_eq_true] at h1
      exact ⟨by omega, by rw [show 8 * (q / 8) + t = 1 + q - s.toNat by omega]; exact h1.2⟩
    · rintro ⟨h1, h2⟩
      refine ⟨?_, by omega⟩
      rw [show 1 + q - s.toNat = 8 * (q / 8) + t by omega, h2]
      simp; omega

/-! ## Four bytes put in a word -/

theorem word4 (a b c d : BitVec 32) (ha : ∀ q, 8 ≤ q → a.getLsbD q = false) (hb : ∀ q, 8 ≤ q → b.getLsbD q = false)
    (hc : ∀ q, 8 ≤ q → c.getLsbD q = false) (hd : ∀ q, 8 ≤ q → d.getLsbD q = false) (k t : ℕ) (hk : k < 4) (ht : t < 8) :
    (IntOp.ori (IntOp.ori (IntOp.ori a (IntOp.shli .vector b 8#32)) (IntOp.shli .vector c 16#32)) (IntOp.shli .vector d 24#32)).getLsbD (8 * k + t)
      = (if k = 0 then a else if k = 1 then b else if k = 2 then c else d).getLsbD t := by
  rw [shli_of_lt _ _ 8 rfl (by omega), shli_of_lt _ _ 16 rfl (by omega), shli_of_lt _ _ 24 rfl (by omega)]
  unfold IntOp.ori
  rw [BitVec.getLsbD_or, BitVec.getLsbD_or, BitVec.getLsbD_or, BitVec.getLsbD_shiftLeft, BitVec.getLsbD_shiftLeft, BitVec.getLsbD_shiftLeft]
  obtain rfl | rfl | rfl | rfl : k = 0 ∨ k = 1 ∨ k = 2 ∨ k = 3 := by omega
  · simp [show t < 16 by omega, show t < 24 by omega, ht]
  · rw [ha _ (by omega)]
    simp [show 8 + t < 32 by omega, show 8 + t < 16 by omega, show 8 + t < 24 by omega]
  · rw [ha _ (by omega), show 8 * 2 + t - 8 = 8 + t by omega, hb _ (by omega)]
    simp [show 16 + t < 32 by omega, show 16 + t < 24 by omega]
  · rw [ha _ (by omega), show 8 * 3 + t - 8 = 16 + t by omega, hb _ (by omega), show 8 * 3 + t - 16 = 8 + t by omega, hc _ (by omega)]
    simp [show 24 + t < 32 by omega]

/-! ## One entry of a list: the tile it names as a bit above the lane it names -/

theorem shiftRight7 (x : BitVec 32) (t : ℕ) (ht : t < 7) : (x.sshiftRight 7 + 7#32).toNat = 7 + t ↔ x.toNat / 128 = t := by
  have h := BitVec.isLt x
  have : (x.sshiftRight 7).toInt = x.toInt / 128 := by rw [BitVec.toInt_sshiftRight, Int.shiftRight_eq_div_pow]; norm_num
  rw [BitVec.toNat_add]
  have h7 : (7#32).toNat = 7 := rfl
  have hx := BitVec.toInt_eq_toNat_cond x
  have hs := BitVec.toInt_eq_toNat_cond (x.sshiftRight 7)
  have hl := BitVec.isLt (x.sshiftRight 7)
  rw [h7]
  split at hx <;> split at hs <;> omega

theorem entry_bit_aux (x l : BitVec 32) (t L : ℕ) (ht : t < 7) (hL : l = BitVec.ofNat 32 L) (hL' : L < 128) :
    (if IntOp.andi (IntOp.ori (IntOp.shli .vector 1#32 (IntOp.addi (IntOp.shrsi .vector x 7#32) 7#32)) (IntOp.andi x 127#32)) 127#32 = l
      then IntOp.ori (IntOp.shli .vector 1#32 (IntOp.addi (IntOp.shrsi .vector x 7#32) 7#32)) (IntOp.andi x 127#32) else 0#32).getLsbD (7 + t) = true
      ↔ x = BitVec.ofNat 32 (128 * t + L) := by
  rw [shrsi_of_lt _ _ 7 rfl (by omega)]
  unfold IntOp.addi IntOp.ori IntOp.andi
  have hm : ∀ q, (127#32).getLsbD q = decide (q < 7) := by
    intro q; by_cases hq : q < 32
    · revert q; decide
    · rw [BitVec.getLsbD_of_ge _ _ (by omega)]; simp; omega
  have hx127 : (x &&& 127#32).toNat = x.toNat % 128 := by
    rw [BitVec.toNat_and, show (127#32).toNat = 2 ^ 7 - 1 from rfl, Nat.and_two_pow_sub_one_eq_mod]
  have hlN : l.toNat = L := by rw [hL, BitVec.toNat_ofNat]; omega
  set a := x.sshiftRight 7 + 7#32 with ha
  have hsh : ∀ q, (IntOp.shli .vector 1#32 a).getLsbD q = true ↔ q < 32 ∧ a.toNat = q := by
    intro q
    by_cases h : a.toNat < 32
    · rw [shli_of_lt _ _ _ rfl h, BitVec.getLsbD_shiftLeft]
      simp only [Bool.and_eq_true, decide_eq_true_eq, BitVec.getLsbD_one, Bool.not_eq_true', decide_eq_false_iff_not]
      omega
    · have : IntOp.shli .vector 1#32 a = 0#32 := by unfold IntOp.shli; rw [if_neg h]; rfl
      rw [this]; simp; omega
  have hb : (IntOp.shli .vector 1#32 a ||| x &&& 127#32).getLsbD (7 + t) = true ↔ x.toNat / 128 = t := by
    rw [BitVec.getLsbD_or, BitVec.getLsbD_and, hm, Bool.or_eq_true, hsh, ← shiftRight7 x t ht, ← ha]
    simp; omega
  have hX : x = BitVec.ofNat 32 (128 * t + L) ↔ x.toNat / 128 = t ∧ x.toNat % 128 = L := by
    rw [← BitVec.toNat_inj, BitVec.toNat_ofNat]; omega
  rw [hX]
  by_cases hc : a.toNat = 7 + t
  · have hand : (IntOp.shli .vector 1#32 a ||| x &&& 127#32) &&& 127#32 = x &&& 127#32 := by
      apply BitVec.eq_of_getLsbD_eq; intro q hq
      rw [BitVec.getLsbD_and, BitVec.getLsbD_or, BitVec.getLsbD_and, hm, Bool.eq_iff_iff]
      simp only [Bool.and_eq_true, Bool.or_eq_true, hsh, decide_eq_true_eq]
      constructor
      · rintro ⟨h | h, h'⟩
        · omega
        · exact h
      · rintro h; exact ⟨.inr h, h.2⟩
    have hx := (shiftRight7 x t ht).1 (by rw [← ha]; exact hc)
    rw [hand]
    by_cases he : x &&& 127#32 = l
    · rw [if_pos he, hb]
      have : x.toNat % 128 = L := by rw [← hx127, he, hlN]
      tauto
    · rw [if_neg he]
      have : ¬ x.toNat % 128 = L := fun h => he (by rw [← BitVec.toNat_inj, hx127, hlN, h])
      simp [this]
  · have hx : ¬ x.toNat / 128 = t := fun h => hc (by rw [ha]; exact (shiftRight7 x t ht).2 h)
    simp only [hx, false_and, iff_false]
    split
    · rw [hb]; exact hx
    · simp

/-- What entry `u` adds to the accumulator at lane `l`: bit `7 + t` says that the entry is `128 t + l`. -/
theorem entry_bit (x u n l : BitVec 32) (t L : ℕ) (ht : t < 7) (hL : l = BitVec.ofNat 32 L) (hL' : L < 128) :
    (let col := Scalar.select (IntOp.cmpi .slt u n) (IntOp.ori (IntOp.shli .vector 1#32 (IntOp.addi (IntOp.shrsi .vector x 7#32) 7#32)) (IntOp.andi x 127#32)) 0#32
     Scalar.select (IntOp.cmpi .eq (IntOp.andi col 127#32) l) col 0#32).getLsbD (7 + t) = true ↔ u.toInt < n.toInt ∧ x = BitVec.ofNat 32 (128 * t + L) := by
  extract_lets col
  have hsel : ∀ {α : Type} (c : Bool) (a b : α), Scalar.select (BitVec.ofBool c) a b = if c = true then a else b := by
    intro α c a b; cases c <;> rfl
  have hslt : IntOp.cmpi .slt u n = BitVec.ofBool (u.slt n) := rfl
  have hcol : col = if u.slt n = true then IntOp.ori (IntOp.shli .vector 1#32 (IntOp.addi (IntOp.shrsi .vector x 7#32) 7#32)) (IntOp.andi x 127#32) else 0#32 := by
    show Scalar.select (IntOp.cmpi .slt u n) _ _ = _; rw [hslt, hsel]
  have heq : ∀ a : BitVec 32, IntOp.cmpi .eq a l = BitVec.ofBool (decide (a = l)) := fun a => by
    show BitVec.ofBool (a == l) = _; rfl
  have hsel' : ∀ a b : BitVec 32, Scalar.select (IntOp.cmpi .eq a l) b 0#32 = if a = l then b else 0#32 := fun a b => by
    rw [heq, hsel]; by_cases h : a = l <;> simp [h]
  rw [hcol]
  simp only [BitVec.slt_iff_toInt_lt]
  by_cases hu : u.toInt < n.toInt
  · simp only [if_pos hu, hu, true_and, hsel']
    exact entry_bit_aux x l t L ht hL hL'
  · simp only [if_neg hu, hsel']; simp [hu]

/-- The low seven bits of a word's eighth bit on, flipped. -/
theorem flip_bit (x : BitVec 32) (q : ℕ) :
    (IntOp.andi (IntOp.xori (IntOp.shrsi .vector x 7#32) 127#32) 127#32).getLsbD q = (decide (q < 7) && !x.getLsbD (7 + q)) := by
  rw [shrsi_of_lt _ _ 7 rfl (by omega)]
  unfold IntOp.andi IntOp.xori
  have hm : (127#32).getLsbD q = decide (q < 7) := by
    by_cases h : q < 32
    · revert q; decide
    · rw [BitVec.getLsbD_of_ge _ _ (by omega)]; simp; omega
  rw [BitVec.getLsbD_and, BitVec.getLsbD_xor, BitVec.getLsbD_sshiftRight, hm]
  by_cases h : q < 7
  · simp [h, show ¬ 32 ≤ q by omega, show 7 + q < 32 by omega]
  · simp [h]

/-- Shifted up by one with the lowest bit set. -/
theorem up_bit (x : BitVec 32) (q : ℕ) (hq : q < 32) :
    (IntOp.ori (IntOp.shli .vector x 1#32) 1#32).getLsbD q = if q = 0 then true else x.getLsbD (q - 1) := by
  rw [shli_of_lt _ _ 1 rfl (by omega)]
  unfold IntOp.ori
  rw [BitVec.getLsbD_or, BitVec.getLsbD_shiftLeft]
  by_cases h : q = 0
  · subst h; simp
  · have : (1#32).getLsbD q = false := by rw [BitVec.getLsbD_one]; simp; omega
    rw [this, if_neg h]; simp [hq, show ¬ q < 1 by omega]

theorem slt_small {α : Type} (l k : ℕ) (hl : l < 2 ^ 31) (hk : k < 2 ^ 31) (a b : α) :
    Scalar.select (IntOp.cmpi .slt (BitVec.ofNat 32 l) (BitVec.ofNat 32 k)) a b = if l < k then a else b := by
  have hi : ∀ n, n < 2 ^ 31 → (BitVec.ofNat 32 n).toInt = n := fun n hn => by
    rw [BitVec.toInt_eq_toNat_of_lt (by rw [BitVec.toNat_ofNat]; omega), BitVec.toNat_ofNat]; omega
  have h : IntOp.cmpi .slt (BitVec.ofNat 32 l) (BitVec.ofNat 32 k) = BitVec.ofBool (decide (l < k)) := by
    show BitVec.ofBool ((BitVec.ofNat 32 l).slt (BitVec.ofNat 32 k)) = _
    rw [BitVec.slt_eq_decide, hi l hl, hi k hk]; simp
  rw [h]
  by_cases hlk : l < k <;> simp [hlk, Scalar.select]

end Cert.Words
-- ==== Proof.Member.lean ====
module

public import proofs.«01_k».proof.Proof.KernelIdealBody
public import proofs.«01_k».proof.Proof.Slab
public import proofs.«01_k».proof.Proof.Words

@[expose] public section

set_option maxRecDepth 16384

noncomputable section

/-! The words that hold the members of a batch's two lists. -/
namespace Cert.KernelIdeal.Hand

open Cert.KernelIdeal Cert.KernelIdeal.Gen Cert.Slab Cert.Words
open Idealize.ShloMosaic

/-- A loop that ors one word a trip into an accumulator, at one entry and one bit. -/
theorem fold_or {n : ℕ} {s : Shape} (g : Fin n → IVec s 32 → IVec s 32) (init : IVec s 32) (y : s.Idx) (q : ℕ) (w : Fin n → BitVec 32)
    (hg : ∀ k acc, g k acc y = IntOp.ori (acc y) (w k)) :
    (Scf.fold g init y).getLsbD q = true ↔ (init y).getLsbD q = true ∨ ∃ k, (w k).getLsbD q = true := by
  rw [Scf.fold_eq]
  have key : ∀ (ks : List (Fin n)) (acc : IVec s 32), ((ks.foldl (fun acc k => g k acc) acc) y).getLsbD q = true ↔ (acc y).getLsbD q = true ∨ ∃ k ∈ ks, (w k).getLsbD q = true := by
    intro ks
    induction ks with
    | nil => intro acc; simp
    | cons k ks ih =>
      intro acc
      rw [List.foldl_cons, ih, hg]
      unfold IntOp.ori
      rw [BitVec.getLsbD_or, Bool.or_eq_true]
      simp only [List.mem_cons, exists_eq_or_imp]
      tauto
  rw [key]
  simp

/-- One trip: every lane whose number the entry in column `k` carries takes that entry. -/
noncomputable def trip (enc : IVec S56x128 32) (k : ℕ) (acc : IVec S56x128 32) : IVec S56x128 32 :=
  ori acc (select (cmpi .eq (andi (dynamicGather 1 enc (shapeCast S56x128 (shapeCast S56x128x1
    (select (cmpi .slt (broadcast S56x128 (Scf.iv 0#32 1#32 k)) (broadcast S56x128 0#32)) (addi (broadcast S56x128 (Scf.iv 0#32 1#32 k)) (broadcast S56x128 128#32)) (broadcast S56x128 (Scf.iv 0#32 1#32 k)))
      (by decide)) (by decide))) (broadcast S56x128 127#32)) bodyRun.sl.v8888)
    (dynamicGather 1 enc (shapeCast S56x128 (shapeCast S56x128x1
    (select (cmpi .slt (broadcast S56x128 (Scf.iv 0#32 1#32 k)) (broadcast S56x128 0#32)) (addi (broadcast S56x128 (Scf.iv 0#32 1#32 k)) (broadcast S56x128 128#32)) (broadcast S56x128 (Scf.iv 0#32 1#32 k)))
      (by decide)) (by decide))) (broadcast S56x128 0#32))

theorem trip_lane (k : Fin 128) : (Scalar.select (IntOp.cmpi .slt (Scf.iv 0#32 1#32 k.val) 0#32) (IntOp.addi (Scf.iv 0#32 1#32 k.val) 128#32) (Scf.iv 0#32 1#32 k.val)).toNat % 128 = k.val := by
  revert k; decide +kernel

theorem trip_apply (enc acc : IVec S56x128 32) (k : Fin 128) (h : Fin 56) (l : Fin 128) :
    trip enc k.val acc (ix2 h l) = IntOp.ori (acc (ix2 h l)) (Scalar.select (IntOp.cmpi .eq (IntOp.andi (enc (ix2 h k)) 127#32) (BitVec.ofNat 32 l.val)) (enc (ix2 h k)) 0#32) := by
  unfold trip
  pointwise [bodyRun.sl.v8888]
  have e : ∀ (p : _), (⟨(Scalar.select (IntOp.cmpi .slt (Scf.iv 0#32 1#32 k.val) 0#32) (IntOp.addi (Scf.iv 0#32 1#32 k.val) 128#32) (Scf.iv 0#32 1#32 k.val)).toNat % 128, p⟩ : Fin 128) = k := fun p => Fin.ext (trip_lane k)
  simp only [e]

/-- The words one loop leaves: bit `7 + t` of entry `(h, l)` says whether `128 t + l` is among the first entries of row `h`'s list. -/
theorem list_bits {n : ℕ} (hn : n ≤ 128) (enc : IVec S56x128 32) (init : IVec S56x128 32) (g : Fin n → IVec S56x128 32 → IVec S56x128 32) (hg : ∀ k acc, g k acc = trip enc k.val acc)
    (x : Fin n → BitVec 32) (N : BitVec 32) (o : ℕ) (h : Fin 56) (l : Fin 128)
    (he : ∀ k : Fin n, enc (ix2 h ⟨k.val, by omega⟩) = Scalar.select (IntOp.cmpi .slt (BitVec.ofNat 32 (o + k.val)) N)
      (IntOp.ori (IntOp.shli .vector 1#32 (IntOp.addi (IntOp.shrsi .vector (x k) 7#32) 7#32)) (IntOp.andi (x k) 127#32)) 0#32) (t : ℕ) (ht : t < 7) :
    (Scf.fold g init (ix2 h l)).getLsbD (7 + t) = true ↔ (init (ix2 h l)).getLsbD (7 + t) = true ∨ ∃ u : Fin n, (BitVec.ofNat 32 (o + u.val)).toInt < N.toInt ∧ x u = BitVec.ofNat 32 (128 * t + l.val) := by
  rw [fold_or g init (ix2 h l) (7 + t) (fun k => Scalar.select (IntOp.cmpi .eq (IntOp.andi (enc (ix2 h ⟨k.val, by omega⟩)) 127#32) (BitVec.ofNat 32 l.val)) (enc (ix2 h ⟨k.val, by omega⟩)) 0#32)
    fun k acc => (congrFun (hg k acc) _).trans (trip_apply enc acc ⟨k.val, by omega⟩ h l)]
  refine or_congr Iff.rfl (exists_congr fun k => ?_)
  rw [he k]
  exact entry_bit (x k) (BitVec.ofNat 32 (o + k.val)) N (BitVec.ofNat 32 l.val) t l.val ht rfl l.isLt

/-- A sum of words that are zero but at one place. -/
theorem fold_diag (r : Fin 56 → BitVec 32) (h : Fin 56) :
    Finset.fold IntOp.addi 0#32 (fun x : Fin 56 => Scalar.select (IntOp.cmpi .eq (BitVec.ofNat 32 h.val) (BitVec.ofNat 32 x.val)) (r x) 0#32) Finset.univ = r h := by
  have hs : ∀ x : Fin 56, Scalar.select (IntOp.cmpi .eq (BitVec.ofNat 32 h.val) (BitVec.ofNat 32 x.val)) (r x) 0#32 = if h = x then r x else 0#32 := by
    intro x
    have : IntOp.cmpi .eq (BitVec.ofNat 32 h.val) (BitVec.ofNat 32 x.val) = BitVec.ofBool (decide (h = x)) := by
      show BitVec.ofBool (BitVec.ofNat 32 h.val == BitVec.ofNat 32 x.val) = _
      congr 1
      rw [Bool.eq_iff_iff, beq_iff_eq, decide_eq_true_eq, ← BitVec.toNat_inj, BitVec.toNat_ofNat, BitVec.toNat_ofNat, Fin.ext_iff]
      omega
    rw [this]
    by_cases hx : h = x <;> simp [hx, Scalar.select]
  simp only [hs]
  have key : ∀ s : Finset (Fin 56), Finset.fold IntOp.addi 0#32 (fun x : Fin 56 => if h = x then r x else 0#32) s = if h ∈ s then r h else 0#32 := by
    intro s
    induction s using Finset.induction_on with
    | empty => simp
    | insert a s ha ih =>
      rw [Finset.fold_insert ha, ih]
      by_cases h1 : h = a
      · subst h1; rw [if_pos rfl, if_neg ha, if_pos (Finset.mem_insert_self _ _)]; exact BitVec.add_zero _
      · rw [if_neg h1]; simp only [Finset.mem_insert, h1, false_or]; exact BitVec.zero_add _
  rw [key, if_pos (Finset.mem_univ _)]

variable (c : Dev nD) (i : grid0.Coords)

theorem off1_zero : ∀ i : grid0.Coords, k0_off1 i 0 = (i 0).val := by decide +kernel
theorem off1_one : ∀ i : grid0.Coords, k0_off1 i 1 = 0 := by decide +kernel

section slash
variable (M10 : Memref sig .tc .vmem S1x56x240 .i32) (M11 : Memref sig .tc .vmem S2x56 .i32) (f10 : Bf (F := Ideal) c M10) (f11 : Bf (F := Ideal) c M11) (hc : k0_cond1 i = 1#1)

theorem slash_count (h : Fin 56) (l : Fin 128) : bodyRun.sl.v8909 c i M11 f11 hc (ix2 h l) = M11.view.read (Elt Ideal) f11 (ix2 (i 0) h) := by
  pointwise [bodyRun.sl.v8909, bodyRun.sl.v8897, bodyRun.sl.v8896, bodyRun.sl.v8895, bodyRun.sl.v8894, bodyRun.sl.v8893, bodyRun.sl.v8892, bodyRun.sl.v8887, bodyRun.sl.v8886]
  refine (fold_diag _ h).trans ?_
  exact readAt2 M11.view f11 _ 0 h (i 0) h (by rw [off1_zero]; rfl) (by rw [off1_one]; simp)

theorem slash_first (h : Fin 56) (l : Fin 128) (t : ℕ) (ht : t < 7) :
    (bodyRun.sl.r_1 c i M10 M11 f10 f11 hc (ix2 h l)).getLsbD (7 + t) = true ↔
      ∃ u : Fin 128, ((BitVec.ofNat 32 (0 + u.val)).toInt < (M11.view.read (Elt Ideal) f11 (ix2 (i 0) h)).toInt) ∧ M10.view.read (Elt Ideal) f10 (ix3 0 h ⟨u.val, by omega⟩) = BitVec.ofNat 32 (128 * t + l.val) := by
  refine (list_bits (n := 128) le_rfl (bodyRun.sl.v8915 c i M10 M11 f10 f11 hc) bodyRun.sl.v8907 _ (fun k acc => rfl) (fun u => M10.view.read (Elt Ideal) f10 (ix3 0 h ⟨u.val, by omega⟩))
    (M11.view.read (Elt Ideal) f11 (ix2 (i 0) h)) 0 h l (fun k => ?_) t ht).trans ?_
  · pointwise [bodyRun.sl.v8915, bodyRun.sl.v8913, bodyRun.sl.v8912, bodyRun.sl.v8910, bodyRun.sl.v8888, bodyRun.sl.v8907, bodyRun.sl.v8906, bodyRun.sl.v8905, bodyRun.sl.v8903, bodyRun.sl.v8902, bodyRun.sl.v8901, bodyRun.sl.v8900, bodyRun.sl.v8911, slash_count]
    rw [readAt3 M10.view f10 _ 0 h k 0 h ⟨k.val, by omega⟩ rfl (by show _ = 0 + _; omega) (by show k.val = 0 + k.val; omega)]
    rw [show IntOp.addi (BitVec.ofNat 32 k.val) 0#32 = BitVec.ofNat 32 k.val from BitVec.add_zero _]
  · refine or_iff_right ?_
    show ¬ (0#32).getLsbD (7 + t) = true
    simp

theorem slash_bits (h : Fin 56) (l : Fin 128) (t : ℕ) (ht : t < 7) :
    (bodyRun.sl.r_2 c i M10 M11 f10 f11 hc (ix2 h l)).getLsbD (7 + t) = true ↔
      ∃ u : Fin 240, ((BitVec.ofNat 32 u.val).toInt < (M11.view.read (Elt Ideal) f11 (ix2 (i 0) h)).toInt) ∧ M10.view.read (Elt Ideal) f10 (ix3 0 h u) = BitVec.ofNat 32 (128 * t + l.val) := by
  refine (list_bits (n := 112) (by omega) (bodyRun.sl.v8934 c i M10 M11 f10 f11 hc) (bodyRun.sl.r_1 c i M10 M11 f10 f11 hc) _ (fun k acc => rfl) (fun u => M10.view.read (Elt Ideal) f10 (ix3 0 h ⟨128 + u.val, by omega⟩))
    (M11.view.read (Elt Ideal) f11 (ix2 (i 0) h)) 128 h l (fun k => ?_) t ht).trans ?_
  · pointwise [bodyRun.sl.v8934, bodyRun.sl.v8932, bodyRun.sl.v8931, bodyRun.sl.v8929, bodyRun.sl.v8888, bodyRun.sl.v8907, bodyRun.sl.v8926, bodyRun.sl.v8925, bodyRun.sl.v8924, bodyRun.sl.v8922, bodyRun.sl.v8919, bodyRun.sl.v8917, bodyRun.sl.v8918, bodyRun.sl.v8902, bodyRun.sl.v8901, bodyRun.sl.v8911, slash_count]
    rw [readAt3 M10.view f10 _ 0 h k 0 h ⟨128 + k.val, by omega⟩ rfl (by show _ = 0 + _; omega) rfl]
    rw [show IntOp.addi (BitVec.ofNat 32 k.val) 128#32 = BitVec.ofNat 32 (128 + k.val) by rw [Nat.add_comm 128, BitVec.ofNat_add]; rfl]
  · rw [slash_first c i M10 M11 f10 f11 hc h l t ht]
    constructor
    · rintro (⟨u, h1, h2⟩ | ⟨u, h1, h2⟩)
      · exact ⟨⟨u.val, by omega⟩, by simpa using h1, h2⟩
      · exact ⟨⟨128 + u.val, by omega⟩, h1, h2⟩
    · rintro ⟨u, h1, h2⟩
      by_cases hu : u.val < 128
      · exact Or.inl ⟨⟨u.val, hu⟩, by simpa using h1, h2⟩
      · refine Or.inr ⟨⟨u.val - 128, by omega⟩, ?_, ?_⟩
        · show (BitVec.ofNat 32 (128 + (u.val - 128))).toInt < _
          rw [show 128 + (u.val - 128) = u.val by omega]; exact h1
        · rw [← h2]; congr 2; exact Fin.ext (show 128 + (u.val - 128) = u.val by omega)
end slash

section vert
variable (M8 : Memref sig .tc .vmem S1x56x160 .i32) (M9 : Memref sig .tc .vmem S2x56 .i32) (f8 : Bf (F := Ideal) c M8) (f9 : Bf (F := Ideal) c M9) (hc : k0_cond1 i = 1#1)

theorem vert_count (h : Fin 56) (l : Fin 128) : bodyRun.sl.v9124 c i M9 f9 hc (ix2 h l) = M9.view.read (Elt Ideal) f9 (ix2 (i 0) h) := by
  pointwise [bodyRun.sl.v9124, bodyRun.sl.v9112, bodyRun.sl.v9111, bodyRun.sl.v9110, bodyRun.sl.v8894, bodyRun.sl.v9108, bodyRun.sl.v9107, bodyRun.sl.v8887, bodyRun.sl.v8886]
  refine (fold_diag _ h).trans ?_
  exact readAt2 M9.view f9 _ 0 h (i 0) h (by rw [off1_zero]; rfl) (by rw [off1_one]; simp)

theorem vert_first (h : Fin 56) (l : Fin 128) (t : ℕ) (ht : t < 7) :
    (bodyRun.sl.r_3 c i M8 M9 f8 f9 hc (ix2 h l)).getLsbD (7 + t) = true ↔
      ∃ u : Fin 128, ((BitVec.ofNat 32 (0 + u.val)).toInt < (M9.view.read (Elt Ideal) f9 (ix2 (i 0) h)).toInt) ∧ M8.view.read (Elt Ideal) f8 (ix3 0 h ⟨u.val, by omega⟩) = BitVec.ofNat 32 (128 * t + l.val) := by
  refine (list_bits (n := 128) le_rfl (bodyRun.sl.v9130 c i M8 M9 f8 f9 hc) bodyRun.sl.v8907 _ (fun k acc => rfl) (fun u => M8.view.read (Elt Ideal) f8 (ix3 0 h ⟨u.val, by omega⟩))
    (M9.view.read (Elt Ideal) f9 (ix2 (i 0) h)) 0 h l (fun k => ?_) t ht).trans ?_
  · pointwise [bodyRun.sl.v9130, bodyRun.sl.v9128, bodyRun.sl.v9127, bodyRun.sl.v9125, bodyRun.sl.v8888, bodyRun.sl.v8907, bodyRun.sl.v9121, bodyRun.sl.v9120, bodyRun.sl.v9118, bodyRun.sl.v8902, bodyRun.sl.v8901, bodyRun.sl.v9115, bodyRun.sl.v8911, vert_count]
    rw [readAt3 M8.view f8 _ 0 h k 0 h ⟨k.val, by omega⟩ rfl (by show _ = 0 + _; omega) (by show k.val = 0 + k.val; omega)]
    rw [show IntOp.addi (BitVec.ofNat 32 k.val) 0#32 = BitVec.ofNat 32 k.val from BitVec.add_zero _]
  · refine or_iff_right ?_
    show ¬ (0#32).getLsbD (7 + t) = true
    simp

theorem vert_bits (h : Fin 56) (l : Fin 128) (t : ℕ) (ht : t < 7) :
    (bodyRun.sl.r_4 c i M8 M9 f8 f9 hc (ix2 h l)).getLsbD (7 + t) = true ↔
      ∃ u : Fin 160, ((BitVec.ofNat 32 u.val).toInt < (M9.view.read (Elt Ideal) f9 (ix2 (i 0) h)).toInt) ∧ M8.view.read (Elt Ideal) f8 (ix3 0 h u) = BitVec.ofNat 32 (128 * t + l.val) := by
  refine (list_bits (n := 32) (by omega) (bodyRun.sl.v9149 c i M8 M9 f8 f9 hc) (bodyRun.sl.r_3 c i M8 M9 f8 f9 hc) _ (fun k acc => rfl) (fun u => M8.view.read (Elt Ideal) f8 (ix3 0 h ⟨128 + u.val, by omega⟩))
    (M9.view.read (Elt Ideal) f9 (ix2 (i 0) h)) 128 h l (fun k => ?_) t ht).trans ?_
  · pointwise [bodyRun.sl.v9149, bodyRun.sl.v9147, bodyRun.sl.v9146, bodyRun.sl.v9144, bodyRun.sl.v8888, bodyRun.sl.v8907, bodyRun.sl.v8926, bodyRun.sl.v9140, bodyRun.sl.v9139, bodyRun.sl.v9137, bodyRun.sl.v9134, bodyRun.sl.v9132, bodyRun.sl.v9133, bodyRun.sl.v8902, bodyRun.sl.v8901, bodyRun.sl.v8911, vert_count]
    rw [readAt3 M8.view f8 _ 0 h k 0 h ⟨128 + k.val, by omega⟩ rfl (by show _ = 0 + _; omega) rfl]
    rw [show IntOp.addi (BitVec.ofNat 32 k.val) 128#32 = BitVec.ofNat 32 (128 + k.val) by rw [Nat.add_comm 128, BitVec.ofNat_add]; rfl]
  · rw [vert_first c i M8 M9 f8 f9 hc h l t ht]
    constructor
    · rintro (⟨u, h1, h2⟩ | ⟨u, h1, h2⟩)
      · exact ⟨⟨u.val, by omega⟩, by simpa using h1, h2⟩
      · exact ⟨⟨128 + u.val, by omega⟩, h1, h2⟩
    · rintro ⟨u, h1, h2⟩
      by_cases hu : u.val < 128
      · exact Or.inl ⟨⟨u.val, hu⟩, by simpa using h1, h2⟩
      · refine Or.inr ⟨⟨u.val - 128, by omega⟩, ?_, ?_⟩
        · show (BitVec.ofNat 32 (128 + (u.val - 128))).toInt < _
          rw [show 128 + (u.val - 128) = u.val by omega]; exact h1
        · rw [← h2]; congr 2; exact Fin.ext (show 128 + (u.val - 128) = u.val by omega)
end vert

end Cert.KernelIdeal.Hand
end
-- ==== Proof.Base.lean ====
module

public import proofs.«01_k».proof.Proof.Member

@[expose] public section

set_option maxRecDepth 16384

noncomputable section

/-! The two tables of mask words a batch's preparation leaves. -/
namespace Cert.KernelIdeal.Hand

open Cert.KernelIdeal Cert.KernelIdeal.Gen Cert.Slab Cert.Words
open Idealize.ShloMosaic

variable (c : Dev nD) (i : grid0.Coords)

section slash
variable (M10 : Memref sig .tc .vmem S1x56x240 .i32) (M11 : Memref sig .tc .vmem S2x56 .i32) (f10 : Bf (F := Ideal) c M10) (f11 : Bf (F := Ideal) c M11) (hc : k0_cond1 i = 1#1)

/-- The entries of a batch's list of slash offsets. -/
def Slash (h : Fin 56) (o : ℕ) : Prop :=
  ∃ u : Fin 240, ((BitVec.ofNat 32 u.val).toInt < (M11.view.read (Elt Ideal) f11 (ix2 (i 0) h)).toInt) ∧ M10.view.read (Elt Ideal) f10 (ix3 0 h u) = BitVec.ofNat 32 o

theorem hi_bit (h : Fin 56) (l : Fin 128) (t : ℕ) (ht : t < 7) :
    (bodyRun.sl.v8945 c i M10 M11 f10 f11 hc (ix2 h l)).getLsbD t = true ↔ ¬ Slash c i M10 M11 f10 f11 h (128 * t + l.val) := by
  pointwise [bodyRun.sl.v8945, bodyRun.sl.v8943, bodyRun.sl.v8941, bodyRun.sl.v8911, bodyRun.sl.v8902]
  rw [flip_bit, decide_eq_true ht, Bool.true_and, Bool.not_eq_true', ← Bool.not_eq_true, slash_bits c i M10 M11 f10 f11 hc h l t ht]
  rfl

theorem hi_high (h : Fin 56) (l : Fin 128) (t : ℕ) (ht : 7 ≤ t) : (bodyRun.sl.v8945 c i M10 M11 f10 f11 hc (ix2 h l)).getLsbD t = false := by
  pointwise [bodyRun.sl.v8945, bodyRun.sl.v8943, bodyRun.sl.v8941, bodyRun.sl.v8911, bodyRun.sl.v8902]
  rw [flip_bit, decide_eq_false (by omega), Bool.false_and]

theorem lo_bit (h : Fin 56) (l : Fin 128) (t : ℕ) (ht : t < 8) :
    (bodyRun.sl.v8949 c i M10 M11 f10 f11 hc (ix2 h l)).getLsbD t = true ↔ ¬ ∃ o, o + 128 = 128 * t + l.val ∧ Slash c i M10 M11 f10 f11 h o := by
  pointwise [bodyRun.sl.v8949, bodyRun.sl.v8947, bodyRun.sl.v8901]
  rw [up_bit _ _ (by omega)]
  by_cases h0 : t = 0
  · subst h0
    simp only [if_true, true_iff]
    rintro ⟨o, ho, _⟩
    omega
  · rw [if_neg h0, hi_bit c i M10 M11 f10 f11 hc h l (t - 1) (by omega)]
    refine not_congr ⟨fun hs => ⟨_, by omega, hs⟩, fun ⟨o, ho, hs⟩ => ?_⟩
    rw [show 128 * (t - 1) + l.val = o by omega]; exact hs

theorem lo_high (h : Fin 56) (l : Fin 128) (t : ℕ) (ht : 8 ≤ t) (ht' : t < 32) : (bodyRun.sl.v8949 c i M10 M11 f10 f11 hc (ix2 h l)).getLsbD t = false := by
  pointwise [bodyRun.sl.v8949, bodyRun.sl.v8947, bodyRun.sl.v8901]
  rw [up_bit _ _ ht', if_neg (by omega), hi_high c i M10 M11 f10 f11 hc h l _ (by omega)]

/-- One byte's word: rotated by `k` lanes, with the wrapped lanes taken from the word shifted up. -/
def byteWord (k : ℕ) (h : Fin 56) (l : Fin 128) : BitVec 32 :=
  if l.val < k then bodyRun.sl.v8949 c i M10 M11 f10 f11 hc (ix2 h ⟨(l.val + 128 - k % 128) % 128, Nat.mod_lt _ (by omega)⟩) else bodyRun.sl.v8945 c i M10 M11 f10 f11 hc (ix2 h ⟨(l.val + 128 - k % 128) % 128, Nat.mod_lt _ (by omega)⟩)

theorem byteWord_bit (k : ℕ) (hk : k < 4) (h : Fin 56) (l : Fin 128) (t : ℕ) (ht : t < 7) :
    (byteWord c i M10 M11 f10 f11 hc k h l).getLsbD t = true ↔ ¬ ∃ o, o + k = 128 * t + l.val ∧ Slash c i M10 M11 f10 f11 h o := by
  unfold byteWord
  by_cases hl : l.val < k
  · rw [if_pos hl, lo_bit c i M10 M11 f10 f11 hc h _ t (by omega)]
    refine not_congr (exists_congr fun o => and_congr_left fun _ => ?_)
    dsimp only; omega
  · rw [if_neg hl, hi_bit c i M10 M11 f10 f11 hc h _ t ht]
    refine not_congr ⟨fun hs => ⟨_, by dsimp only; omega, hs⟩, fun ⟨o, ho, hs⟩ => ?_⟩
    dsimp only
    rw [show 128 * t + (l.val + 128 - k % 128) % 128 = o by omega]; exact hs

theorem byteWord_high (k : ℕ) (h : Fin 56) (l : Fin 128) (t : ℕ) (ht : 8 ≤ t) : (byteWord c i M10 M11 f10 f11 hc k h l).getLsbD t = false := by
  by_cases ht' : t < 32
  · unfold byteWord
    split
    · exact lo_high c i M10 M11 f10 f11 hc h _ t ht ht'
    · exact hi_high c i M10 M11 f10 f11 hc h _ t (by omega)
  · exact BitVec.getLsbD_of_ge _ _ (by omega)

theorem slash_word (h : Fin 56) (l : Fin 128) (k t : ℕ) (hk : k < 4) (ht : t < 7) :
    (bodyRun.sl.v8973 c i M10 M11 f10 f11 hc (ix2 h l)).getLsbD (8 * k + t) = true ↔ ¬ ∃ o, o + k = 128 * t + l.val ∧ Slash c i M10 M11 f10 f11 h o := by
  have e : bodyRun.sl.v8973 c i M10 M11 f10 f11 hc (ix2 h l) = IntOp.ori (IntOp.ori (IntOp.ori (byteWord c i M10 M11 f10 f11 hc 0 h l) (IntOp.shli .vector (byteWord c i M10 M11 f10 f11 hc 1 h l) 8#32))
      (IntOp.shli .vector (byteWord c i M10 M11 f10 f11 hc 2 h l) 16#32)) (IntOp.shli .vector (byteWord c i M10 M11 f10 f11 hc 3 h l) 24#32) := by
    pointwise [bodyRun.sl.v8973, bodyRun.sl.v8972, bodyRun.sl.v8971, bodyRun.sl.v8970, bodyRun.sl.v8969, bodyRun.sl.v8968, bodyRun.sl.v8966, bodyRun.sl.v8965, bodyRun.sl.v8964, bodyRun.sl.v8963, bodyRun.sl.v8962, bodyRun.sl.v8961, bodyRun.sl.v8960, bodyRun.sl.v8958, bodyRun.sl.v8957, bodyRun.sl.v8956, bodyRun.sl.v8955, bodyRun.sl.v8954, bodyRun.sl.v8953, bodyRun.sl.v8952, bodyRun.sl.v8901, bodyRun.sl.v8888]
    have s0 : byteWord c i M10 M11 f10 f11 hc 0 h l = bodyRun.sl.v8945 c i M10 M11 f10 f11 hc (ix2 h l) := by
      unfold byteWord; rw [if_neg (by omega)]
      exact congrArg (fun q => bodyRun.sl.v8945 c i M10 M11 f10 f11 hc (ix2 h q)) (Fin.ext (by dsimp only; omega))
    rw [s0]
    unfold byteWord
    rw [← slt_small l.val 1 (by omega) (by omega), ← slt_small l.val 2 (by omega) (by omega), ← slt_small l.val 3 (by omega) (by omega)]
  rw [e, word4 _ _ _ _ (byteWord_high c i M10 M11 f10 f11 hc 0 h l) (byteWord_high c i M10 M11 f10 f11 hc 1 h l) (byteWord_high c i M10 M11 f10 f11 hc 2 h l) (byteWord_high c i M10 M11 f10 f11 hc 3 h l) k t hk (by omega)]
  have := byteWord_bit c i M10 M11 f10 f11 hc k hk h l t ht
  interval_cases k <;> simpa using this

/-- The slash table: byte `k` of word `(T, h, l)` masks the offset `128 T + l - 128 - k` where it is not listed. -/
theorem slash_table (M18 : Memref sig .tc .vmem S8x56x128 .i32) (f18 : Bf (F := Ideal) c M18) (T : Fin 8) (h : Fin 56) (l : Fin 128) :
    IsMask (M18.view.read (Elt Ideal) (M18.view.writes (Elt Ideal) f18 (bodyRun.sl.H18_8 c i M10 M11 f10 f11 hc)) (ix3 T h l))
      fun k => ¬ ∃ o, 128 + o + k = 128 * T.val + l.val ∧ Slash c i M10 M11 f10 f11 h o := by
  let P : Fin 8 → Fin 56 → Fin 128 → BitVec 32 → Prop := fun T h l w => IsMask w fun k => ¬ ∃ o, 128 + o + k = 128 * T.val + l.val ∧ Slash c i M10 M11 f10 f11 h o
  have hP : ∀ (T : Fin 8) (s : BitVec 32) (t : ℕ) (hs : s.toNat + t = 7) (ht : t + 1 = T.val) (a : Fin 56) (b : Fin 128), P T a b (
      let m := IntOp.shrui .vector (IntOp.andi (IntOp.shli .vector (bodyRun.sl.v8973 c i M10 M11 f10 f11 hc (ix2 a b)) s) 2155905152#32) 1#32
      IntOp.addi (IntOp.addi (IntOp.addi m (IntOp.shrui .vector m 1#32)) (IntOp.shrui .vector m 2#32)) (IntOp.shrui .vector m 3#32)) := by
    intro T s t hs ht a b
    refine (isMask_expand (bodyRun.sl.v8973 c i M10 M11 f10 f11 hc (ix2 a b)) s t hs).congr fun k hk => ?_
    rw [slash_word c i M10 M11 f10 f11 hc a b k t hk (by omega)]
    refine not_congr (exists_congr fun o => and_congr_left fun _ => ?_)
    omega
  refine pred_slab M18.view f18 P 7 (by omega) _ _ _ T h l rfl ?_ fun h7 => pred_slab M18.view f18 P 6 (by omega) _ _ _ T h l rfl ?_ fun h6 =>
    pred_slab M18.view f18 P 5 (by omega) _ _ _ T h l rfl ?_ fun h5 => pred_slab M18.view f18 P 4 (by omega) _ _ _ T h l rfl ?_ fun h4 =>
    pred_slab M18.view f18 P 3 (by omega) _ _ _ T h l rfl ?_ fun h3 => pred_slab M18.view f18 P 2 (by omega) _ _ _ T h l rfl ?_ fun h2 =>
    pred_slab M18.view f18 P 1 (by omega) _ _ _ T h l rfl ?_ fun h1 => pred_slab M18.view f18 P 0 (by omega) _ _ _ T h l rfl ?_ fun h0 => by omega
  · intro a b; pointwise [bodyRun.sl.v9103, bodyRun.sl.v9100, bodyRun.sl.v9099, bodyRun.sl.v8966, bodyRun.sl.v9091, bodyRun.sl.v8901, bodyRun.sl.v9089, bodyRun.sl.v8980, bodyRun.sl.v9087, bodyRun.sl.v9097, bodyRun.sl.v9096, bodyRun.sl.v8958, bodyRun.sl.v9094, bodyRun.sl.v9093]; exact hP ⟨7, by omega⟩ 1#32 6 rfl rfl a b
  · intro a b; pointwise [bodyRun.sl.v9085, bodyRun.sl.v9082, bodyRun.sl.v9081, bodyRun.sl.v8966, bodyRun.sl.v9073, bodyRun.sl.v8901, bodyRun.sl.v9071, bodyRun.sl.v8980, bodyRun.sl.v9069, bodyRun.sl.v8958, bodyRun.sl.v9079, bodyRun.sl.v9078, bodyRun.sl.v9076, bodyRun.sl.v9075]; exact hP ⟨6, by omega⟩ 2#32 5 rfl rfl a b
  · intro a b; pointwise [bodyRun.sl.v9067, bodyRun.sl.v9064, bodyRun.sl.v9063, bodyRun.sl.v8966, bodyRun.sl.v9055, bodyRun.sl.v8901, bodyRun.sl.v9053, bodyRun.sl.v8980, bodyRun.sl.v9051, bodyRun.sl.v9061, bodyRun.sl.v9060, bodyRun.sl.v8958, bodyRun.sl.v9058, bodyRun.sl.v9057]; exact hP ⟨5, by omega⟩ 3#32 4 rfl rfl a b
  · intro a b; pointwise [bodyRun.sl.v9049, bodyRun.sl.v9046, bodyRun.sl.v9045, bodyRun.sl.v8966, bodyRun.sl.v9037, bodyRun.sl.v8901, bodyRun.sl.v9035, bodyRun.sl.v8980, bodyRun.sl.v9033, bodyRun.sl.v9032, bodyRun.sl.v9043, bodyRun.sl.v9042, bodyRun.sl.v8958, bodyRun.sl.v9040, bodyRun.sl.v9039]; exact hP ⟨4, by omega⟩ 4#32 3 rfl rfl a b
  · intro a b; pointwise [bodyRun.sl.v9031, bodyRun.sl.v9028, bodyRun.sl.v9027, bodyRun.sl.v8966, bodyRun.sl.v9019, bodyRun.sl.v8901, bodyRun.sl.v9017, bodyRun.sl.v8980, bodyRun.sl.v9015, bodyRun.sl.v9014, bodyRun.sl.v9025, bodyRun.sl.v9024, bodyRun.sl.v8958, bodyRun.sl.v9022, bodyRun.sl.v9021]; exact hP ⟨3, by omega⟩ 5#32 2 rfl rfl a b
  · intro a b; pointwise [bodyRun.sl.v9013, bodyRun.sl.v9010, bodyRun.sl.v9009, bodyRun.sl.v8966, bodyRun.sl.v9001, bodyRun.sl.v8901, bodyRun.sl.v8999, bodyRun.sl.v8980, bodyRun.sl.v8997, bodyRun.sl.v8996, bodyRun.sl.v9007, bodyRun.sl.v9006, bodyRun.sl.v8958, bodyRun.sl.v9004, bodyRun.sl.v9003]; exact hP ⟨2, by omega⟩ 6#32 1 rfl rfl a b
  · intro a b; pointwise [bodyRun.sl.v8995, bodyRun.sl.v8992, bodyRun.sl.v8991, bodyRun.sl.v8966, bodyRun.sl.v8983, bodyRun.sl.v8901, bodyRun.sl.v8981, bodyRun.sl.v8980, bodyRun.sl.v8979, bodyRun.sl.v8902, bodyRun.sl.v8989, bodyRun.sl.v8988, bodyRun.sl.v8958, bodyRun.sl.v8986, bodyRun.sl.v8985]; exact hP ⟨1, by omega⟩ 7#32 0 rfl rfl a b
  · intro a b; pointwise [bodyRun.sl.v8974]
    exact isMask_all.congr fun k hk => by
      simp only [true_iff]
      rintro ⟨o, ho, _⟩
      have : (128 + o + k = 128 * 0 + b.val) := ho
      omega
end slash

section vert
variable (M8 : Memref sig .tc .vmem S1x56x160 .i32) (M9 : Memref sig .tc .vmem S2x56 .i32) (f8 : Bf (F := Ideal) c M8) (f9 : Bf (F := Ideal) c M9) (hc : k0_cond1 i = 1#1)
  (M20 : Memref sig .tc .vmem S128x128 .i32)

/-- The entries of a batch's list of columns. -/
def Vert (h : Fin 56) (o : ℕ) : Prop :=
  ∃ u : Fin 160, ((BitVec.ofNat 32 u.val).toInt < (M9.view.read (Elt Ideal) f9 (ix2 (i 0) h)).toInt) ∧ M8.view.read (Elt Ideal) f8 (ix3 0 h u) = BitVec.ofNat 32 o

theorem col_bit (h : Fin 56) (l : Fin 128) (t : ℕ) (ht : t < 7) :
    (bodyRun.sl.v9160 c i M8 M9 f8 f9 hc (ix2 h l)).getLsbD t = true ↔ ¬ Vert c i M8 M9 f8 f9 h (128 * t + l.val) := by
  pointwise [bodyRun.sl.v9160, bodyRun.sl.v9158, bodyRun.sl.v9156, bodyRun.sl.v8911, bodyRun.sl.v8902]
  rw [flip_bit, decide_eq_true ht, Bool.true_and, Bool.not_eq_true', ← Bool.not_eq_true, vert_bits c i M8 M9 f8 f9 hc h l t ht]
  rfl

theorem col_high (h : Fin 56) (l : Fin 128) (t : ℕ) (ht : 7 ≤ t) : (bodyRun.sl.v9160 c i M8 M9 f8 f9 hc (ix2 h l)).getLsbD t = false := by
  pointwise [bodyRun.sl.v9160, bodyRun.sl.v9158, bodyRun.sl.v9156, bodyRun.sl.v8911, bodyRun.sl.v8902]
  rw [flip_bit, decide_eq_false (by omega), Bool.false_and]

/-- The words transposed: column `h` of row `l`. -/
theorem turned (l : Fin 128) (h : Fin 128) :
    M20.view.read (Elt Ideal) (M20.view.writes (Elt Ideal) M20.view.junk (bodyRun.sl.H20_1 c i M8 M9 f8 f9 hc)) (ix2 l h) = if hh : h.val < 56 then bodyRun.sl.v9160 c i M8 M9 f8 f9 hc (ix2 ⟨h.val, hh⟩ l) else 0#32 := by
  refine read_cons_unit M20.view M20.view.junk _ _ _ _ _ (fun x hx => ?_) fun hx => ?_
  · have hxe : x = ix2 l h := funext fun a => match a with
      | 0 => Fin.ext (by have := hx 0; exact (by simpa using this.symm))
      | 1 => Fin.ext (by have := hx 1; exact (by simpa using this.symm))
    rw [hxe]
    pointwise [bodyRun.sl.v9166, bodyRun.sl.v9163, bodyRun.sl.v9162, bodyRun.sl.v9161]
  · obtain ⟨a, ha⟩ := hx
    match a, ha with
    | 0, ha => have ha : l.val < 0 ∨ 0 + 128 ≤ l.val := ha; omega
    | 1, ha => have ha : h.val < 0 ∨ 0 + 128 ≤ h.val := ha; omega

theorem turned_load (k : ℕ) (hk : k < 4) (inb) (u : Fin 32) (h : Fin 56) :
    M20.view.readCov (bodyRun.sl.H20_1 (F := Ideal) c i M8 M9 f8 f9 hc) ({ off := ![k, 0], size := ![32, 128], stride := ![4, 1], inb := inb } : LoadRect S128x128) (ix2 u ⟨h.val, by omega⟩)
      = bodyRun.sl.v9160 c i M8 M9 f8 f9 hc (ix2 h ⟨4 * u.val + k, by omega⟩) :=
  (readAt_stride M20.view _ k inb u ⟨h.val, by omega⟩ ⟨4 * u.val + k, by omega⟩ ⟨h.val, by omega⟩ rfl rfl).trans ((turned c i M8 M9 f8 f9 hc M20 _ _).trans (dif_pos h.isLt))

theorem vert_word (u : Fin 32) (h : Fin 56) (k t : ℕ) (hk : k < 4) (ht : t < 7) :
    (bodyRun.sl.v9179 c i M8 M9 M20 f8 f9 hc (ix2 u ⟨h.val, by omega⟩)).getLsbD (8 * k + t) = true ↔ ¬ Vert c i M8 M9 f8 f9 h (128 * t + (4 * u.val + k)) := by
  have hb : ∀ k (hk : k < 4) q, 8 ≤ q → (bodyRun.sl.v9160 c i M8 M9 f8 f9 hc (ix2 h ⟨4 * u.val + k, by omega⟩)).getLsbD q = false := fun k hk q hq =>
    col_high c i M8 M9 f8 f9 hc h _ q (by omega)
  have e : bodyRun.sl.v9179 c i M8 M9 M20 f8 f9 hc (ix2 u ⟨h.val, by omega⟩) = IntOp.ori (IntOp.ori (IntOp.ori (bodyRun.sl.v9160 c i M8 M9 f8 f9 hc (ix2 h ⟨4 * u.val + 0, by omega⟩)) (IntOp.shli .vector (bodyRun.sl.v9160 c i M8 M9 f8 f9 hc (ix2 h ⟨4 * u.val + 1, by omega⟩)) 8#32))
      (IntOp.shli .vector (bodyRun.sl.v9160 c i M8 M9 f8 f9 hc (ix2 h ⟨4 * u.val + 2, by omega⟩)) 16#32)) (IntOp.shli .vector (bodyRun.sl.v9160 c i M8 M9 f8 f9 hc (ix2 h ⟨4 * u.val + 3, by omega⟩)) 24#32) := by
    pointwise [bodyRun.sl.v9179, bodyRun.sl.v9178, bodyRun.sl.v9177, bodyRun.sl.v9176, bodyRun.sl.v9175, bodyRun.sl.v9174, bodyRun.sl.v9173, bodyRun.sl.v9172, bodyRun.sl.v9171, bodyRun.sl.v9170, bodyRun.sl.v9169, bodyRun.sl.v9168, bodyRun.sl.v]
    rw [turned_load c i M8 M9 f8 f9 hc M20 0 (by omega), turned_load c i M8 M9 f8 f9 hc M20 1 (by omega), turned_load c i M8 M9 f8 f9 hc M20 2 (by omega), turned_load c i M8 M9 f8 f9 hc M20 3 (by omega)]
    rfl
  rw [e, word4 _ _ _ _ (hb 0 (by omega)) (hb 1 (by omega)) (hb 2 (by omega)) (hb 3 (by omega)) k t hk (by omega)]
  have := col_bit c i M8 M9 f8 f9 hc h ⟨4 * u.val + k, by omega⟩ t ht
  interval_cases k <;> simpa using this
end vert
end Cert.KernelIdeal.Hand
end
-- ==== Proof.Masks.lean ====
module

public import proofs.«01_k».proof.Proof.Base

@[expose] public section

set_option maxRecDepth 16384

noncomputable section

/-! The mask words of each head's tiles. -/
namespace Cert.KernelIdeal.Hand

open Cert.KernelIdeal Cert.KernelIdeal.Gen Cert.Slab Cert.Words
open Idealize.ShloMosaic

variable (c : Dev nD) (i : grid0.Coords)

section vert
variable (M8 : Memref sig .tc .vmem S1x56x160 .i32) (M9 : Memref sig .tc .vmem S2x56 .i32) (f8 : Bf (F := Ideal) c M8) (f9 : Bf (F := Ideal) c M9)
  (M20 : Memref sig .tc .vmem S128x128 .i32)
  (M19 : Memref sig .tc .vmem S7x32x128 .i32) (f19 : Bf (F := Ideal) c M19)

/-- The column table a point's tiles read. -/
def st19 : Bf (F := Ideal) c M19 :=
  if hc : k0_cond1 i = 1#1 then M19.view.writes (Elt Ideal) f19
    (⟨Rect.unit ![6, 0, 0] S1x32x128.size Gen.inb_S7x32x128_S1x32x128_6_0_0, k0_pay82 (bodyRun.sl.v9179 c i M8 M9 M20 f8 f9 hc)⟩ ::
      ⟨Rect.unit ![5, 0, 0] S1x32x128.size Gen.inb_S7x32x128_S1x32x128_5_0_0, k0_pay81 (bodyRun.sl.v9275 c i M8 M9 M20 f8 f9 hc) (bodyRun.sl.v9281 c i M8 M9 M20 f8 f9 hc) bodyRun.sl.v9192⟩ ::
      ⟨Rect.unit ![4, 0, 0] S1x32x128.size Gen.inb_S7x32x128_S1x32x128_4_0_0, bodyRun.sl.v9269 c i M8 M9 M20 f8 f9 hc⟩ ::
      ⟨Rect.unit ![3, 0, 0] S1x32x128.size Gen.inb_S7x32x128_S1x32x128_3_0_0, bodyRun.sl.v9251 c i M8 M9 M20 f8 f9 hc⟩ :: bodyRun.sl.H19_3 c i M8 M9 M20 f8 f9 hc)
  else f19

/-- The column table: byte `k` of word `(t, u, h)` masks column `128 t + 4 u + k` where it is not listed. -/
theorem vert_table (hc : k0_cond1 i = 1#1) (t : Fin 7) (u : Fin 32) (h : Fin 56) :
    IsMask (M19.view.read (Elt Ideal) (st19 c i M8 M9 f8 f9 M20 M19 f19) (ix3 t u ⟨h.val, by omega⟩))
      fun k => ¬ Vert c i M8 M9 f8 f9 h (128 * t.val + (4 * u.val + k)) := by
  unfold st19; rw [dif_pos hc]
  let P : Fin 7 → Fin 32 → Fin 128 → BitVec 32 → Prop := fun t u h w => ∀ h' : Fin 56, h.val = h'.val → IsMask w fun k => ¬ Vert c i M8 M9 f8 f9 h' (128 * t.val + (4 * u.val + k))
  have hP : ∀ (T : Fin 7) (s : BitVec 32) (hs : s.toNat + T.val = 7) (a : Fin 32) (b : Fin 128), P T a b (
      let m := IntOp.shrui .vector (IntOp.andi (IntOp.shli .vector (bodyRun.sl.v9179 c i M8 M9 M20 f8 f9 hc (ix2 a b)) s) 2155905152#32) 1#32
      IntOp.addi (IntOp.addi (IntOp.addi m (IntOp.shrui .vector m 1#32)) (IntOp.shrui .vector m 2#32)) (IntOp.shrui .vector m 3#32)) := by
    intro T s hs a b h' hb
    refine (isMask_expand (bodyRun.sl.v9179 c i M8 M9 M20 f8 f9 hc (ix2 a b)) s T.val hs).congr fun k hk => ?_
    rw [show b = ⟨h'.val, by omega⟩ from Fin.ext hb, vert_word c i M8 M9 f8 f9 hc M20 a h' k T.val hk T.isLt]
  refine (?_ : P t u ⟨h.val, by omega⟩ _) h rfl
  refine pred_slab M19.view f19 P 6 (by omega) _ _ _ t u _ rfl ?_ fun h6 =>
    pred_slab M19.view f19 P 5 (by omega) _ _ _ t u _ rfl ?_ fun h5 => pred_slab M19.view f19 P 4 (by omega) _ _ _ t u _ rfl ?_ fun h4 =>
    pred_slab M19.view f19 P 3 (by omega) _ _ _ t u _ rfl ?_ fun h3 => pred_slab M19.view f19 P 2 (by omega) _ _ _ t u _ rfl ?_ fun h2 =>
    pred_slab M19.view f19 P 1 (by omega) _ _ _ t u _ rfl ?_ fun h1 => pred_slab M19.view f19 P 0 (by omega) _ _ _ t u _ rfl ?_ fun h0 => by omega
  all_goals intro a b; pointwise [k0_pay82, k0_pay81, bodyRun.sl.v9180, bodyRun.sl.v9181, bodyRun.sl.v9182, bodyRun.sl.v9183, bodyRun.sl.v9184, bodyRun.sl.v9185, bodyRun.sl.v9187, bodyRun.sl.v9188, bodyRun.sl.v9189, bodyRun.sl.v9190, bodyRun.sl.v9191, bodyRun.sl.v9192, bodyRun.sl.v9193, bodyRun.sl.v9194, bodyRun.sl.v9197, bodyRun.sl.v9198, bodyRun.sl.v9199, bodyRun.sl.v9201, bodyRun.sl.v9203, bodyRun.sl.v9205, bodyRun.sl.v9206, bodyRun.sl.v9208, bodyRun.sl.v9209, bodyRun.sl.v9211, bodyRun.sl.v9212, bodyRun.sl.v9215, bodyRun.sl.v9216, bodyRun.sl.v9217, bodyRun.sl.v9219, bodyRun.sl.v9221, bodyRun.sl.v9223, bodyRun.sl.v9224, bodyRun.sl.v9226, bodyRun.sl.v9227, bodyRun.sl.v9229, bodyRun.sl.v9230, bodyRun.sl.v9233, bodyRun.sl.v9234, bodyRun.sl.v9235, bodyRun.sl.v9237, bodyRun.sl.v9239, bodyRun.sl.v9241, bodyRun.sl.v9242, bodyRun.sl.v9244, bodyRun.sl.v9245, bodyRun.sl.v9247, bodyRun.sl.v9248, bodyRun.sl.v9251, bodyRun.sl.v9253, bodyRun.sl.v9255, bodyRun.sl.v9257, bodyRun.sl.v9259, bodyRun.sl.v9260, bodyRun.sl.v9262, bodyRun.sl.v9263, bodyRun.sl.v9265, bodyRun.sl.v9266, bodyRun.sl.v9269, bodyRun.sl.v9271, bodyRun.sl.v9273, bodyRun.sl.v9275, bodyRun.sl.v9277, bodyRun.sl.v9278, bodyRun.sl.v9280, bodyRun.sl.v9281]
  · exact hP 6 1#32 rfl a b
  · exact hP 5 2#32 rfl a b
  · exact hP 4 3#32 rfl a b
  · exact hP 3 4#32 rfl a b
  · exact hP 2 5#32 rfl a b
  · exact hP 1 6#32 rfl a b
  · exact hP 0 7#32 rfl a b
end vert

end Cert.KernelIdeal.Hand
end
-- ==== Proof.Heads.lean ====
module

public import proofs.«01_k».proof.Proof.Masks

@[expose] public section

set_option maxRecDepth 65536

noncomputable section

/-! The stores of each head's tiles of mask words. -/
namespace Cert.KernelIdeal.Hand

open Cert.KernelIdeal Cert.KernelIdeal.Gen Cert.Slab Cert.Words
open Idealize.ShloMosaic

/-- A row, one copy for each of eight rows. -/
def spread (x : S1x1x128.Idx → BitVec 32) : IVec S8x128 32 :=
  broadcastTo S8x128 (shapeCast S1x128 (shapeCast S1x128 x shapeCasts_S1x1x128_S1x128) shapeCasts_S1x128_S1x128) broadcasts_S1x128_S8x128

/-- Row `a` turned right by `s + 4 a` lanes. -/
def turn (s : BitVec 32) (x : S1x1x128.Idx → BitVec 32) : IVec S8x128 32 := dynamicRotate 1 s (some (4, 0)) (spread x) rotates_S8x128_d1s4a0

/-- The lanes that wrapped come from the row before. -/
def join (s : BitVec 32) (x y : IVec S8x128 32) : S1x1x8x128.Idx → BitVec 32 :=
  shapeCast S1x1x8x128 (select (cmpi .slt (iota .tc S8x128 32 [1] iota_S8x128_d1_w32) (addi (broadcast S8x128 s) (muli (broadcast S8x128 4#32) (iota .tc S8x128 32 [0] iota_S8x128_d0_w32)))) x y) shapeCasts_S8x128_S1x1x8x128

/-- Lane `w` of each row, in every lane. -/
def spot (w : BitVec 32) (x : S1x8x128.Idx → BitVec 32) : S1x1x8x128.Idx → BitVec 32 :=
  shapeCast S1x1x8x128 (dynamicGather (s := S8x128) 1 (shapeCast S8x128 x shapeCasts_S1x8x128_S8x128)
    (shapeCast S8x128 (shapeCast S8x128x1 (select (cmpi .slt (broadcast S8x128 w) (broadcast S8x128 0#32)) (addi (broadcast S8x128 w) (broadcast S8x128 128#32)) (broadcast S8x128 w)) shapeCasts_S8x128_S8x128x1) shapeCasts_S8x128x1_S8x128)) shapeCasts_S8x128_S1x1x8x128

theorem spread_apply (x : S1x1x128.Idx → BitVec 32) (a : Fin 8) (l : Fin 128) : spread x (ix2 a l) = x (ix3 0 0 l) := by
  pointwise [spread]

theorem turn_apply (s : BitVec 32) (x : S1x1x128.Idx → BitVec 32) (a : Fin 8) (l : Fin 128) :
    turn s x (ix2 a l) = x (ix3 0 0 ⟨(l.val + 128 - (s.toNat + 4 * a.val) % 128) % 128, Nat.mod_lt _ (by omega)⟩) := by
  pointwise [turn]
  exact spread_apply x a _

theorem join_apply (g : ℕ) (hg : g < 4) (x y : IVec S8x128 32) (a : Fin 8) (l : Fin 128) :
    join (BitVec.ofNat 32 (32 * g)) x y (ix4 0 0 a l) = if l.val < 32 * g + 4 * a.val then x (ix2 a l) else y (ix2 a l) := by
  pointwise [join]
  have e : IntOp.addi (BitVec.ofNat 32 (32 * g)) (IntOp.muli (4#32) (BitVec.ofNat 32 a.val)) = BitVec.ofNat 32 (32 * g + 4 * a.val) := by
    apply BitVec.eq_of_toNat_eq
    simp only [IntOp.addi, IntOp.muli, BitVec.toNat_add, BitVec.toNat_mul, BitVec.toNat_ofNat]
    omega
  rw [e, slt_small l.val _ (by omega) (by omega)]

theorem spot_apply (w : ℕ) (hw : w < 128) (x : S1x8x128.Idx → BitVec 32) (a : Fin 8) (l : Fin 128) :
    spot (BitVec.ofNat 32 w) x (ix4 0 0 a l) = x (ix3 0 a ⟨w, hw⟩) := by
  pointwise [spot]
  refine congrArg x (congrArg (ix3 0 a) (Fin.ext ?_))
  show (Scalar.select (IntOp.cmpi .slt (BitVec.ofNat 32 w) (BitVec.ofNat 32 0)) (IntOp.addi (BitVec.ofNat 32 w) 128#32) (BitVec.ofNat 32 w)).toNat % 128 = w
  rw [slt_small w 0 (by omega) (by omega), if_neg (by omega), BitVec.toNat_ofNat]
  omega

variable (c : Dev nD) (i : grid0.Coords)
  (M8 : Memref sig .tc .vmem S1x56x160 .i32) (M9 : Memref sig .tc .vmem S2x56 .i32) (f8 : Bf (F := Ideal) c M8) (f9 : Bf (F := Ideal) c M9)
  (M10 : Memref sig .tc .vmem S1x56x240 .i32) (M11 : Memref sig .tc .vmem S2x56 .i32) (f10 : Bf (F := Ideal) c M10) (f11 : Bf (F := Ideal) c M11)
  (M18 : Memref sig .tc .vmem S8x56x128 .i32) (f18 : Bf (F := Ideal) c M18)
  (M20 : Memref sig .tc .vmem S128x128 .i32) (M19 : Memref sig .tc .vmem S7x32x128 .i32) (f19 : Bf (F := Ideal) c M19)
  (r : Fin 7)

/-- The slash table a point's tiles read. -/
def st18 : Bf (F := Ideal) c M18 :=
  if hc : k0_cond1 i = 1#1 then M18.view.writes (Elt Ideal) f18 (bodyRun.sl.H18_8 c i M10 M11 f10 f11 hc) else f18

/-- Row `T` of the slash table, at a head. -/
def slashRow (T : Fin 8) : S1x1x128.Idx → BitVec 32 :=
  match T with
  | 0 => M18.view.readAt (Elt Ideal) (Rect.unit (s := S8x56x128) (k0_off3 i (k0_off3_at r).1 (k0_off3_at r).2) S1x1x128.size (Gen.k0_off3_inb i r)).toLoadRect (st18 c i M10 M11 f10 f11 M18 f18)
  | 1 => M18.view.readAt (Elt Ideal) (Rect.unit (s := S8x56x128) (k0_off4 i (k0_off4_at r).1 (k0_off4_at r).2) S1x1x128.size (Gen.k0_off4_inb i r)).toLoadRect (st18 c i M10 M11 f10 f11 M18 f18)
  | 2 => M18.view.readAt (Elt Ideal) (Rect.unit (s := S8x56x128) (k0_off5 i (k0_off5_at r).1 (k0_off5_at r).2) S1x1x128.size (Gen.k0_off5_inb i r)).toLoadRect (st18 c i M10 M11 f10 f11 M18 f18)
  | 3 => M18.view.readAt (Elt Ideal) (Rect.unit (s := S8x56x128) (k0_off6 i (k0_off6_at r).1 (k0_off6_at r).2) S1x1x128.size (Gen.k0_off6_inb i r)).toLoadRect (st18 c i M10 M11 f10 f11 M18 f18)
  | 4 => M18.view.readAt (Elt Ideal) (Rect.unit (s := S8x56x128) (k0_off7 i (k0_off7_at r).1 (k0_off7_at r).2) S1x1x128.size (Gen.k0_off7_inb i r)).toLoadRect (st18 c i M10 M11 f10 f11 M18 f18)
  | 5 => M18.view.readAt (Elt Ideal) (Rect.unit (s := S8x56x128) (k0_off8 i (k0_off8_at r).1 (k0_off8_at r).2) S1x1x128.size (Gen.k0_off8_inb i r)).toLoadRect (st18 c i M10 M11 f10 f11 M18 f18)
  | 6 => M18.view.readAt (Elt Ideal) (Rect.unit (s := S8x56x128) (k0_off9 i (k0_off9_at r).1 (k0_off9_at r).2) S1x1x128.size (Gen.k0_off9_inb i r)).toLoadRect (st18 c i M10 M11 f10 f11 M18 f18)
  | 7 => M18.view.readAt (Elt Ideal) (Rect.unit (s := S8x56x128) (k0_off10 i (k0_off10_at r).1 (k0_off10_at r).2) S1x1x128.size (Gen.k0_off10_inb i r)).toLoadRect (st18 c i M10 M11 f10 f11 M18 f18)

theorem inb_colRow : ∀ (t : Fin 7) (g : Fin 4) (a : Fin 3), (![t.val, 8 * g.val, 0] : Fin 3 → ℕ) a + S1x8x128.size a ≤ S7x32x128.size a := by decide
theorem inb_tile : ∀ (s : Fin 2) (t : Fin 7) (g : Fin 4) (a : Fin 4), (![s.val, t.val, 8 * g.val, 0] : Fin 4 → ℕ) a + S1x1x8x128.size a ≤ S2x7x32x128.size a := by decide

/-- The tile of slash words of a head: rows `8 g` to `8 g + 7` of the tile `t` blocks below the diagonal. -/
def slashTile (t : Fin 7) (g : Fin 4) : S1x1x8x128.Idx → BitVec 32 :=
  join (BitVec.ofNat 32 (32 * g.val)) (match t with
    | 0 => spread (slashRow c i M10 M11 f10 f11 M18 f18 r 0)
    | ⟨t + 1, h⟩ => turn (BitVec.ofNat 32 (32 * g.val)) (slashRow c i M10 M11 f10 f11 M18 f18 r ⟨t + 1, by omega⟩))
    (turn (BitVec.ofNat 32 (32 * g.val)) (slashRow c i M10 M11 f10 f11 M18 f18 r ⟨t.val + 1, by omega⟩))

/-- The head's number. -/
def headWord : BitVec 32 := Scalar.addi (Scalar.addi (Scalar.muli 7#32 (BitVec.ofNat 32 (i 1).val)) (k0_off3_at r).1) (k0_off3_at r).2

/-- The tile of column words of a head. -/
def colTile (t : Fin 7) (g : Fin 4) : S1x1x8x128.Idx → BitVec 32 :=
  spot (headWord i r) (M19.view.readAt (Elt Ideal) (Rect.unit (s := S7x32x128) ![t.val, 8 * g.val, 0] S1x8x128.size (inb_colRow t g)).toLoadRect (st19 c i M8 M9 f8 f9 M20 M19 f19))

/-- The order in which a head's tiles are written, last first. -/
def order : List (Fin 7 × Fin 4) :=
  [(6, 3), (5, 3), (4, 3), (3, 3), (2, 3), (1, 3), (0, 3), (6, 2), (5, 2), (4, 2), (3, 2), (2, 2), (1, 2), (0, 2),
    (6, 1), (5, 1), (4, 1), (3, 1), (2, 1), (1, 1), (0, 1), (6, 0), (5, 0), (4, 0), (3, 0), (2, 0), (1, 0), (0, 0)]

/-- A head's stores, over what was stored before. -/
def tiles (s : Fin 2) (w : Fin 7 → Fin 4 → S1x1x8x128.Idx → BitVec 32) (L : List (View.Piece (Elt Ideal) S2x7x32x128 .i32)) (o : List (Fin 7 × Fin 4)) :
    List (View.Piece (Elt Ideal) S2x7x32x128 .i32) :=
  match o with
  | [] => L
  | p :: o => ⟨Rect.unit (s := S2x7x32x128) ![s.val, p.1.val, 8 * p.2.val, 0] S1x1x8x128.size (inb_tile s p.1 p.2), w p.1 p.2⟩ :: tiles s w L o

theorem H22_56_eq : bodyRun.sl.H22_56 c i M8 M9 M19 M20 f8 f9 f19 =
    tiles 1 (colTile c i M8 M9 f8 f9 M20 M19 f19 1) (tiles 0 (colTile c i M8 M9 f8 f9 M20 M19 f19 0) [] order) order := rfl
theorem H22_112_eq : bodyRun.sl.H22_112 c i M8 M9 M19 M20 f8 f9 f19 =
    tiles 1 (colTile c i M8 M9 f8 f9 M20 M19 f19 3) (tiles 0 (colTile c i M8 M9 f8 f9 M20 M19 f19 2) (bodyRun.sl.H22_56 c i M8 M9 M19 M20 f8 f9 f19) order) order := rfl
theorem H22_168_eq : bodyRun.sl.H22_168 c i M8 M9 M19 M20 f8 f9 f19 =
    tiles 1 (colTile c i M8 M9 f8 f9 M20 M19 f19 5) (tiles 0 (colTile c i M8 M9 f8 f9 M20 M19 f19 4) (bodyRun.sl.H22_112 c i M8 M9 M19 M20 f8 f9 f19) order) order := rfl
theorem H22_196_eq : bodyRun.sl.H22_196 c i M8 M9 M19 M20 f8 f9 f19 =
    tiles 0 (colTile c i M8 M9 f8 f9 M20 M19 f19 6) (bodyRun.sl.H22_168 c i M8 M9 M19 M20 f8 f9 f19) order := rfl

theorem H21_56_eq : bodyRun.sl.H21_56 c i M10 M11 M18 f10 f11 f18 =
    tiles 1 (slashTile c i M10 M11 f10 f11 M18 f18 1) (tiles 0 (slashTile c i M10 M11 f10 f11 M18 f18 0) [] order) order := rfl
theorem H21_112_eq : bodyRun.sl.H21_112 c i M10 M11 M18 f10 f11 f18 =
    tiles 1 (slashTile c i M10 M11 f10 f11 M18 f18 3) (tiles 0 (slashTile c i M10 M11 f10 f11 M18 f18 2) (bodyRun.sl.H21_56 c i M10 M11 M18 f10 f11 f18) order) order := rfl
theorem H21_168_eq : bodyRun.sl.H21_168 c i M10 M11 M18 f10 f11 f18 =
    tiles 1 (slashTile c i M10 M11 f10 f11 M18 f18 5) (tiles 0 (slashTile c i M10 M11 f10 f11 M18 f18 4) (bodyRun.sl.H21_112 c i M10 M11 M18 f10 f11 f18) order) order := rfl
theorem H21_196_eq : bodyRun.sl.H21_196 c i M10 M11 M18 f10 f11 f18 =
    tiles 0 (slashTile c i M10 M11 f10 f11 M18 f18 6) (bodyRun.sl.H21_168 c i M10 M11 M18 f10 f11 f18) order := rfl

end Cert.KernelIdeal.Hand
end
-- ==== Proof.HeadMask.lean ====
module

public import proofs.«01_k».proof.Proof.Heads
public import Idealize.ShloMosaic.Lib.BitcastPair

@[expose] public section

set_option maxRecDepth 16384

noncomputable section

/-! What the tiles of mask words of each head say. -/
namespace Cert.KernelIdeal.Hand

open Cert.KernelIdeal Cert.KernelIdeal.Gen Cert.Slab Cert.Words
open Idealize.ShloMosaic

theorem off3_at : ∀ (i : grid0.Coords) (r : Fin 7), k0_off3 i (k0_off3_at r).1 (k0_off3_at r).2 = ![0, 7 * (i 1).val + r.val, 0] := by decide +kernel
theorem off4_at : ∀ (i : grid0.Coords) (r : Fin 7), k0_off4 i (k0_off4_at r).1 (k0_off4_at r).2 = ![1, 7 * (i 1).val + r.val, 0] := by decide +kernel
theorem off5_at : ∀ (i : grid0.Coords) (r : Fin 7), k0_off5 i (k0_off5_at r).1 (k0_off5_at r).2 = ![2, 7 * (i 1).val + r.val, 0] := by decide +kernel
theorem off6_at : ∀ (i : grid0.Coords) (r : Fin 7), k0_off6 i (k0_off6_at r).1 (k0_off6_at r).2 = ![3, 7 * (i 1).val + r.val, 0] := by decide +kernel
theorem off7_at : ∀ (i : grid0.Coords) (r : Fin 7), k0_off7 i (k0_off7_at r).1 (k0_off7_at r).2 = ![4, 7 * (i 1).val + r.val, 0] := by decide +kernel
theorem off8_at : ∀ (i : grid0.Coords) (r : Fin 7), k0_off8 i (k0_off8_at r).1 (k0_off8_at r).2 = ![5, 7 * (i 1).val + r.val, 0] := by decide +kernel
theorem off9_at : ∀ (i : grid0.Coords) (r : Fin 7), k0_off9 i (k0_off9_at r).1 (k0_off9_at r).2 = ![6, 7 * (i 1).val + r.val, 0] := by decide +kernel
theorem off10_at : ∀ (i : grid0.Coords) (r : Fin 7), k0_off10 i (k0_off10_at r).1 (k0_off10_at r).2 = ![7, 7 * (i 1).val + r.val, 0] := by decide +kernel
theorem headWord_eq : ∀ (i : grid0.Coords) (r : Fin 7), headWord i r = BitVec.ofNat 32 (7 * (i 1).val + r.val) := by decide +kernel
theorem grid_lt : ∀ i : grid0.Coords, (i 1).val < 8 := by decide +kernel

/-- The head a point works on. -/
def hd (i : grid0.Coords) (r : Fin 7) : Fin 56 := ⟨7 * (i 1).val + r.val, by have := grid_lt i; omega⟩

/-- Words held in a list of stores, over what they say. -/
theorem tiles_read (v : View sig .tc .vmem S2x7x32x128 .i32) (f : v.ty.Contents (Elt Ideal)) (s : Fin 2) (w : Fin 7 → Fin 4 → S1x1x8x128.Idx → BitVec 32)
    (L : List (View.Piece (Elt Ideal) S2x7x32x128 .i32)) (o : List (Fin 7 × Fin 4)) (s' : Fin 2) (t : Fin 7) (g : Fin 4) (a : Fin 8) (l : Fin 128) (z : BitVec 32)
    (hin : s' = s → (t, g) ∈ o → w t g (ix4 0 0 a l) = z)
    (hout : ¬ (s' = s ∧ (t, g) ∈ o) → v.read (Elt Ideal) (v.writes (Elt Ideal) f L) (ix4 s' t ⟨8 * g.val + a.val, by omega⟩ l) = z) :
    v.read (Elt Ideal) (v.writes (Elt Ideal) f (tiles s w L o)) (ix4 s' t ⟨8 * g.val + a.val, by omega⟩ l) = z := by
  induction o with
  | nil => exact hout (by simp)
  | cons p o ih =>
    obtain ⟨pt, pg⟩ := p
    refine read_cons_unit v f _ _ _ _ _ (fun x hx => ?_) fun hx => ih (fun hs hm => hin hs (List.mem_cons_of_mem _ hm)) fun hn => hout fun ⟨hs, hm⟩ => ?_
    · have h0 : s'.val = s.val + (x 0).val := hx 0
      have h1 : t.val = pt.val + (x 1).val := hx 1
      have h2 : 8 * g.val + a.val = 8 * pg.val + (x 2).val := hx 2
      have h3 : l.val = 0 + (x 3).val := hx 3
      have b0 : (x 0).val < 1 := (x 0).isLt
      have b1 : (x 1).val < 1 := (x 1).isLt
      have b2 : (x 2).val < 8 := (x 2).isLt
      have et : pt = t := Fin.ext (by omega)
      have eg : pg = g := Fin.ext (by omega)
      subst et; subst eg
      have ex : x = ix4 0 0 a l := funext fun b => match b with
        | 0 => Fin.ext (by show (x 0).val = 0; omega)
        | 1 => Fin.ext (by show (x 1).val = 0; omega)
        | 2 => Fin.ext (by show (x 2).val = a.val; omega)
        | 3 => Fin.ext (by show (x 3).val = l.val; omega)
      rw [ex]
      exact hin (Fin.ext (by omega)) (by simp)
    · rcases List.mem_cons.1 hm with hm | hm
      · obtain ⟨b, hb⟩ := hx
        obtain ⟨rfl, rfl⟩ := Prod.mk.inj hm
        subst hs
        match b, hb with
        | 0, hb => have hb : s'.val < s'.val ∨ s'.val + 1 ≤ s'.val := hb; omega
        | 1, hb => have hb : t.val < t.val ∨ t.val + 1 ≤ t.val := hb; omega
        | 2, hb => have hb : 8 * g.val + a.val < 8 * g.val ∨ 8 * g.val + 8 ≤ 8 * g.val + a.val := hb; omega
        | 3, hb => have hb : l.val < 0 ∨ 0 + 128 ≤ l.val := hb; omega
      · exact hn ⟨hs, hm⟩

theorem mem_order : ∀ (t : Fin 7) (g : Fin 4), (t, g) ∈ order := by decide

/-- A head's stores say what each of its tiles says; the other half is as it was. -/
theorem tiles_pred (v : View sig .tc .vmem S2x7x32x128 .i32) (f : v.ty.Contents (Elt Ideal)) (s : Fin 2) (w : Fin 7 → Fin 4 → S1x1x8x128.Idx → BitVec 32)
    (L : List (View.Piece (Elt Ideal) S2x7x32x128 .i32)) (P : Fin 2 → Fin 7 → Fin 32 → Fin 128 → BitVec 32 → Prop)
    (hw : ∀ t (g : Fin 4) (a : Fin 8) l, P s t ⟨8 * g.val + a.val, by omega⟩ l (w t g (ix4 0 0 a l)))
    (s' : Fin 2) (t : Fin 7) (u : Fin 32) (l : Fin 128)
    (hL : s' ≠ s → P s' t u l (v.read (Elt Ideal) (v.writes (Elt Ideal) f L) (ix4 s' t u l))) :
    P s' t u l (v.read (Elt Ideal) (v.writes (Elt Ideal) f (tiles s w L order)) (ix4 s' t u l)) := by
  have hu : u = ⟨8 * (⟨u.val / 8, by omega⟩ : Fin 4).val + (⟨u.val % 8, Nat.mod_lt _ (by omega)⟩ : Fin 8).val, by dsimp only; omega⟩ := Fin.ext (by dsimp only; omega)
  by_cases hs : s' = s
  · subst hs
    have := hw t ⟨u.val / 8, by omega⟩ ⟨u.val % 8, Nat.mod_lt _ (by omega)⟩ l
    rw [← hu] at this
    rw [hu, tiles_read v f s' w L order s' t ⟨u.val / 8, by omega⟩ ⟨u.val % 8, Nat.mod_lt _ (by omega)⟩ l _ (fun _ _ => rfl) fun hn => absurd ⟨rfl, mem_order _ _⟩ hn, ← hu]
    exact this
  · have e := tiles_read v f s w L order s' t ⟨u.val / 8, by omega⟩ ⟨u.val % 8, Nat.mod_lt _ (by omega)⟩ l _ (fun h => absurd h hs) fun _ => rfl
    rw [← hu] at e
    rw [e]
    exact hL hs

variable (c : Dev nD) (i : grid0.Coords)
  (M8 : Memref sig .tc .vmem S1x56x160 .i32) (M9 : Memref sig .tc .vmem S2x56 .i32) (f8 : Bf (F := Ideal) c M8) (f9 : Bf (F := Ideal) c M9)
  (M10 : Memref sig .tc .vmem S1x56x240 .i32) (M11 : Memref sig .tc .vmem S2x56 .i32) (f10 : Bf (F := Ideal) c M10) (f11 : Bf (F := Ideal) c M11)
  (M18 : Memref sig .tc .vmem S8x56x128 .i32) (f18 : Bf (F := Ideal) c M18)
  (M20 : Memref sig .tc .vmem S128x128 .i32) (M19 : Memref sig .tc .vmem S7x32x128 .i32) (f19 : Bf (F := Ideal) c M19)
  (r : Fin 7)

theorem slashRow_apply (T : Fin 8) (l : Fin 128) :
    slashRow c i M10 M11 f10 f11 M18 f18 r T (ix3 0 0 l) = M18.view.read (Elt Ideal) (st18 c i M10 M11 f10 f11 M18 f18) (ix3 T (hd i r) l) := by
  match T with
  | 0 => exact readAt3 _ _ _ _ _ _ _ _ _ (by rw [off3_at]; rfl) (by rw [off3_at]; rfl) (by rw [off3_at]; show l.val = 0 + l.val; omega)
  | 1 => exact readAt3 _ _ _ _ _ _ _ _ _ (by rw [off4_at]; rfl) (by rw [off4_at]; rfl) (by rw [off4_at]; show l.val = 0 + l.val; omega)
  | 2 => exact readAt3 _ _ _ _ _ _ _ _ _ (by rw [off5_at]; rfl) (by rw [off5_at]; rfl) (by rw [off5_at]; show l.val = 0 + l.val; omega)
  | 3 => exact readAt3 _ _ _ _ _ _ _ _ _ (by rw [off6_at]; rfl) (by rw [off6_at]; rfl) (by rw [off6_at]; show l.val = 0 + l.val; omega)
  | 4 => exact readAt3 _ _ _ _ _ _ _ _ _ (by rw [off7_at]; rfl) (by rw [off7_at]; rfl) (by rw [off7_at]; show l.val = 0 + l.val; omega)
  | 5 => exact readAt3 _ _ _ _ _ _ _ _ _ (by rw [off8_at]; rfl) (by rw [off8_at]; rfl) (by rw [off8_at]; show l.val = 0 + l.val; omega)
  | 6 => exact readAt3 _ _ _ _ _ _ _ _ _ (by rw [off9_at]; rfl) (by rw [off9_at]; rfl) (by rw [off9_at]; show l.val = 0 + l.val; omega)
  | 7 => exact readAt3 _ _ _ _ _ _ _ _ _ (by rw [off10_at]; rfl) (by rw [off10_at]; rfl) (by rw [off10_at]; show l.val = 0 + l.val; omega)

section
variable (S : Fin 56 → ℕ → Prop) (hS : ∀ (T : Fin 8) (h : Fin 56) (l : Fin 128), IsMask (M18.view.read (Elt Ideal) (st18 c i M10 M11 f10 f11 M18 f18) (ix3 T h l))
  fun k => ¬ ∃ o, 128 + o + k = 128 * T.val + l.val ∧ S h o)
include hS

/-- A head's tile of slash words masks the distances that are not listed. -/
theorem slashTile_mask (t : Fin 7) (g : Fin 4) (a : Fin 8) (l : Fin 128) :
    IsMask (slashTile c i M10 M11 f10 f11 M18 f18 r t g (ix4 0 0 a l)) fun k => ¬ ∃ o, o + (4 * (8 * g.val + a.val) + k) = 128 * t.val + l.val ∧ S (hd i r) o := by
  unfold slashTile
  rw [join_apply g.val g.isLt]
  have hs : (BitVec.ofNat 32 (32 * g.val)).toNat = 32 * g.val := by rw [BitVec.toNat_ofNat]; omega
  by_cases hl : l.val < 32 * g.val + 4 * a.val
  · rw [if_pos hl]
    obtain ⟨t, ht⟩ := t
    match t, ht with
    | 0, ht =>
      show IsMask (spread _ (ix2 a l)) _
      rw [spread_apply, slashRow_apply]
      refine (hS 0 (hd i r) l).congr fun k hk => ?_
      refine not_congr ⟨fun ⟨o, ho, _⟩ => ?_, fun ⟨o, ho, _⟩ => ?_⟩
      · have ho : 128 + o + k = 128 * 0 + l.val := ho
        omega
      · dsimp only at ho; omega
    | t + 1, ht =>
      show IsMask (turn _ _ (ix2 a l)) _
      rw [turn_apply, slashRow_apply]
      refine (hS _ (hd i r) _).congr fun k hk => not_congr (exists_congr fun o => and_congr_left fun _ => ?_)
      dsimp only; rw [hs]; omega
  · rw [if_neg hl, turn_apply, slashRow_apply]
    refine (hS _ (hd i r) _).congr fun k hk => not_congr (exists_congr fun o => and_congr_left fun _ => ?_)
    dsimp only; rw [hs]; omega
end

section
variable (V : Fin 56 → ℕ → Prop) (hV : ∀ (t : Fin 7) (u : Fin 32) (h : Fin 56) (h' : Fin 128), h'.val = h.val → IsMask (M19.view.read (Elt Ideal) (st19 c i M8 M9 f8 f9 M20 M19 f19) (ix3 t u h'))
  fun k => ¬ V h (128 * t.val + (4 * u.val + k)))
include hV

/-- A head's tile of column words masks the columns that are not listed. -/
theorem colTile_mask (t : Fin 7) (g : Fin 4) (a : Fin 8) (l : Fin 128) :
    IsMask (colTile c i M8 M9 f8 f9 M20 M19 f19 r t g (ix4 0 0 a l)) fun k => ¬ V (hd i r) (128 * t.val + (4 * (8 * g.val + a.val) + k)) := by
  have hh : 7 * (i 1).val + r.val < 128 := by have := grid_lt i; omega
  unfold colTile
  rw [headWord_eq, spot_apply _ hh, readAt3 (a' := t) (b' := ⟨8 * g.val + a.val, by omega⟩) (c' := ⟨7 * (i 1).val + r.val, hh⟩) _ _ _ _ _ _ (by rfl) (by rfl) (by show _ = 0 + _; omega)]
  exact hV t _ (hd i r) _ rfl
end

/-- The bytes of a tile of mask words, as floats. -/
theorem bytes_apply (w : IVec S32x128 32) (h : S32x128.Bitcasts 32 S128x128 8) (p : Fin 128 → Fin 128 → Prop) [∀ j l, Decidable (p j l)]
    (hw : ∀ (a : Fin 32) (l : Fin 128), IsMask (w (ix2 a l)) fun k => ∃ hk : k < 4, p ⟨4 * a.val + k, by omega⟩ l) (j l : Fin 128) :
    (bitcastToFloat (F := Ideal) .fp8e5m2 (bitcast S128x128 8 w h) (ix2 j l) : EReal) = if p j l then 32768 else 0 := by
  have hb : bitcast S128x128 8 w h (ix2 j l) = if p j l then 0x78#8 else 0#8 := by
    have e := (hw ⟨j.val / 4, by omega⟩ l).byte (j.val % 4) (Nat.mod_lt _ (by omega)) (bitcast S128x128 8 w h (ix2 j l)) fun q hq => by
      rw [bitcast_getLsbD w h (ix2 j l) q hq (by omega)]
      have hr : S128x128.row (ix2 j l) = j.val := rfl
      have e1 : (S128x128.row (ix2 j l) * 8 + q) / 32 = j.val / 4 := by rw [hr]; omega
      have e2 : (S128x128.row (ix2 j l) * 8 + q) % 32 = 8 * (j.val % 4) + q := by rw [hr]; omega
      rw [e2]
      refine congrArg (fun y => (w y).getLsbD _) (funext fun a => ?_)
      match a with
      | 0 => exact Fin.ext ((Shape.Bitcasts.srcIdx_row _ _ _ _ _ rfl).trans e1)
      | 1 => exact Fin.ext (Shape.Bitcasts.srcIdx_other _ _ _ _ _ (by decide))
    rw [e]
    refine if_congr ⟨fun ⟨_, hp⟩ => ?_, fun hp => ⟨Nat.mod_lt _ (by omega), ?_⟩⟩ rfl rfl
    · exact (congrArg (fun y => p y l) (Fin.ext (by dsimp only; omega))).mp hp
    · exact (congrArg (fun y => p y l) (Fin.ext (by dsimp only; omega))).mp hp
  show (Ideal.ofBits .fp8e5m2 (bitcast S128x128 8 w h (ix2 j l)) : EReal) = _
  rw [hb]
  split
  · simp [Ideal.ofBits, Ideal.ieee]
    norm_num
    rw [← EReal.coe_pow, ← EReal.coe_mul, show (4 * 2 ^ 13 : ℝ) = 32768 by norm_num]
    rfl
  · exact IdealRules.sign_bit.ideal_zero .fp8e5m2
end Cert.KernelIdeal.Hand
end
-- ==== Proof.Tiles.lean ====
module

public import Idealize.ShloMosaic.Lib.Pointwise
public import Idealize.ShloMosaic.Lib.MatmulPlain

@[expose] public section

noncomputable section

/-! One tile of the attention, over any number of keys and of lanes. -/
namespace Cert.Tiles

open Idealize.ShloMosaic

variable (n W : ℕ)

section shapes
variable {n W} {α : Type}

theorem bcast_row (hW : W ≠ 1) (C : (⟨2, ![1, W]⟩ : Shape).Idx → α) (h : (⟨2, ![1, W]⟩ : Shape).Broadcasts ⟨2, ![n, W]⟩) (j : Fin n) (l : Fin W) :
    broadcastTo ⟨2, ![n, W]⟩ C h (ix2 j l) = C (ix2 0 l) := by
  rw [Pointwise.broadcastTo_apply]
  congr 1
  funext a
  rw [Shape.Idx.norm_def]
  match a with
  | 0 => exact Fin.ext (by simp)
  | 1 => exact Fin.ext (by simp [hW])

theorem cast_row (m : (⟨1, ![W]⟩ : Shape).Idx → α) (h : (⟨1, ![W]⟩ : Shape).ShapeCasts ⟨2, ![1, W]⟩) (l : Fin W) :
    shapeCast ⟨2, ![1, W]⟩ m h (ix2 0 l) = m (ix1 l) := by
  rw [Pointwise.shapeCast_apply]
  congr 1
  exact Shape.reshapeEquiv_eq_of_vals _ _ _ l.val l.val (by rw [rowMajor_val1]; rfl) (by rw [rowMajor_val2 _ W rfl]; simp) rfl

theorem cast_up (x : (⟨2, ![n, W]⟩ : Shape).Idx → α) (h : (⟨2, ![n, W]⟩ : Shape).ShapeCasts ⟨3, ![1, n, W]⟩) (j : Fin n) (l : Fin W) :
    shapeCast ⟨3, ![1, n, W]⟩ x h (ix3 0 j l) = x (ix2 j l) := by
  rw [Pointwise.shapeCast_apply]
  congr 1
  exact Shape.reshapeEquiv_eq_of_vals _ _ _ (j.val * W + l.val) (j.val * W + l.val) (by rw [rowMajor_val2 _ W rfl]; rfl)
    (by rw [rowMajor_val3 _ (n * W) W rfl rfl]; simp) rfl

theorem cast_down (x : (⟨3, ![1, n, W]⟩ : Shape).Idx → α) (h : (⟨3, ![1, n, W]⟩ : Shape).ShapeCasts ⟨2, ![n, W]⟩) (j : Fin n) (l : Fin W) :
    shapeCast ⟨2, ![n, W]⟩ x h (ix2 j l) = x (ix3 0 j l) := by
  rw [Pointwise.shapeCast_apply]
  congr 1
  exact Shape.reshapeEquiv_eq_of_vals _ _ _ (j.val * W + l.val) (j.val * W + l.val) (by rw [rowMajor_val3 _ (n * W) W rfl rfl]; simp)
    (by rw [rowMajor_val2 _ W rfl]; rfl) rfl

/-- Tiles of `m` rows laid one below the other: a property of the entries by their row. -/
theorem stack_pred {m N : ℕ} (P : ℕ → Fin W → α → Prop) (j : (⟨2, ![N, W]⟩ : Shape).Idx) :
    ∀ (ys : List ((⟨2, ![m, W]⟩ : Shape).Idx → α)) (b : ℕ) (hs) (r : ℕ) (hc),
      (∀ t (ht : t < ys.length) (a : Fin m) (l : Fin W), P (b + m * t + a.val) l (ys[t] (ix2 a l))) →
      P (b + r) (j 1) (concatenateAt (⟨2, ![N, W]⟩ : Shape) 0 j (ys.map fun y => (⟨⟨2, ![m, W]⟩, y⟩ : (s : Shape) × (s.Idx → α))) hs r hc) := by
  intro ys
  induction ys with
  | nil => intro b hs r hc _; exact absurd hc (by simp [axisSizes])
  | cons y ys ih =>
    intro b hs r hc h
    cases ys with
    | nil =>
      have hr : r < m := by simpa [axisSizes] using hc
      show P _ _ (concatenateAt _ 0 j [⟨⟨2, ![m, W]⟩, y⟩] hs r hc)
      rw [concatenateAt_singleton]
      have h0 := h 0 (by simp) ⟨r, hr⟩ (j 1)
      have e : b + m * 0 + r = b + r := by omega
      rw [show b + m * 0 + (⟨r, hr⟩ : Fin m).val = b + r from e] at h0
      refine (congrArg (fun x => P (b + r) (j 1) (y x)) (funext fun a => ?_)).mp h0
      rw [Shape.Idx.norm_def]
      match a with
      | 0 => rfl
      | 1 => rfl
    | cons y' ys =>
      show P _ _ (concatenateAt _ 0 j (⟨⟨2, ![m, W]⟩, y⟩ :: ⟨⟨2, ![m, W]⟩, y'⟩ :: ys.map fun y => (⟨⟨2, ![m, W]⟩, y⟩ : (s : Shape) × (s.Idx → α))) hs r hc)
      rw [concatenateAt_cons]
      split
      · rename_i hr
        have hr' : r < m := hr
        have h0 := h 0 (by simp) ⟨r, hr'⟩ (j 1)
        rw [show b + m * 0 + (⟨r, hr'⟩ : Fin m).val = b + r from by show b + m * 0 + r = b + r; omega] at h0
        refine (congrArg (fun x => P (b + r) (j 1) (y x)) (funext fun a => ?_)).mp h0
        rw [Shape.Idx.norm_def]
        match a with
        | 0 => rfl
        | 1 => rfl
      · rename_i hr
        have hr' : ¬ r < m := hr
        have := ih (b + m) (fun s' h => hs s' (List.mem_cons_of_mem _ h)) (r - m) (by
          have := hc; simp [axisSizes] at this ⊢; omega) fun t ht a l => by
            have := h (t + 1) (by simpa using ht) a l
            rw [show b + m * (t + 1) + a.val = b + m + m * t + a.val by ring] at this
            exact this
        rw [show b + m + (r - m) = b + r by omega] at this
        exact this
end shapes

/-- The scores of `n` keys: the dot products, and the mask laid over them by a product with a diagonal. -/
def score (K : FVec Ideal ⟨2, ![n, 128]⟩ .fp8e4m3) (Q : FVec Ideal ⟨2, ![W, 128]⟩ .fp8e4m3) (M : FVec Ideal ⟨2, ![n, W]⟩ .fp8e5m2) (E : FVec Ideal ⟨2, ![W, W]⟩ .fp8e5m2) :
    FVec Ideal ⟨2, ![n, W]⟩ .f32 :=
  addf (matmul (DotDims.transposedRhs n 128 W) none K Q (constant ⟨2, ![n, W]⟩ .f32 0#32)) (matmul (DotDims.plain n W W) none M E (constant ⟨2, ![n, W]⟩ .f32 0#32))

theorem score_apply (K : FVec Ideal ⟨2, ![n, 128]⟩ .fp8e4m3) (Q : FVec Ideal ⟨2, ![W, 128]⟩ .fp8e4m3) (M : FVec Ideal ⟨2, ![n, W]⟩ .fp8e5m2) (E : FVec Ideal ⟨2, ![W, W]⟩ .fp8e5m2)
    (j : Fin n) (l : Fin W) :
    (score n W K Q M E (ix2 j l) : EReal) = (∑ e : Fin 128, (K (ix2 j e) : EReal) * (Q (ix2 l e) : EReal)) + ∑ x : Fin W, (M (ix2 j x) : EReal) * (E (ix2 x l) : EReal) := by
  have h1 := Ideal.matmul_transposedRhs_apply none K Q (constant ⟨2, ![n, W]⟩ .f32 0#32) j l
  have h2 := Ideal.matmul_plain_apply none M E (constant ⟨2, ![n, W]⟩ .f32 0#32) j l
  have h0 : (constant (F := Ideal) ⟨2, ![n, W]⟩ .f32 0#32 (ValueIdx.ix2 j l) : EReal) = 0 := Ideal.ofBits_zero_f32
  rw [h0, zero_add] at h1 h2
  exact congrArg₂ (fun a b : EReal => a + b) h1 h2

/-- Masked entries, multiplied into a diagonal of `⊥`. -/
theorem diag_sum (p : Fin W → Prop) [DecidablePred p] (M : Fin W → EReal) (hM : ∀ x, M x = if p x then 32768 else 0) (E : Fin W → EReal) (l : Fin W) (hE : ∀ x, E x = if x = l then ⊥ else 0) :
    ∑ x, M x * E x = if p l then ⊥ else 0 := by
  rw [Finset.sum_eq_single l]
  · rw [hM, hE, if_pos rfl]
    split
    · exact EReal.mul_bot_of_pos (by norm_num)
    · exact zero_mul _
  · intro x _ hx; rw [hE, if_neg hx, mul_zero]
  · intro h; exact absurd (Finset.mem_univ l) h

theorem colmax (s : FVec Ideal ⟨2, ![n, W]⟩ .f32) (h h' h'') (l : Fin W) :
    (multiReduction (F := Ideal) (s := ⟨2, ![n, W]⟩) FKind.maximumf [0] ⟨1, ![W]⟩ s 4286578688#32 h h' h'' (ix1 l) : EReal) = Finset.fold max ⊥ (fun j : Fin n => (s (ix2 j l) : EReal)) Finset.univ := by
  pointwise
  rw [show (Ideal.ofBits FTy.f32 4286578688#32 : EReal) = ⊥ by simp [Ideal.ofBits, Ideal.ieee]]

theorem colsum (s : FVec Ideal ⟨2, ![n, W]⟩ .f32) (h h' h'') (l : Fin W) :
    (multiReduction (F := Ideal) (s := ⟨2, ![n, W]⟩) FKind.add [0] ⟨1, ![W]⟩ s 0#32 h h' h'' (ix1 l) : EReal) = ∑ j : Fin n, (s (ix2 j l) : EReal) := by
  pointwise

/-- The weights of the keys. -/
def weight (s : FVec Ideal ⟨2, ![n, W]⟩ .f32) (m : FVec Ideal ⟨1, ![W]⟩ .f32) (C : FVec Ideal ⟨2, ![1, W]⟩ .f32)
    (h : (⟨1, ![W]⟩ : Shape).ShapeCasts ⟨2, ![1, W]⟩) (h' h'' : (⟨2, ![1, W]⟩ : Shape).Broadcasts ⟨2, ![n, W]⟩) : FVec Ideal ⟨2, ![n, W]⟩ .f32 :=
  exp2 (mulf (subf s (broadcastTo ⟨2, ![n, W]⟩ (shapeCast ⟨2, ![1, W]⟩ m h) h')) (broadcastTo ⟨2, ![n, W]⟩ C h''))

theorem weight_apply (hW : W ≠ 1) (s : FVec Ideal ⟨2, ![n, W]⟩ .f32) (m : FVec Ideal ⟨1, ![W]⟩ .f32) (C : FVec Ideal ⟨2, ![1, W]⟩ .f32) (h h' h'') (j : Fin n) (l : Fin W) :
    (weight n W s m C h h' h'' (ix2 j l) : EReal) = Ideal.exp2 (((s (ix2 j l) : EReal) - (m (ix1 l) : EReal)) * (C (ix2 0 l) : EReal)) := by
  have e1 := bcast_row hW (shapeCast ⟨2, ![1, W]⟩ m h) h' j l
  have e2 := bcast_row hW C h'' j l
  rw [cast_row m h l] at e1
  show Ideal.exp2 (((s (ix2 j l) : EReal) - (broadcastTo ⟨2, ![n, W]⟩ (shapeCast ⟨2, ![1, W]⟩ m h) h' (ix2 j l) : EReal)) * (broadcastTo ⟨2, ![n, W]⟩ C h'' (ix2 j l) : EReal)) = _
  rw [e1, e2]

/-- The weighted sum of the values, divided by the total weight. -/
def value (V : FVec Ideal ⟨2, ![128, n]⟩ .bf16) (p : FVec Ideal ⟨2, ![n, W]⟩ .f32) (ht : FTy.bf16.bits < FTy.f32.bits) (vs : Ideal .f32) (h0 : (⟨2, ![n, W]⟩ : Shape).Reduces [0] ⟨1, ![W]⟩) (h1 : FKind.Formats FTy.f32) (h2 : 0#32 = FKind.add.neutral FTy.f32 h1) (h : (⟨1, ![W]⟩ : Shape).ShapeCasts ⟨2, ![1, W]⟩)
    (h' : (⟨2, ![1, W]⟩ : Shape).Broadcasts ⟨2, ![128, W]⟩) : FVec Ideal ⟨2, ![128, W]⟩ .f32 :=
  mulf (matmul (DotDims.plain 128 n W) none V (truncf .bf16 p ht) (constant ⟨2, ![128, W]⟩ .f32 0#32))
    (broadcastTo ⟨2, ![128, W]⟩ (divf (broadcast ⟨2, ![1, W]⟩ vs) (shapeCast ⟨2, ![1, W]⟩ (multiReduction (F := Ideal) (s := ⟨2, ![n, W]⟩) FKind.add [0] ⟨1, ![W]⟩ p 0#32 h0 h1 h2) h)) h')

theorem value_apply (hW : W ≠ 1) (V : FVec Ideal ⟨2, ![128, n]⟩ .bf16) (p : FVec Ideal ⟨2, ![n, W]⟩ .f32) (ht) (vs : Ideal .f32) (h0 h1 h2 h h') (d : Fin 128) (l : Fin W) :
    (value n W V p ht vs h0 h1 h2 h h' (ix2 d l) : EReal) = (∑ j : Fin n, (V (ix2 d j) : EReal) * (p (ix2 j l) : EReal)) * Ideal.div (vs : EReal) (∑ j : Fin n, (p (ix2 j l) : EReal)) := by
  have hm := Ideal.matmul_plain_apply none V (truncf .bf16 p ht) (constant ⟨2, ![128, W]⟩ .f32 0#32) d l
  have hz : (constant (F := Ideal) ⟨2, ![128, W]⟩ .f32 0#32 (ValueIdx.ix2 d l) : EReal) = 0 := Ideal.ofBits_zero_f32
  rw [hz, zero_add] at hm
  have hb := bcast_row hW (divf (broadcast ⟨2, ![1, W]⟩ vs) (shapeCast ⟨2, ![1, W]⟩ (multiReduction (F := Ideal) (s := ⟨2, ![n, W]⟩) FKind.add [0] ⟨1, ![W]⟩ p 0#32 h0 h1 h2) h)) h' d l
  have hd : (divf (broadcast ⟨2, ![1, W]⟩ vs) (shapeCast ⟨2, ![1, W]⟩ (multiReduction (F := Ideal) (s := ⟨2, ![n, W]⟩) FKind.add [0] ⟨1, ![W]⟩ p 0#32 h0 h1 h2) h) (ix2 0 l) : EReal)
      = Ideal.div (vs : EReal) (∑ j : Fin n, (p (ix2 j l) : EReal)) := by
    exact congrArg (fun z : EReal => Ideal.div vs z) ((cast_row _ h l).trans (colsum n W p h0 h1 h2 l))
  rw [hd] at hb
  exact congrArg₂ (fun a b : EReal => a * b) hm hb
end Cert.Tiles
end
-- ==== Proof.Units.lean ====
module

public import proofs.«01_k».proof.Proof.HeadMask
public import proofs.«01_k».proof.Proof.Tiles

@[expose] public section

set_option maxRecDepth 65536

noncomputable section

/-! The scores and the outputs of a group of heads, one block of queries after another. -/
namespace Cert.KernelIdeal.Hand

open Cert.KernelIdeal Cert.KernelIdeal.Gen Cert.Slab Cert.Words
open Idealize.ShloMosaic

/-- How many keys the queries of a block see. -/
abbrev keys (q : Fin 7) : ℕ := 128 * (q.val + 1)

section facts
variable {W : ℕ} (hW : W = 256 ∨ W = 128) (q : Fin 7)
include hW
theorem fact_up : (⟨2, ![keys q, W]⟩ : Shape).ShapeCasts ⟨3, ![1, keys q, W]⟩ := by rcases hW with rfl | rfl <;> revert q <;> decide +kernel
theorem fact_down : (⟨3, ![1, keys q, W]⟩ : Shape).ShapeCasts ⟨2, ![keys q, W]⟩ := by rcases hW with rfl | rfl <;> revert q <;> decide +kernel
theorem fact_row : (⟨1, ![W]⟩ : Shape).ShapeCasts ⟨2, ![1, W]⟩ := by rcases hW with rfl | rfl <;> decide +kernel
theorem fact_bcast : (⟨2, ![1, W]⟩ : Shape).Broadcasts ⟨2, ![keys q, W]⟩ := by rcases hW with rfl | rfl <;> revert q <;> decide +kernel
theorem fact_out : (⟨2, ![1, W]⟩ : Shape).Broadcasts ⟨2, ![128, W]⟩ := by rcases hW with rfl | rfl <;> decide +kernel
theorem fact_red : (⟨2, ![keys q, W]⟩ : Shape).Reduces [0] ⟨1, ![W]⟩ := by rcases hW with rfl | rfl <;> revert q <;> decide +kernel
theorem fact_stack (h0 : 0 < q.val) (rows : ℕ → (⟨2, ![128, W]⟩ : Shape).Idx → Ideal .fp8e5m2) :
    Shape.Concatenates ((((List.range (q.val + 1)).map rows).map fun y => (⟨⟨2, ![128, W]⟩, y⟩ : (s : Shape) × (s.Idx → Ideal .fp8e5m2))).map (·.1)) ⟨2, ![keys q, W]⟩ 0 := by
  rw [List.map_map, List.map_map]; show Shape.Concatenates ((List.range (q.val + 1)).map fun _ => (⟨2, ![128, W]⟩ : Shape)) _ _; clear rows
  revert q; rcases hW with rfl | rfl <;> decide +kernel
end facts

theorem fact_values : ∀ q : Fin 7, (⟨3, ![1, 128, keys q]⟩ : Shape).ShapeCasts ⟨2, ![128, keys q]⟩ := by decide +kernel

variable (c : Dev nD) (i : grid0.Coords)

def offK (q : Fin 7) : Fin 3 → ℕ :=
  match q with | 0 => k0_off14 i | 1 => k0_off16 i | 2 => k0_off19 i | 3 => k0_off22 i | 4 => k0_off25 i | 5 => k0_off28 i | 6 => k0_off31 i
def offV (q : Fin 7) : Fin 3 → ℕ :=
  match q with | 0 => k0_off17 i | 1 => k0_off20 i | 2 => k0_off23 i | 3 => k0_off26 i | 4 => k0_off29 i | 5 => k0_off32 i | 6 => k0_off33 i
def offQ (r q : Fin 7) : Fin 3 → ℕ :=
  match q with
  | 0 => k0_off13 i (k0_off13_at r).1 (k0_off13_at r).2 | 1 => k0_off15 i (k0_off15_at r).1 (k0_off15_at r).2 | 2 => k0_off18 i (k0_off18_at r).1 (k0_off18_at r).2
  | 3 => k0_off21 i (k0_off21_at r).1 (k0_off21_at r).2 | 4 => k0_off24 i (k0_off24_at r).1 (k0_off24_at r).2 | 5 => k0_off27 i (k0_off27_at r).1 (k0_off27_at r).2
  | 6 => k0_off30 i (k0_off30_at r).1 (k0_off30_at r).2

theorem offK_eq : ∀ (i : grid0.Coords) (q : Fin 7), offK i q = ![(i 1).val, 0, 0] := by decide +kernel
theorem offV_eq : ∀ (i : grid0.Coords) (q : Fin 7), offV i q = ![(i 1).val, 0, 0] := by decide +kernel
theorem offQ_eq : ∀ (i : grid0.Coords) (r q : Fin 7), offQ i r q = ![(7 * (i 1).val + r.val) % 16, 128 * q.val, 0] := by decide +kernel
theorem offK_inb : ∀ (i : grid0.Coords) (q : Fin 7) (a : Fin 3), offK i q a + (![1, keys q, 128] : Fin 3 → ℕ) a ≤ S8x896x128.size a := by decide +kernel
theorem offV_inb : ∀ (i : grid0.Coords) (q : Fin 7) (a : Fin 3), offV i q a + (![1, 128, keys q] : Fin 3 → ℕ) a ≤ S8x128x896.size a := by decide +kernel
theorem offQ_inb : ∀ (i : grid0.Coords) (r q : Fin 7) (a : Fin 3), offQ i r q a + (![1, 128, 128] : Fin 3 → ℕ) a ≤ S16x896x128.size a := by decide +kernel

section loads
variable (M13 : Memref sig .tc .vmem S16x896x128 .fp8e4m3) (F13 : Bf (F := Ideal) c M13) (M14 : Memref sig .tc .vmem S8x896x128 .fp8e4m3) (F14 : Bf (F := Ideal) c M14)
  (M15 : Memref sig .tc .vmem S8x128x896 .bf16) (F15 : Bf (F := Ideal) c M15) (M17 : Memref sig .tc .vmem S256x256 .fp8e5m2) (F17 : Bf (F := Ideal) c M17)

/-- The keys a block's queries see. -/
def keysOf (q : Fin 7) : FVec Ideal ⟨2, ![keys q, 128]⟩ .fp8e4m3 :=
  shapeCast ⟨2, ![keys q, 128]⟩ (M14.view.readAt (Elt Ideal) (Rect.unit (s := S8x896x128) (offK i q) ![1, keys q, 128] (offK_inb i q)).toLoadRect F14) (fact_down (W := 128) (Or.inr rfl) q)
/-- Their values. -/
def valuesOf (q : Fin 7) : FVec Ideal ⟨2, ![128, keys q]⟩ .bf16 :=
  shapeCast ⟨2, ![128, keys q]⟩ (M15.view.readAt (Elt Ideal) (Rect.unit (s := S8x128x896) (offV i q) ![1, 128, keys q] (offV_inb i q)).toLoadRect F15) (fact_values q)
/-- The queries of a block, of one head. -/
def headQ (r q : Fin 7) : FVec Ideal S128x128 .fp8e4m3 :=
  shapeCast S128x128 (M13.view.readAt (Elt Ideal) (Rect.unit (s := S16x896x128) (offQ i r q) ![1, 128, 128] (offQ_inb i r q)).toLoadRect F13) shapeCasts_S1x128x128_S128x128
/-- The queries of a block, of two heads. -/
def pairQ (r r' q : Fin 7) : FVec Ideal S256x128 .fp8e4m3 :=
  concatenate S256x128 0 [⟨S128x128, headQ c i M13 F13 r q⟩, ⟨S128x128, headQ c i M13 F13 r' q⟩] concatenates_S128x128_S128x128_S256x128_d0
def eyePair : FVec Ideal S256x256 .fp8e5m2 := M17.view.readAt (Elt Ideal) (Rect.unit (s := S256x256) ![0, 0] S256x256.size Gen.inb_S256x256_S256x256_0_0).toLoadRect F17
def eyeOne : FVec Ideal S128x128 .fp8e5m2 := M17.view.readAt (Elt Ideal) (Rect.unit (s := S256x256) ![0, 0] S128x128.size (by decide)).toLoadRect F17
end loads

section masks
variable (v21 v22 : View sig .tc .vmem S2x7x32x128 .i32) (L21 L22 : List (View.Piece (Elt Ideal) S2x7x32x128 .i32))

theorem inb_load : ∀ (s : Fin 2) (t : Fin 7) (a : Fin 4), (![s.val, t.val, 0, 0] : Fin 4 → ℕ) a + S1x1x32x128.size a ≤ S2x7x32x128.size a := by decide

def load32 (v : View sig .tc .vmem S2x7x32x128 .i32) (L : List (View.Piece (Elt Ideal) S2x7x32x128 .i32)) (s : Fin 2) (t : ℕ) : IVec S32x128 32 :=
  shapeCast S32x128 (v.readCov L (Rect.unit (s := S2x7x32x128) ![s.val, t % 7, 0, 0] S1x1x32x128.size (inb_load s ⟨t % 7, Nat.mod_lt _ (by omega)⟩)).toLoadRect) shapeCasts_S1x1x32x128_S32x128

/-- The mask words of a tile. -/
def maskWord (s : Fin 2) (q : Fin 7) (k : ℕ) : IVec S32x128 32 :=
  match k.beq q.val with
  | true => ori (andi (load32 v21 L21 s (q.val - k)) (load32 v22 L22 s k)) bodyRun.sl.v1712
  | false => andi (load32 v21 L21 s (q.val - k)) (load32 v22 L22 s k)
/-- Its mask. -/
def maskTile (s : Fin 2) (q : Fin 7) (k : ℕ) : FVec Ideal S128x128 .fp8e5m2 :=
  bitcastToFloat .fp8e5m2 (bitcast S128x128 8 (maskWord v21 v22 L21 L22 s q k) bitcasts_S32x128_w32_S128x128_w8)
def maskPair (q : Fin 7) (k : ℕ) : FVec Ideal S128x256 .fp8e5m2 :=
  concatenate S128x256 1 [⟨S128x128, maskTile v21 v22 L21 L22 0 q k⟩, ⟨S128x128, maskTile v21 v22 L21 L22 1 q k⟩] concatenates_S128x128_S128x128_S128x256_d1
end masks

section group
variable {W : ℕ} (hW : W = 256 ∨ W = 128)
  (Q : Fin 7 → FVec Ideal ⟨2, ![W, 128]⟩ .fp8e4m3) (K : (q : Fin 7) → FVec Ideal ⟨2, ![keys q, 128]⟩ .fp8e4m3) (V : (q : Fin 7) → FVec Ideal ⟨2, ![128, keys q]⟩ .bf16)
  (B : Fin 7 → ℕ → FVec Ideal ⟨2, ![128, W]⟩ .fp8e5m2) (E : FVec Ideal ⟨2, ![W, W]⟩ .fp8e5m2) (C : FVec Ideal ⟨2, ![1, W]⟩ .f32) (vs : Ideal .f32)
  (v23 : View sig .tc .vmem S2x896x256 .f32) (L23 : List (View.Piece (Elt Ideal) S2x896x256 .f32))

/-- The mask of a block. -/
def maskAll (q : Fin 7) : FVec Ideal ⟨2, ![keys q, W]⟩ .fp8e5m2 :=
  match q with
  | ⟨0, _⟩ => B 0 0
  | ⟨q + 1, h⟩ => concatenate ⟨2, ![keys ⟨q + 1, h⟩, W]⟩ 0 (((List.range (q + 2)).map (B ⟨q + 1, h⟩)).map fun y => ⟨⟨2, ![128, W]⟩, y⟩) (fact_stack hW ⟨q + 1, h⟩ (Nat.succ_pos q) _)

def scoreAll (q : Fin 7) : FVec Ideal ⟨2, ![keys q, W]⟩ .f32 := Cert.Tiles.score (keys q) W (K q) (Q q) (maskAll hW B q) E

include hW in
theorem inb_score (q : Fin 7) : ∀ a : Fin 3, (![q.val % 2, 0, 0] : Fin 3 → ℕ) a + (![1, keys q, W] : Fin 3 → ℕ) a ≤ S2x896x256.size a := by
  rcases hW with rfl | rfl <;> revert q <;> decide +kernel

/-- The stores of the first blocks' scores, last first. -/
def scores (o : List (Fin 7)) : List (View.Piece (Elt Ideal) S2x896x256 .f32) :=
  match o with
  | [] => L23
  | q :: o => ⟨Rect.unit (s := S2x896x256) ![q.val % 2, 0, 0] ![1, keys q, W] (inb_score hW q), shapeCast ⟨3, ![1, keys q, W]⟩ (scoreAll hW Q K B E q) (fact_up hW q)⟩ :: scores o

/-- The blocks scored before a block's output is made. -/
def done (q : Fin 7) : List (Fin 7) :=
  match q with
  | 0 => [1, 0] | 1 => [2, 1, 0] | 2 => [3, 2, 1, 0] | 3 => [4, 3, 2, 1, 0] | 4 => [5, 4, 3, 2, 1, 0] | _ => [6, 5, 4, 3, 2, 1, 0]

def weights (q : Fin 7) : FVec Ideal ⟨2, ![keys q, W]⟩ .f32 :=
  Cert.Tiles.weight (keys q) W
    (shapeCast ⟨2, ![keys q, W]⟩ (v23.readCov (scores hW Q K B E L23 (done q)) (Rect.unit (s := S2x896x256) ![q.val % 2, 0, 0] ![1, keys q, W] (inb_score hW q)).toLoadRect) (fact_down hW q))
    (multiReduction (F := Ideal) (s := ⟨2, ![keys q, W]⟩) FKind.maximumf [0] ⟨1, ![W]⟩ (scoreAll hW Q K B E q) 4286578688#32 (fact_red hW q) (by trivial) rfl)
    C (fact_row hW) (fact_bcast hW q) (fact_bcast hW q)

def outAll (q : Fin 7) : FVec Ideal ⟨2, ![128, W]⟩ .bf16 :=
  truncf .bf16 (Cert.Tiles.value (keys q) W (V q) (weights hW Q K B E C v23 L23 q) (by decide) vs (fact_red hW q) (by trivial) rfl (fact_row hW) (fact_out hW)) (by decide)
end group

end Cert.KernelIdeal.Hand
end
-- ==== Proof.Prep.lean ====
module

public import proofs.«01_k».proof.Proof.KernelIdealBody
public import proofs.«01_k».proof.Proof.Slab

@[expose] public section

set_option maxRecDepth 16384

noncomputable section

/-! What the preparation leaves in the scratch: the keys, the values transposed, the diagonal, and a chunk of the queries. -/
namespace Cert.KernelIdeal.Hand

open Cert.KernelIdeal Cert.KernelIdeal.Gen Cert.Slab
open Idealize.ShloMosaic

variable (c : Dev nD)

/-- One head of a staged operand, as the kernel loads it. -/
theorem head_load (M : Memref sig .tc .vmem S1x896x8x128 .fp8e4m3) (f : Bf (F := Ideal) c M) (k : ℕ) (hk : k < 8) (inb) (a : Fin 896) (b : Fin 128) :
    M.view.readAt (Elt Ideal) (Rect.unit (s := S1x896x8x128) ![0, 0, k, 0] S1x896x1x128.size inb).toLoadRect f (ix4 0 a 0 b) = M.view.read (Elt Ideal) f (ix4 0 a ⟨k, hk⟩ b) :=
  readAt4 M.view f inb 0 a 0 b 0 a ⟨k, hk⟩ b rfl (by show _ = 0 + _; omega) rfl (by show _ = 0 + _; omega)

theorem prep_k (M6 : Memref sig .tc .vmem S1x896x8x128 .fp8e4m3) (f6 : Bf (F := Ideal) c M6) (M14 : Memref sig .tc .vmem S8x896x128 .fp8e4m3) (f14 : Bf (F := Ideal) c M14)
    (h : Fin 8) (j : Fin 896) (d : Fin 128) :
    (M14.view.read (Elt Ideal) (M14.view.writes (Elt Ideal) f14 (bodyRun.sl.H14_8 c M6 f6)) (ix3 h j d) : EReal) = (M6.view.read (Elt Ideal) f6 (ix4 0 j h d) : EReal) := by
  let G : Fin 8 → Fin 896 → Fin 128 → Elt Ideal .fp8e4m3 := fun h j d => M6.view.read (Elt Ideal) f6 (ix4 0 j h d)
  refine read_slab M14.view f14 7 (by omega) _ _ _ G h j d rfl ?_ fun h7 => read_slab M14.view f14 6 (by omega) _ _ _ G h j d rfl ?_ fun h6 =>
    read_slab M14.view f14 5 (by omega) _ _ _ G h j d rfl ?_ fun h5 => read_slab M14.view f14 4 (by omega) _ _ _ G h j d rfl ?_ fun h4 =>
    read_slab M14.view f14 3 (by omega) _ _ _ G h j d rfl ?_ fun h3 => read_slab M14.view f14 2 (by omega) _ _ _ G h j d rfl ?_ fun h2 =>
    read_slab M14.view f14 1 (by omega) _ _ _ G h j d rfl ?_ fun h1 => read_slab M14.view f14 0 (by omega) _ _ _ G h j d rfl ?_ fun h0 => by omega
  all_goals
    intro a b
    pointwise [bodyRun.sl.v8789, bodyRun.sl.v8786, bodyRun.sl.v8784, bodyRun.sl.v8781, bodyRun.sl.v8779, bodyRun.sl.v8776, bodyRun.sl.v8774, bodyRun.sl.v8771, bodyRun.sl.v8769, bodyRun.sl.r, k0_pay3, k0_pay4, k0_pay5, k0_pay6]
    exact head_load c M6 f6 _ _ _ a b

/-- The values as they are put by before their transposes. -/
theorem prep_w (M7 : Memref sig .tc .vmem S1x896x8x128 .fp8e4m3) (f7 : Bf (F := Ideal) c M7) (M16 : Memref sig .tc .vmem S8x896x128 .fp8e4m3) (f16 : Bf (F := Ideal) c M16)
    (h : Fin 8) (j : Fin 896) (d : Fin 128) :
    (M16.view.read (Elt Ideal) (M16.view.writes (Elt Ideal) f16 (bodyRun.sl.H16_8 c M7 f7)) (ix3 h j d) : EReal) = (M7.view.read (Elt Ideal) f7 (ix4 0 j h d) : EReal) := by
  let G : Fin 8 → Fin 896 → Fin 128 → Elt Ideal .fp8e4m3 := fun h j d => M7.view.read (Elt Ideal) f7 (ix4 0 j h d)
  refine read_slab M16.view f16 7 (by omega) _ _ _ G h j d rfl ?_ fun h7 => read_slab M16.view f16 6 (by omega) _ _ _ G h j d rfl ?_ fun h6 =>
    read_slab M16.view f16 5 (by omega) _ _ _ G h j d rfl ?_ fun h5 => read_slab M16.view f16 4 (by omega) _ _ _ G h j d rfl ?_ fun h4 =>
    read_slab M16.view f16 3 (by omega) _ _ _ G h j d rfl ?_ fun h3 => read_slab M16.view f16 2 (by omega) _ _ _ G h j d rfl ?_ fun h2 =>
    read_slab M16.view f16 1 (by omega) _ _ _ G h j d rfl ?_ fun h1 => read_slab M16.view f16 0 (by omega) _ _ _ G h j d rfl ?_ fun h0 => by omega
  all_goals
    intro a b
    pointwise [bodyRun.sl.v8829, bodyRun.sl.v8826, bodyRun.sl.v8824, bodyRun.sl.v8821, bodyRun.sl.v8819, bodyRun.sl.v8816, bodyRun.sl.v8814, bodyRun.sl.v8811, bodyRun.sl.v8809, bodyRun.sl.v8806, bodyRun.sl.v8804, bodyRun.sl.v8801, bodyRun.sl.v8799, bodyRun.sl.v8796, bodyRun.sl.v8794, bodyRun.sl.v8791]
    exact head_load c M7 f7 _ _ _ a b

/-- One head of the values, loaded back. -/
theorem prep_w_load (M7 : Memref sig .tc .vmem S1x896x8x128 .fp8e4m3) (f7 : Bf (F := Ideal) c M7) (M16 : Memref sig .tc .vmem S8x896x128 .fp8e4m3)
    (k : ℕ) (hk : k < 8) (inb) (j : Fin 896) (d : Fin 128) :
    M16.view.readCov (bodyRun.sl.H16_8 (F := Ideal) c M7 f7) (Rect.unit (s := S8x896x128) ![k, 0, 0] S1x896x128.size inb).toLoadRect (ix3 0 j d) = M7.view.read (Elt Ideal) f7 (ix4 0 j ⟨k, hk⟩ d) :=
  (readAt3 M16.view _ inb 0 j d ⟨k, hk⟩ j d rfl (by show _ = 0 + _; omega) (by show _ = 0 + _; omega)).trans (prep_w c M7 f7 M16 _ _ _ _)

theorem prep_v (M7 : Memref sig .tc .vmem S1x896x8x128 .fp8e4m3) (f7 : Bf (F := Ideal) c M7) (M16 : Memref sig .tc .vmem S8x896x128 .fp8e4m3)
    (M15 : Memref sig .tc .vmem S8x128x896 .bf16) (f15 : Bf (F := Ideal) c M15) (h : Fin 8) (d : Fin 128) (j : Fin 896) :
    (M15.view.read (Elt Ideal) (M15.view.writes (Elt Ideal) f15 (bodyRun.sl.H15_8 c M7 M16 f7)) (ix3 h d j) : EReal) = (M7.view.read (Elt Ideal) f7 (ix4 0 j h d) : EReal) := by
  let G : Fin 8 → Fin 128 → Fin 896 → Elt Ideal .bf16 := fun h d j => M7.view.read (Elt Ideal) f7 (ix4 0 j h d)
  refine read_slab M15.view f15 7 (by omega) _ _ _ G h d j rfl ?_ fun h7 => read_slab M15.view f15 6 (by omega) _ _ _ G h d j rfl ?_ fun h6 =>
    read_slab M15.view f15 5 (by omega) _ _ _ G h d j rfl ?_ fun h5 => read_slab M15.view f15 4 (by omega) _ _ _ G h d j rfl ?_ fun h4 =>
    read_slab M15.view f15 3 (by omega) _ _ _ G h d j rfl ?_ fun h3 => read_slab M15.view f15 2 (by omega) _ _ _ G h d j rfl ?_ fun h2 =>
    read_slab M15.view f15 1 (by omega) _ _ _ G h d j rfl ?_ fun h1 => read_slab M15.view f15 0 (by omega) _ _ _ G h d j rfl ?_ fun h0 => by omega
  all_goals
    intro a b
    pointwise [bodyRun.sl.v8885, bodyRun.sl.v8882, bodyRun.sl.v8881, bodyRun.sl.v8880, bodyRun.sl.v8879, bodyRun.sl.v8878, bodyRun.sl.v8875, bodyRun.sl.v8874, bodyRun.sl.v8873, bodyRun.sl.v8872, bodyRun.sl.v8871, bodyRun.sl.v8868, bodyRun.sl.v8867, bodyRun.sl.v8866, bodyRun.sl.v8865, bodyRun.sl.v8864, bodyRun.sl.v8861, bodyRun.sl.v8860, bodyRun.sl.v8859, bodyRun.sl.v8858, bodyRun.sl.v8857, bodyRun.sl.v8854, bodyRun.sl.v8853, bodyRun.sl.v8852, bodyRun.sl.v8851, bodyRun.sl.v8850, bodyRun.sl.v8847, bodyRun.sl.v8846, bodyRun.sl.v8845, bodyRun.sl.v8844, bodyRun.sl.v8843, bodyRun.sl.v8840, bodyRun.sl.v8839, bodyRun.sl.v8838, bodyRun.sl.v8837, bodyRun.sl.v8836, bodyRun.sl.v8833, bodyRun.sl.v8832, bodyRun.sl.v8831, bodyRun.sl.v8830]
    exact prep_w_load c M7 f7 M16 _ _ _ b a

theorem diag_word {α : Type} (l i : Fin 256) (a b : α) : Scalar.select (IntOp.cmpi .eq (BitVec.ofNat 32 l.val) (BitVec.ofNat 32 i.val)) a b = if l = i then a else b := by
  have h : IntOp.cmpi .eq (BitVec.ofNat 32 l.val) (BitVec.ofNat 32 i.val) = BitVec.ofBool (decide (l = i)) := by
    show BitVec.ofBool (BitVec.ofNat 32 l.val == BitVec.ofNat 32 i.val) = _
    congr 1
    rw [Bool.eq_iff_iff, beq_iff_eq, decide_eq_true_eq, ← BitVec.toNat_inj, BitVec.toNat_ofNat, BitVec.toNat_ofNat, Fin.ext_iff]
    omega
  rw [h]
  by_cases hli : l = i <;> simp [hli, Scalar.select]

theorem prep_eye (M17 : Memref sig .tc .vmem S256x256 .fp8e5m2) (f17 : Bf (F := Ideal) c M17) (l i : Fin 256) :
    (M17.view.read (Elt Ideal) (M17.view.writes (Elt Ideal) f17 bodyRun.sl.H17_1) (ix2 l i) : EReal) = if l = i then ⊥ else 0 := by
  refine read_cons_unit M17.view f17 _ _ _ _ _ (fun x hx => ?_) fun hx => ?_
  · have hxe : x = ix2 l i := funext fun a => match a with
      | 0 => Fin.ext (by have := hx 0; exact (by simpa using this.symm))
      | 1 => Fin.ext (by have := hx 1; exact (by simpa using this.symm))
    rw [hxe]
    pointwise [k0_pay2]
    rw [diag_word l i]
    by_cases h : l = i
    · rw [if_pos h, if_pos h]; rfl
    · rw [if_neg h, if_neg h]
  · obtain ⟨a, ha⟩ := hx
    match a, ha with
    | 0, ha => have ha : l.val < 0 ∨ 0 + 256 ≤ l.val := ha; omega
    | 1, ha => have ha : i.val < 0 ∨ 0 + 256 ≤ i.val := ha; omega

/-! ## The scratch a point's tiles read -/

theorem cond1_pos : ∀ i : grid0.Coords, (i 1).val = 0 → k0_cond1 i = 1#1 := by decide +kernel
theorem cond1_neg : ∀ i : grid0.Coords, (i 1).val ≠ 0 → ¬ k0_cond1 i = 1#1 := by decide +kernel
theorem cond2_pos : ∀ i : grid0.Coords, (i 1).val < 7 → k0_cond2 i = 1#1 := by decide +kernel
theorem cond2_neg : ∀ i : grid0.Coords, ¬ (i 1).val < 7 → ¬ k0_cond2 i = 1#1 := by decide +kernel

section state
variable (i : grid0.Coords) (M5 : Memref sig .tc .vmem S1x896x8x128 .fp8e4m3) (f5 : Bf (F := Ideal) c M5) (M6 : Memref sig .tc .vmem S1x896x8x128 .fp8e4m3) (f6 : Bf (F := Ideal) c M6)
  (M7 : Memref sig .tc .vmem S1x896x8x128 .fp8e4m3) (f7 : Bf (F := Ideal) c M7)
  (M13 : Memref sig .tc .vmem S16x896x128 .fp8e4m3) (f13 : Bf (F := Ideal) c M13) (M14 : Memref sig .tc .vmem S8x896x128 .fp8e4m3) (f14 : Bf (F := Ideal) c M14)
  (M15 : Memref sig .tc .vmem S8x128x896 .bf16) (f15 : Bf (F := Ideal) c M15) (M16 : Memref sig .tc .vmem S8x896x128 .fp8e4m3) (M17 : Memref sig .tc .vmem S256x256 .fp8e5m2) (f17 : Bf (F := Ideal) c M17)

/-- The queries' scratch after a point's own chunk is put by. -/
def st13 : Bf (F := Ideal) c M13 :=
  if hc : k0_cond2 i = 1#1 then
    M13.view.writes (Elt Ideal) f13
      (⟨Rect.unit (k0_off2 i 7#32) S1x896x128.size (Gen.k0_off2_inb i hc 7), k0_pay83 (bodyRun.sl.v8792 c M5 f5)⟩ ::
        ⟨Rect.unit (k0_off2 i 6#32) S1x896x128.size (Gen.k0_off2_inb i hc 6), bodyRun.sl.v8790 c M5 f5⟩ ::
          ⟨Rect.unit (k0_off2 i 5#32) S1x896x128.size (Gen.k0_off2_inb i hc 5), bodyRun.sl.v8783_1 c M5 f5⟩ ::
            ⟨Rect.unit (k0_off2 i 4#32) S1x896x128.size (Gen.k0_off2_inb i hc 4), bodyRun.sl.v8776_1 c M5 f5⟩ ::
              ⟨Rect.unit (k0_off2 i 3#32) S1x896x128.size (Gen.k0_off2_inb i hc 3), bodyRun.sl.v8769_1 c M5 f5⟩ :: bodyRun.sl.H13_3 c i M5 f5 hc)
  else f13
def st14 : Bf (F := Ideal) c M14 := if hc : k0_cond1 i = 1#1 then M14.view.writes (Elt Ideal) f14 (bodyRun.sl.H14_8 c M6 f6) else f14
def st15 : Bf (F := Ideal) c M15 := if hc : k0_cond1 i = 1#1 then M15.view.writes (Elt Ideal) f15 (bodyRun.sl.H15_8 c M7 M16 f7) else f15
def st17 : Bf (F := Ideal) c M17 := if hc : k0_cond1 i = 1#1 then M17.view.writes (Elt Ideal) f17 bodyRun.sl.H17_1 else f17

/-- A chunk put by fills its half of the queries' scratch … -/
theorem st13_in (hg : (i 1).val < 7) (h : Fin 16) (hh : h.val / 8 = (i 1).val % 2) (j : Fin 896) (d : Fin 128) :
    (M13.view.read (Elt Ideal) (st13 c i M5 f5 M13 f13) (ix3 h j d) : EReal) = (M5.view.read (Elt Ideal) f5 (ix4 0 j ⟨h.val % 8, by omega⟩ d) : EReal) := by
  have hc : k0_cond2 i = 1#1 := cond2_pos i hg
  have hg2 : (i 1).val % 2 < 2 := Nat.mod_lt _ (by omega)
  unfold st13; rw [dif_pos hc]
  let G : Fin 16 → Fin 896 → Fin 128 → Elt Ideal .fp8e4m3 := fun h j d => M5.view.read (Elt Ideal) f5 (ix4 0 j ⟨h.val % 8, by omega⟩ d)
  refine read_slab M13.view f13 (8 * ((i 1).val % 2) + 7) (by omega) _ _ _ G h j d (k0_off2_eq i 7) ?_ fun h7 => read_slab M13.view f13 (8 * ((i 1).val % 2) + 6) (by omega) _ _ _ G h j d (k0_off2_eq i 6) ?_ fun h6 =>
    read_slab M13.view f13 (8 * ((i 1).val % 2) + 5) (by omega) _ _ _ G h j d (k0_off2_eq i 5) ?_ fun h5 => read_slab M13.view f13 (8 * ((i 1).val % 2) + 4) (by omega) _ _ _ G h j d (k0_off2_eq i 4) ?_ fun h4 =>
    read_slab M13.view f13 (8 * ((i 1).val % 2) + 3) (by omega) _ _ _ G h j d (k0_off2_eq i 3) ?_ fun h3 => read_slab M13.view f13 (8 * ((i 1).val % 2) + 2) (by omega) _ _ _ G h j d (k0_off2_eq i 2) ?_ fun h2 =>
    read_slab M13.view f13 (8 * ((i 1).val % 2) + 1) (by omega) _ _ _ G h j d (k0_off2_eq i 1) ?_ fun h1 => read_slab M13.view f13 (8 * ((i 1).val % 2) + 0) (by omega) _ _ _ G h j d (k0_off2_eq i 0) ?_ fun h0 => by omega
  all_goals
    intro a b
    pointwise [k0_pay83, bodyRun.sl.v8792, bodyRun.sl.v8790, bodyRun.sl.v8785, bodyRun.sl.v8783_1, bodyRun.sl.v8778_1, bodyRun.sl.v8776_1, bodyRun.sl.v8771_1, bodyRun.sl.v8769_1, bodyRun.sl.v8764, bodyRun.sl.v8762, bodyRun.sl.v8757, bodyRun.sl.v8755, bodyRun.sl.v8750, bodyRun.sl.v8748, bodyRun.sl.v8743]
    rw [head_load c M5 f5 _ (by omega) _ a b]
    exact congrArg (fun q => M5.view.read (Elt Ideal) f5 (ix4 0 a q b)) (Fin.ext (by dsimp only; omega))
end state

end Cert.KernelIdeal.Hand
end
-- ==== Proof.Outs.lean ====
module

public import proofs.«01_k».proof.Proof.Units
public import proofs.«01_k».proof.Proof.Prep

@[expose] public section

set_option maxRecDepth 65536

noncomputable section

/-! The output stores of a point. -/
namespace Cert.KernelIdeal.Hand

open Cert.KernelIdeal Cert.KernelIdeal.Gen Cert.Slab Cert.Words
open Idealize.ShloMosaic

variable (c : Dev nD) (i : grid0.Coords)
  (M2 : Memref sig .tc .smem S2x56 .f32) (M3 : Memref sig .tc .smem S2x8 .f32) (M4 : Memref sig .tc .smem S2x8 .f32)
  (M5 M6 M7 : Memref sig .tc .vmem S1x896x8x128 .fp8e4m3)
  (M8 : Memref sig .tc .vmem S1x56x160 .i32) (M9 : Memref sig .tc .vmem S2x56 .i32)
  (M10 : Memref sig .tc .vmem S1x56x240 .i32) (M11 : Memref sig .tc .vmem S2x56 .i32)
  (M13 : Memref sig .tc .vmem S16x896x128 .fp8e4m3) (M14 : Memref sig .tc .vmem S8x896x128 .fp8e4m3)
  (M15 : Memref sig .tc .vmem S8x128x896 .bf16) (M16 : Memref sig .tc .vmem S8x896x128 .fp8e4m3) (M17 : Memref sig .tc .vmem S256x256 .fp8e5m2)
  (M18 : Memref sig .tc .vmem S8x56x128 .i32) (M19 : Memref sig .tc .vmem S7x32x128 .i32) (M20 : Memref sig .tc .vmem S128x128 .i32)
  (M21 M22 : Memref sig .tc .vmem S2x7x32x128 .i32) (M23 : Memref sig .tc .vmem S2x896x256 .f32)
  (f2 : Bf (F := Ideal) c M2) (f3 : Bf (F := Ideal) c M3) (f4 : Bf (F := Ideal) c M4) (f5 : Bf (F := Ideal) c M5) (f6 : Bf (F := Ideal) c M6) (f7 : Bf (F := Ideal) c M7)
  (f8 : Bf (F := Ideal) c M8) (f9 : Bf (F := Ideal) c M9) (f10 : Bf (F := Ideal) c M10) (f11 : Bf (F := Ideal) c M11)
  (f13 : Bf (F := Ideal) c M13) (f14 : Bf (F := Ideal) c M14) (f15 : Bf (F := Ideal) c M15) (f17 : Bf (F := Ideal) c M17) (f18 : Bf (F := Ideal) c M18) (f19 : Bf (F := Ideal) c M19)

/-- The scale of a head's queries. -/
def qsOf (r : Fin 7) : Ideal .f32 :=
  M2.view.readAt (Elt Ideal) (Rect.unit (s := S2x56) (k0_off11 i (k0_off11_at r).1 (k0_off11_at r).2) S1x1.size (Gen.k0_off11_inb i r)).toLoadRect f2 (Shape.Idx.first (show 0 < S1x1.numel by decide))
/-- The scale of the keys. -/
def ksOf : Ideal .f32 :=
  M3.view.readAt (Elt Ideal) (Rect.unit (s := S2x8) (k0_off12 i) S1x1.size (Gen.k0_off12_inb i)).toLoadRect f3 (Shape.Idx.first (show 0 < S1x1.numel by decide))
/-- The scale of the values. -/
def vsOf : Ideal .f32 :=
  M4.view.readAt (Elt Ideal) (Rect.unit (s := S2x8) (k0_off12 i) S1x1.size (Gen.k0_off12_inb i)).toLoadRect f4 (Shape.Idx.first (show 0 < S1x1.numel by decide))

def pairC (r r' : Fin 7) : FVec Ideal S1x256 .f32 := k0_pay295 bodyRun.sl.v1713 (qsOf c i M2 f2 r) (ksOf c i M3 f3) (qsOf c i M2 f2 r') (ksOf c i M3 f3)
def oneC (r : Fin 7) : FVec Ideal S1x128 .f32 := k0_pay1111 (qsOf c i M2 f2 r) (ksOf c i M3 f3)

/-- The output rows of a pair of heads. -/
def pairAll (r r' : Fin 7) (L21 L22 : List (View.Piece (Elt Ideal) S2x7x32x128 .i32)) (L23 : List (View.Piece (Elt Ideal) S2x896x256 .f32)) (q : Fin 7) : FVec Ideal S128x256 .bf16 :=
  outAll (W := 256) (Or.inl rfl) (pairQ c i M13 (st13 c i M5 f5 M13 f13) r r') (keysOf c i M14 (st14 c i M6 f6 M14 f14)) (valuesOf c i M15 (st15 c i M7 f7 M15 f15 M16))
    (maskPair M21.view M22.view L21 L22) (eyePair c M17 (st17 c i M17 f17)) (pairC c i M2 M3 f2 f3 r r') (vsOf c i M4 f4) M23.view L23 q
/-- The output rows of one head. -/
def oneAll (r : Fin 7) (L21 L22 : List (View.Piece (Elt Ideal) S2x7x32x128 .i32)) (L23 : List (View.Piece (Elt Ideal) S2x896x256 .f32)) (q : Fin 7) : FVec Ideal S128x128 .bf16 :=
  outAll (W := 128) (Or.inr rfl) (headQ c i M13 (st13 c i M5 f5 M13 f13) r) (keysOf c i M14 (st14 c i M6 f6 M14 f14)) (valuesOf c i M15 (st15 c i M7 f7 M15 f15 M16))
    (maskTile M21.view M22.view L21 L22 0) (eyeOne c M17 (st17 c i M17 f17)) (oneC c i M2 M3 f2 f3 r) (vsOf c i M4 f4) M23.view L23 q

/-- One head's rows of a pair's. -/
def firstRows (x : FVec Ideal S128x256 .bf16) : FVec Ideal S1x128x128 .bf16 :=
  shapeCast S1x128x128 (transpose S128x128 [1, 0] (extractStridedSlice S128x128 ![0, 0] x (by decide)) transposes_S128x128_p1_0_S128x128) shapeCasts_S128x128_S1x128x128
def lastRows (x : FVec Ideal S128x256 .bf16) : FVec Ideal S1x128x128 .bf16 :=
  shapeCast S1x128x128 (transpose S128x128 [1, 0] (extractStridedSlice S128x128 ![0, 128] x (by decide)) transposes_S128x128_p1_0_S128x128) shapeCasts_S128x128_S1x128x128
def onlyRows (x : FVec Ideal S128x128 .bf16) : FVec Ideal S1x128x128 .bf16 :=
  shapeCast S1x128x128 (transpose S128x128 [1, 0] x transposes_S128x128_p1_0_S128x128) shapeCasts_S128x128_S1x128x128

/-- What is stored for head `r`, block `q`. -/
def payload (r q : Fin 7) : FVec Ideal S1x128x128 .bf16 :=
  let p0 := pairAll c i M2 M3 M4 M5 M6 M7 M13 M14 M15 M16 M17 M21 M22 M23 f2 f3 f4 f5 f6 f7 f13 f14 f15 f17 0 1 (bodyRun.sl.H21_56 c i M10 M11 M18 f10 f11 f18) (bodyRun.sl.H22_56 c i M8 M9 M19 M20 f8 f9 f19) []
  let p1 := pairAll c i M2 M3 M4 M5 M6 M7 M13 M14 M15 M16 M17 M21 M22 M23 f2 f3 f4 f5 f6 f7 f13 f14 f15 f17 2 3 (bodyRun.sl.H21_112 c i M10 M11 M18 f10 f11 f18) (bodyRun.sl.H22_112 c i M8 M9 M19 M20 f8 f9 f19)
    (bodyRun.sl.H23_7 c i M5 M6 M8 M9 M10 M11 M13 M14 M17 M18 M19 M20 M21 M22 f5 f6 f8 f9 f10 f11 f13 f14 f17 f18 f19)
  let p2 := pairAll c i M2 M3 M4 M5 M6 M7 M13 M14 M15 M16 M17 M21 M22 M23 f2 f3 f4 f5 f6 f7 f13 f14 f15 f17 4 5 (bodyRun.sl.H21_168 c i M10 M11 M18 f10 f11 f18) (bodyRun.sl.H22_168 c i M8 M9 M19 M20 f8 f9 f19)
    (bodyRun.sl.H23_14 c i M5 M6 M8 M9 M10 M11 M13 M14 M17 M18 M19 M20 M21 M22 f5 f6 f8 f9 f10 f11 f13 f14 f17 f18 f19)
  match r with
  | 0 => firstRows (p0 q) | 1 => lastRows (p0 q) | 2 => firstRows (p1 q) | 3 => lastRows (p1 q) | 4 => firstRows (p2 q) | 5 => lastRows (p2 q)
  | 6 => onlyRows (oneAll c i M2 M3 M4 M5 M6 M7 M13 M14 M15 M16 M17 M21 M22 M23 f2 f3 f4 f5 f6 f7 f13 f14 f15 f17 6 (bodyRun.sl.H21_196 c i M10 M11 M18 f10 f11 f18) (bodyRun.sl.H22_196 c i M8 M9 M19 M20 f8 f9 f19)
    (bodyRun.sl.H23_21 c i M5 M6 M8 M9 M10 M11 M13 M14 M17 M18 M19 M20 M21 M22 f5 f6 f8 f9 f10 f11 f13 f14 f17 f18 f19) q)

theorem inb_out : ∀ (q r : Fin 7) (a : Fin 3), (![0, 128 * q.val, 128 * r.val] : Fin 3 → ℕ) a + S1x128x128.size a ≤ S1x896x896.size a := by decide +kernel

/-- The output stores, last first. -/
def outs (P : Fin 7 → Fin 7 → FVec Ideal S1x128x128 .bf16) (o : List (Fin 7 × Fin 7)) : List (View.Piece (Elt Ideal) S1x896x896 .bf16) :=
  o.map fun p => ⟨Rect.unit (s := S1x896x896) ![0, 128 * p.2.val, 128 * p.1.val] S1x128x128.size (inb_out p.2 p.1), P p.1 p.2⟩

/-- Their order: heads and blocks. -/
def outOrder : List (Fin 7 × Fin 7) :=
  [(6, 6), (6, 5), (6, 4), (6, 3), (6, 2), (6, 1), (6, 0)] ++
  [(5, 6), (4, 6), (5, 5), (4, 5), (5, 4), (4, 4), (5, 3), (4, 3), (5, 2), (4, 2), (5, 1), (4, 1), (5, 0), (4, 0)] ++
  [(3, 6), (2, 6), (3, 5), (2, 5), (3, 4), (2, 4), (3, 3), (2, 3), (3, 2), (2, 2), (3, 1), (2, 1), (3, 0), (2, 0)] ++
  [(1, 6), (0, 6), (1, 5), (0, 5), (1, 4), (0, 4), (1, 3), (0, 3), (1, 2), (0, 2), (1, 1), (0, 1), (1, 0), (0, 0)]

theorem mem_outOrder : ∀ r q : Fin 7, (r, q) ∈ outOrder := by decide +kernel

end Cert.KernelIdeal.Hand
end
-- ==== Proof.Values.lean ====
module

public import proofs.«01_k».proof.Proof.Units
public import proofs.«01_k».proof.Proof.Spec

@[expose] public section

set_option maxRecDepth 65536

noncomputable section

/-! What a group's output rows are, from what its operands are. -/
namespace Cert.KernelIdeal.Hand

open Cert.KernelIdeal Cert.KernelIdeal.Gen Cert.Slab Cert.Words Cert.Spec
open Idealize.ShloMosaic

/-- The query a lane of a block stands for. -/
def query (q : Fin 7) (l : ℕ) : Fin 896 := ⟨128 * q.val + l % 128, by have := Nat.mod_lt l (show 128 > 0 by omega); omega⟩
theorem keys_le (q : Fin 7) : keys q ≤ 896 := by unfold keys; omega

section group
variable {W : ℕ} (hW : W = 256 ∨ W = 128)
  (Q : Fin 7 → FVec Ideal ⟨2, ![W, 128]⟩ .fp8e4m3) (K : (q : Fin 7) → FVec Ideal ⟨2, ![keys q, 128]⟩ .fp8e4m3) (V : (q : Fin 7) → FVec Ideal ⟨2, ![128, keys q]⟩ .bf16)
  (B : Fin 7 → ℕ → FVec Ideal ⟨2, ![128, W]⟩ .fp8e5m2) (E : FVec Ideal ⟨2, ![W, W]⟩ .fp8e5m2) (C : FVec Ideal ⟨2, ![1, W]⟩ .f32) (vs : Ideal .f32)
  (v23 : View sig .tc .vmem S2x896x256 .f32) (L23 : List (View.Piece (Elt Ideal) S2x896x256 .f32))
  (x : Inp) (b : Fin 2) (g : Fin 8) (h : Fin W → Fin 7)

open Classical in
/-- The operands of a group are those of the mathematics: batch `b`, group `g`, head `h l` in lane `l`. -/
structure Fits : Prop where
  hQ : ∀ q (l : Fin W) (e : Fin 128), (Q q (ix2 l e) : EReal) = x.q b (query q l) (Inp.hd g (h l)) e
  hK : ∀ q (j : Fin (keys q)) (e : Fin 128), (K q (ix2 j e) : EReal) = x.k b (j.castLE (keys_le q)) g e
  hV : ∀ q (d : Fin 128) (j : Fin (keys q)), (V q (ix2 d j) : EReal) = x.v b (j.castLE (keys_le q)) g d
  hB : ∀ (q : Fin 7) (k : ℕ) (_ : k ≤ q.val) (a : Fin 128) (l : Fin W), (B q k (ix2 a l) : EReal) = if ¬ x.vis b (Inp.hd g (h l)) (query q l) (128 * k + a.val) then 32768 else 0
  hE : ∀ y l : Fin W, (E (ix2 y l) : EReal) = if y = l then ⊥ else 0
  hC : ∀ l : Fin W, (C (ix2 0 l) : EReal) = x.kC b g (h l)
  hs : (vs : EReal) = x.vs b g

variable {Q K V B E C vs x b g h}

open Classical in
theorem maskAll_apply (F : Fits Q K V B E C vs x b g h) (q : Fin 7) (j : Fin (keys q)) (l : Fin W) :
    (maskAll hW B q (ix2 j l) : EReal) = if ¬ x.vis b (Inp.hd g (h l)) (query q l) j.val then 32768 else 0 := by
  match q, j with
  | ⟨0, h0⟩, j =>
    have := F.hB ⟨0, h0⟩ 0 (le_refl _) j l
    rw [Nat.mul_zero, Nat.zero_add] at this
    exact this
  | ⟨q + 1, hq⟩, j =>
    have key := Cert.Tiles.stack_pred (W := W) (m := 128) (N := keys ⟨q + 1, hq⟩) (α := Ideal .fp8e5m2)
      (fun row l y => (y : EReal) = if ¬ x.vis b (Inp.hd g (h l)) (query ⟨q + 1, hq⟩ l) row then 32768 else 0) (ix2 j l)
      ((List.range (q + 2)).map (B ⟨q + 1, hq⟩)) 0 (fact_stack hW ⟨q + 1, hq⟩ (Nat.succ_pos q) _).2.1 j.val
      (by
        have e := (fact_stack hW ⟨q + 1, hq⟩ (Nat.succ_pos q) (B ⟨q + 1, hq⟩)).2.2
        exact lt_of_lt_of_eq j.isLt e.symm)
      (fun t ht a l' => by
        have ht' : t < q + 2 := by simpa using ht
        rw [List.getElem_map, List.getElem_range, Nat.zero_add]
        exact F.hB ⟨q + 1, hq⟩ t (by show t ≤ q + 1; omega) a l')
    rw [Nat.zero_add] at key
    exact (concatenate_apply _ 0 (((List.range (q + 2)).map (B ⟨q + 1, hq⟩)).map fun y => (⟨⟨2, ![128, W]⟩, y⟩ : (s : Shape) × (s.Idx → Ideal .fp8e5m2))) (fact_stack hW ⟨q + 1, hq⟩ (Nat.succ_pos q) _) (ix2 j l)).trans key

open Classical in
theorem scoreAll_apply (F : Fits Q K V B E C vs x b g h) (q : Fin 7) (j : Fin (keys q)) (l : Fin W) :
    (scoreAll hW Q K B E q (ix2 j l) : EReal) = x.kS b g (h l) (query q l) (j.castLE (keys_le q)) := by
  unfold scoreAll
  refine (Cert.Tiles.score_apply (keys q) W (K q) (Q q) (maskAll hW B q) E j l).trans ?_
  have hd := Cert.Tiles.diag_sum W (fun y : Fin W => ¬ x.vis b (Inp.hd g (h y)) (query q y) j.val) (fun y => (maskAll hW B q (ix2 j y) : EReal))
    (fun y => maskAll_apply hW F q j y) (fun y => (E (ix2 y l) : EReal)) l (fun y => F.hE y l)
  refine (congrArg₂ (fun a b : EReal => a + b) (Finset.sum_congr rfl fun e _ => congrArg₂ (fun a b : EReal => a * b) (F.hK q j e) (F.hQ q l e)) hd).trans ?_
  show _ = x.dot b g (h l) (query q l) (j.castLE (keys_le q)) + (if x.vis b (Inp.hd g (h l)) (query q l) j.val then 0 else ⊥)
  refine congrArg₂ (fun a b : EReal => a + b) rfl ?_
  by_cases hv : x.vis b (Inp.hd g (h l)) (query q l) j.val
  · rw [if_pos hv, if_neg (not_not.2 hv)]
  · rw [if_neg hv, if_pos hv]

theorem scores_skip (f : v23.ty.Contents (Elt Ideal)) (q q' : Fin 7) (hq : q'.val % 2 ≠ q.val % 2) (o : List (Fin 7)) (j : Fin 896) (l : Fin 256) :
    v23.read (Elt Ideal) (v23.writes (Elt Ideal) f (scores hW Q K B E L23 (q' :: o))) (ix3 ⟨q.val % 2, Nat.mod_lt _ (by omega)⟩ j l)
      = v23.read (Elt Ideal) (v23.writes (Elt Ideal) f (scores hW Q K B E L23 o)) (ix3 ⟨q.val % 2, Nat.mod_lt _ (by omega)⟩ j l) := by
  refine read_cons_unit v23 f (inb_score hW q') _ _ _ _ (fun y hy => absurd ?_ hq) fun _ => rfl
  have h0 : q.val % 2 = q'.val % 2 + (y 0).val := hy 0
  have h1 : (y 0).val < 1 := (y 0).isLt
  omega

theorem scores_here (f : v23.ty.Contents (Elt Ideal)) (q : Fin 7) (o : List (Fin 7)) (j : Fin (keys q)) (l : Fin W) (hl : l.val < 256) :
    v23.read (Elt Ideal) (v23.writes (Elt Ideal) f (scores hW Q K B E L23 (q :: o))) (ix3 ⟨q.val % 2, Nat.mod_lt _ (by omega)⟩ (j.castLE (keys_le q)) ⟨l.val, hl⟩)
      = scoreAll hW Q K B E q (ix2 j l) := by
  refine read_cons_unit v23 f (inb_score hW q) _ _ _ _ (fun y hy => ?_) fun ho => ?_
  · have h0 : q.val % 2 = q.val % 2 + (y 0).val := hy 0
    have h1 : j.val = 0 + (y 1).val := hy 1
    have h2 : l.val = 0 + (y 2).val := hy 2
    have hy' : y = ix3 0 j l := funext fun a => match a with
      | 0 => Fin.ext (by show (y 0).val = 0; omega)
      | 1 => Fin.ext (by show (y 1).val = j.val; omega)
      | 2 => Fin.ext (by show (y 2).val = l.val; omega)
    rw [hy']
    exact Cert.Tiles.cast_up _ _ j l
  · obtain ⟨a, ha⟩ := ho
    exfalso
    match a, ha with
    | 0, ha => have ha : q.val % 2 < q.val % 2 ∨ q.val % 2 + 1 ≤ q.val % 2 := ha; omega
    | 1, ha => have ha : j.val < 0 ∨ 0 + keys q ≤ j.val := ha; omega
    | 2, ha => have ha : l.val < 0 ∨ 0 + W ≤ l.val := ha; omega

/-- A block's scores are still held when its output is made. -/
theorem scores_held (f : v23.ty.Contents (Elt Ideal)) (q : Fin 7) (j : Fin (keys q)) (l : Fin W) (hl : l.val < 256) :
    v23.read (Elt Ideal) (v23.writes (Elt Ideal) f (scores hW Q K B E L23 (done q))) (ix3 ⟨q.val % 2, Nat.mod_lt _ (by omega)⟩ (j.castLE (keys_le q)) ⟨l.val, hl⟩)
      = scoreAll hW Q K B E q (ix2 j l) := by
  match q, j with
  | 6, j => exact scores_here hW v23 L23 f 6 _ j l hl
  | 0, j => exact (scores_skip hW v23 L23 f 0 1 (by decide) _ _ _).trans (scores_here hW v23 L23 f 0 _ j l hl)
  | 1, j => exact (scores_skip hW v23 L23 f 1 2 (by decide) _ _ _).trans (scores_here hW v23 L23 f 1 _ j l hl)
  | 2, j => exact (scores_skip hW v23 L23 f 2 3 (by decide) _ _ _).trans (scores_here hW v23 L23 f 2 _ j l hl)
  | 3, j => exact (scores_skip hW v23 L23 f 3 4 (by decide) _ _ _).trans (scores_here hW v23 L23 f 3 _ j l hl)
  | 4, j => exact (scores_skip hW v23 L23 f 4 5 (by decide) _ _ _).trans (scores_here hW v23 L23 f 4 _ j l hl)
  | 5, j => exact (scores_skip hW v23 L23 f 5 6 (by decide) _ _ _).trans (scores_here hW v23 L23 f 5 _ j l hl)

theorem weights_apply (F : Fits Q K V B E C vs x b g h) (q : Fin 7) (j : Fin (keys q)) (l : Fin W) :
    (weights hW Q K B E C v23 L23 q (ix2 j l) : EReal) = x.kP (keys q) (keys_le q) b g (h l) (query q l) j := by
  have hl : l.val < 256 := by rcases hW with rfl | rfl <;> omega
  unfold weights
  refine (Cert.Tiles.weight_apply (keys q) W (by rcases hW with rfl | rfl <;> decide) _ _ _ _ _ _ j l).trans ?_
  have hs : (shapeCast ⟨2, ![keys q, W]⟩ (v23.readCov (scores hW Q K B E L23 (done q)) (Rect.unit (s := S2x896x256) ![q.val % 2, 0, 0] ![1, keys q, W] (inb_score hW q)).toLoadRect) (fact_down hW q) (ix2 j l) : EReal)
      = x.kS b g (h l) (query q l) (j.castLE (keys_le q)) := by
    refine ((Cert.Tiles.cast_down _ _ j l).trans ?_).trans (scoreAll_apply hW F q j l)
    unfold View.readCov
    exact (readAt3 v23 _ (inb_score hW q) 0 j l ⟨q.val % 2, Nat.mod_lt _ (by omega)⟩ (j.castLE (keys_le q)) ⟨l.val, hl⟩ rfl (by show j.val = 0 + j.val; omega) (by show l.val = 0 + l.val; omega)).trans
      (scores_held hW v23 L23 _ q j l hl)
  have hm := (Cert.Tiles.colmax (keys q) W (scoreAll hW Q K B E q) (fact_red hW q) (by trivial) rfl l).trans
    (congrArg (fun f => Finset.fold max (⊥ : EReal) f Finset.univ) (funext fun j => scoreAll_apply hW F q j l))
  exact congrArg Ideal.exp2 (congrArg₂ (fun a b : EReal => a * b) (congrArg₂ (fun a b : EReal => a - b) hs hm) (F.hC l))

theorem outAll_apply (F : Fits Q K V B E C vs x b g h) (q : Fin 7) (d : Fin 128) (l : Fin W) :
    (outAll hW Q K V B E C vs v23 L23 q (ix2 d l) : EReal) = x.kOut (keys q) (keys_le q) b (query q l) g (h l) d := by
  unfold outAll
  refine (Cert.Tiles.value_apply (keys q) W (by rcases hW with rfl | rfl <;> decide) (V q) _ (by decide) vs _ _ _ _ _ d l).trans ?_
  exact congrArg₂ (fun a b : EReal => a * b)
    (Finset.sum_congr rfl fun j _ => congrArg₂ (fun a b : EReal => a * b) (F.hV q d j) (weights_apply hW v23 L23 F q j l))
    (congrArg₂ Ideal.div F.hs (Finset.sum_congr rfl fun j _ => weights_apply hW v23 L23 F q j l))
end group

end Cert.KernelIdeal.Hand
end
-- ==== Proof.Point.lean ====
module

public import proofs.«01_k».proof.Proof.Outs
public import proofs.«01_k».proof.Proof.Values

@[expose] public section

set_option maxRecDepth 65536

noncomputable section

/-! What a point stores, from what its scratch holds. -/
namespace Cert.KernelIdeal.Hand

open Cert.KernelIdeal Cert.KernelIdeal.Gen Cert.Slab Cert.Words Cert.Spec
open Idealize.ShloMosaic

/-- The words of the diagonal mask keys after the query. -/
theorem causal (a : Fin 32) (l : Fin 128) : IsMask (bodyRun.sl.v1712 (ix2 a l)) fun k => l.val < 4 * a.val + k := by
  have e : ∀ k, k < 4 → IntOp.addi (IntOp.muli (BitVec.ofNat 32 a.val) (4#32)) (BitVec.ofNat 32 k) = BitVec.ofNat 32 (4 * a.val + k) := by
    intro k hk
    apply BitVec.eq_of_toNat_eq
    simp only [IntOp.addi, IntOp.muli, BitVec.toNat_add, BitVec.toNat_mul, BitVec.toNat_ofNat]
    omega
  have e' : ∀ k, k < 4 → IntOp.addi (IntOp.muli (4#32) (BitVec.ofNat 32 a.val)) (BitVec.ofNat 32 k) = BitVec.ofNat 32 (4 * a.val + k) := by
    intro k hk
    apply BitVec.eq_of_toNat_eq
    simp only [IntOp.addi, IntOp.muli, BitVec.toNat_add, BitVec.toNat_mul, BitVec.toNat_ofNat]
    omega
  have p : ∀ k, k < 4 → ∀ w : BitVec 32, w = BitVec.ofNat 32 (4 * a.val + k) → IsMask (Scalar.select (IntOp.cmpi .sgt w (BitVec.ofNat 32 l.val)) (0x78#32 <<< (8 * k)) 0#32) fun j => j = k ∧ l.val < 4 * a.val + k := by
    rintro k hk _ rfl
    rw [show Scalar.select (IntOp.cmpi .sgt (BitVec.ofNat 32 (4 * a.val + k)) (BitVec.ofNat 32 l.val)) (0x78#32 <<< (8 * k)) 0#32 = if l.val < 4 * a.val + k then (0x78#32 <<< (8 * k)) else 0#32 from
      slt_small l.val (4 * a.val + k) (by omega) (by omega) _ _]
    refine ((isMask_byte k hk).ite (l.val < 4 * a.val + k) isMask_zero).congr fun j hj => ?_
    split <;> simp_all
  have e1 := e 1 (by omega)
  have e2 := e 2 (by omega)
  have e3 := e 3 (by omega)
  have e0 := e 0 (by omega)
  have key := (((isMask_zero.or (p 0 (by omega) _ e0)).or (p 1 (by omega) _ e1)).or (p 2 (by omega) _ e2)).or (p 3 (by omega) _ e3)
  pointwise [bodyRun.sl.v1712, bodyRun.sl.v1711, bodyRun.sl.v1709, bodyRun.sl.v1707, bodyRun.sl.v1704, bodyRun.sl.v1702, bodyRun.sl.v1700, bodyRun.sl.v1698, bodyRun.sl.v1697, bodyRun.sl.v1695, bodyRun.sl.v1693, bodyRun.sl.v1690, bodyRun.sl.v1688, bodyRun.sl.v1686, bodyRun.sl.v1684, bodyRun.sl.v1683, bodyRun.sl.v1680, bodyRun.sl.v9234, bodyRun.sl.v9184, bodyRun.sl.v9189, bodyRun.sl.v9192]
  have com : IntOp.muli (4#32) (BitVec.ofNat 32 a.val) = IntOp.muli (BitVec.ofNat 32 a.val) (4#32) := by unfold IntOp.muli; exact BitVec.mul_comm _ _
  rw [com]
  refine IsMask.congr key fun k hk => ?_
  interval_cases k <;> simp

theorem load32_apply (v : View sig .tc .vmem S2x7x32x128 .i32) (L : List (View.Piece (Elt Ideal) S2x7x32x128 .i32)) (s : Fin 2) (t : ℕ) (a : Fin 32) (l : Fin 128) :
    load32 v L s t (ix2 a l) = v.read (Elt Ideal) (v.writes (Elt Ideal) v.junk L) (ix4 s ⟨t % 7, Nat.mod_lt _ (by omega)⟩ a l) := by
  have h : load32 v L s t (ix2 a l) = v.readAt (Elt Ideal) (Rect.unit (s := S2x7x32x128) ![s.val, t % 7, 0, 0] S1x1x32x128.size (inb_load s ⟨t % 7, Nat.mod_lt _ (by omega)⟩)).toLoadRect (v.writes (Elt Ideal) v.junk L) (ix4 0 0 a l) := by
    unfold load32
    rw [Pointwise.shapeCast_apply]
    refine congrArg (v.readAt (Elt Ideal) (Rect.unit (s := S2x7x32x128) ![s.val, t % 7, 0, 0] S1x1x32x128.size (inb_load s ⟨t % 7, Nat.mod_lt _ (by omega)⟩)).toLoadRect (v.writes (Elt Ideal) v.junk L)) ?_
    exact Shape.reshapeEquiv_eq_of_vals _ _ _ (a.val * 128 + l.val) (a.val * 128 + l.val) (by rw [rowMajor_val4 _ (32 * 128 * 1) (32 * 128) 128 rfl rfl rfl]; simp) (by rw [rowMajor_val2 _ 128 rfl]; rfl) rfl
  rw [h]
  exact readAt4 v _ (inb_load s ⟨t % 7, Nat.mod_lt _ (by omega)⟩) 0 0 a l s ⟨t % 7, Nat.mod_lt _ (by omega)⟩ a l rfl rfl (by show _ = 0 + _; omega) (by show _ = 0 + _; omega)

section masks
variable (v21 v22 : View sig .tc .vmem S2x7x32x128 .i32) (L21 L22 : List (View.Piece (Elt Ideal) S2x7x32x128 .i32)) (S V : ℕ → Prop)

/-- Half `s` of the stores holds a head's mask words. -/
structure Holds (s : Fin 2) : Prop where
  slash : ∀ f t u l, IsMask (v21.read (Elt Ideal) (v21.writes (Elt Ideal) f L21) (ix4 s t u l)) fun k => ¬ ∃ o, o + (4 * u.val + k) = 128 * t.val + l.val ∧ S o
  vert : ∀ f t u l, IsMask (v22.read (Elt Ideal) (v22.writes (Elt Ideal) f L22) (ix4 s t u l)) fun k => ¬ V (128 * t.val + (4 * u.val + k))

variable {v21 v22 L21 L22 S V}

open Classical in
theorem maskTile_apply {s : Fin 2} (H : Holds v21 v22 L21 L22 S V s) (q : Fin 7) (k : ℕ) (hk : k ≤ q.val) (a l : Fin 128) :
    (maskTile v21 v22 L21 L22 s q k (ix2 a l) : EReal)
      = if ¬ (128 * k + a.val ≤ 128 * q.val + l.val ∧ (V (128 * k + a.val) ∨ S (128 * q.val + l.val - (128 * k + a.val)))) then 32768 else 0 := by
  unfold maskTile
  refine bytes_apply (maskWord v21 v22 L21 L22 s q k) _ (fun a l => ¬ (128 * k + a.val ≤ 128 * q.val + l.val ∧ (V (128 * k + a.val) ∨ S (128 * q.val + l.val - (128 * k + a.val))))) (fun u l => ?_) a l
  have hq := q.isLt
  have h1 := H.slash v21.junk ⟨(q.val - k) % 7, Nat.mod_lt _ (by omega)⟩ u l
  have h2 := H.vert v22.junk ⟨k % 7, Nat.mod_lt _ (by omega)⟩ u l
  rw [← load32_apply] at h1 h2
  have m1 : (q.val - k) % 7 = q.val - k := Nat.mod_eq_of_lt (by omega)
  have m2 : k % 7 = k := Nat.mod_eq_of_lt (by omega)
  dsimp only at h1 h2
  rw [m1] at h1; rw [m2] at h2
  have key : ∀ n, n < 4 → ((¬ ∃ o, o + (4 * u.val + n) = 128 * (q.val - k) + l.val ∧ S o) ↔ ¬ (128 * k + (4 * u.val + n) ≤ 128 * q.val + l.val ∧ S (128 * q.val + l.val - (128 * k + (4 * u.val + n))))) := fun n hn => not_congr
    ⟨fun ⟨o, ho, hs⟩ => ⟨by omega, by rw [show 128 * q.val + l.val - (128 * k + (4 * u.val + n)) = o by omega]; exact hs⟩, fun ⟨ho, hs⟩ => ⟨_, by omega, hs⟩⟩
  unfold maskWord
  cases hb : k.beq q.val
  · have hne : k ≠ q.val := Nat.ne_of_beq_eq_false hb
    refine (h1.and h2).congr fun n hn => ?_
    rw [key n hn, exists_prop_of_true hn]
    have hle : 128 * k + (4 * u.val + n) ≤ 128 * q.val + l.val := by omega
    simp only [hle, true_and]
    tauto
  · have he : k = q.val := Nat.eq_of_beq_eq_true hb
    refine ((h1.and h2).or (causal u l)).congr fun n hn => ?_
    rw [key n hn, exists_prop_of_true hn]
    have hc : l.val < 4 * u.val + n ↔ ¬ (128 * k + (4 * u.val + n) ≤ 128 * q.val + l.val) := by omega
    rw [hc]
    tauto
end masks

/-- Two tiles side by side, and one below the other. -/
theorem beside_apply {α : Type} (A B : S128x128.Idx → α) (h) (a : Fin 128) (l : Fin 256) :
    concatenate S128x256 1 [⟨S128x128, A⟩, ⟨S128x128, B⟩] h (ix2 a l) = if l.val < 128 then A (ix2 a ⟨l.val % 128, Nat.mod_lt _ (by omega)⟩) else B (ix2 a ⟨l.val % 128, Nat.mod_lt _ (by omega)⟩) := by
  rw [concatenate_pair_apply]
  have hl := l.isLt
  split
  · next hlt =>
    have hlt' : l.val < 128 := hlt
    rw [if_pos hlt']
    refine congrArg A (funext fun b => ?_)
    rw [Shape.Idx.norm_def]
    match b with
    | 0 => rfl
    | 1 => exact Fin.ext (by show l.val = l.val % 128; omega)
  · next hlt =>
    have hlt' : ¬ l.val < 128 := hlt
    rw [if_neg hlt']
    refine congrArg B (funext fun b => ?_)
    rw [Shape.Idx.norm_def]
    match b with
    | 0 => rfl
    | 1 => exact Fin.ext (by show l.val - 128 = l.val % 128; omega)

theorem below_apply {α : Type} (A B : S128x128.Idx → α) (h) (l : Fin 256) (e : Fin 128) :
    concatenate S256x128 0 [⟨S128x128, A⟩, ⟨S128x128, B⟩] h (ix2 l e) = if l.val < 128 then A (ix2 ⟨l.val % 128, Nat.mod_lt _ (by omega)⟩ e) else B (ix2 ⟨l.val % 128, Nat.mod_lt _ (by omega)⟩ e) := by
  rw [concatenate_pair_apply]
  have hl := l.isLt
  split
  · next hlt =>
    have hlt' : l.val < 128 := hlt
    rw [if_pos hlt']
    refine congrArg A (funext fun b => ?_)
    rw [Shape.Idx.norm_def]
    match b with
    | 0 => exact Fin.ext (by show l.val = l.val % 128; omega)
    | 1 => rfl
  · next hlt =>
    have hlt' : ¬ l.val < 128 := hlt
    rw [if_neg hlt']
    refine congrArg B (funext fun b => ?_)
    rw [Shape.Idx.norm_def]
    match b with
    | 0 => exact Fin.ext (by show l.val - 128 = l.val % 128; omega)
    | 1 => rfl

theorem firstRows_apply (x : FVec Ideal S128x256 .bf16) (y d : Fin 128) : (firstRows x (ix3 0 y d) : EReal) = x (ix2 d ⟨y.val, by omega⟩) := by
  pointwise [firstRows]
theorem lastRows_apply (x : FVec Ideal S128x256 .bf16) (y d : Fin 128) : (lastRows x (ix3 0 y d) : EReal) = x (ix2 d ⟨128 + y.val, by omega⟩) := by
  pointwise [lastRows]
theorem onlyRows_apply (x : FVec Ideal S128x128 .bf16) (y d : Fin 128) : (onlyRows x (ix3 0 y d) : EReal) = x (ix2 d y) := by
  pointwise [onlyRows]

theorem off11_at : ∀ (i : grid0.Coords) (r : Fin 7), k0_off11 i (k0_off11_at r).1 (k0_off11_at r).2 = ![(i 0).val, 7 * (i 1).val + r.val] := by decide +kernel
theorem off12_at : ∀ i : grid0.Coords, k0_off12 i = ![(i 0).val, (i 1).val] := by decide +kernel
/-- The group a point works on. -/
def grp (i : grid0.Coords) : Fin 8 := ⟨(i 1).val, grid_lt i⟩
end Cert.KernelIdeal.Hand
end
-- ==== Proof.Stored.lean ====
module

public import proofs.«01_k».proof.Proof.Point

@[expose] public section

set_option maxRecDepth 65536

noncomputable section

/-! The output a point stores is the row of attention of `Spec.lean`. -/
namespace Cert.KernelIdeal.Hand

open Cert.KernelIdeal Cert.KernelIdeal.Gen Cert.Slab Cert.Words Cert.Spec
open Idealize.ShloMosaic

theorem ite_iff {p q : Prop} {dp : Decidable p} {dq : Decidable q} (h : p ↔ q) (a b : EReal) : @ite _ p dp a b = @ite _ q dq a b := if_congr h rfl rfl

variable (c : Dev nD) (i : grid0.Coords)
  (M2 : Memref sig .tc .smem S2x56 .f32) (M3 : Memref sig .tc .smem S2x8 .f32) (M4 : Memref sig .tc .smem S2x8 .f32)
  (M5 M6 M7 : Memref sig .tc .vmem S1x896x8x128 .fp8e4m3)
  (M8 : Memref sig .tc .vmem S1x56x160 .i32) (M9 : Memref sig .tc .vmem S2x56 .i32)
  (M10 : Memref sig .tc .vmem S1x56x240 .i32) (M11 : Memref sig .tc .vmem S2x56 .i32)
  (M13 : Memref sig .tc .vmem S16x896x128 .fp8e4m3) (M14 : Memref sig .tc .vmem S8x896x128 .fp8e4m3)
  (M15 : Memref sig .tc .vmem S8x128x896 .bf16) (M16 : Memref sig .tc .vmem S8x896x128 .fp8e4m3) (M17 : Memref sig .tc .vmem S256x256 .fp8e5m2)
  (M18 : Memref sig .tc .vmem S8x56x128 .i32) (M19 : Memref sig .tc .vmem S7x32x128 .i32) (M20 : Memref sig .tc .vmem S128x128 .i32)
  (M21 M22 : Memref sig .tc .vmem S2x7x32x128 .i32) (M23 : Memref sig .tc .vmem S2x896x256 .f32)
  (f2 : Bf (F := Ideal) c M2) (f3 : Bf (F := Ideal) c M3) (f4 : Bf (F := Ideal) c M4) (f5 : Bf (F := Ideal) c M5) (f6 : Bf (F := Ideal) c M6) (f7 : Bf (F := Ideal) c M7)
  (f8 : Bf (F := Ideal) c M8) (f9 : Bf (F := Ideal) c M9) (f10 : Bf (F := Ideal) c M10) (f11 : Bf (F := Ideal) c M11)
  (f13 : Bf (F := Ideal) c M13) (f14 : Bf (F := Ideal) c M14) (f15 : Bf (F := Ideal) c M15) (f17 : Bf (F := Ideal) c M17) (f18 : Bf (F := Ideal) c M18) (f19 : Bf (F := Ideal) c M19)
  (x : Inp) (b : Fin 2)

/-- The scratch of a point, prepared, holds batch `b` of the arguments. -/
structure Good : Prop where
  hb : b.val = (i 0).val
  hk : ∀ j e, (M14.view.read (Elt Ideal) (st14 c i M6 f6 M14 f14) (ix3 (grp i) j e) : EReal) = x.k b j (grp i) e
  hv : ∀ d j, (M15.view.read (Elt Ideal) (st15 c i M7 f7 M15 f15 M16) (ix3 (grp i) d j) : EReal) = x.v b j (grp i) d
  hq : ∀ (r : Fin 7) j e, (M13.view.read (Elt Ideal) (st13 c i M5 f5 M13 f13) (ix3 ⟨(7 * (i 1).val + r.val) % 16, Nat.mod_lt _ (by omega)⟩ j e) : EReal) = x.q b j (Inp.hd (grp i) r) e
  he : ∀ y l : Fin 256, (M17.view.read (Elt Ideal) (st17 c i M17 f17) (ix2 y l) : EReal) = if y = l then ⊥ else 0
  hS : ∀ (T : Fin 8) (h : Fin 56) (l : Fin 128), IsMask (M18.view.read (Elt Ideal) (st18 c i M10 M11 f10 f11 M18 f18) (ix3 T h l)) fun k => ¬ ∃ o, 128 + o + k = 128 * T.val + l.val ∧ x.inS b h o
  hV : ∀ (t : Fin 7) (u : Fin 32) (h : Fin 56) (h' : Fin 128), h'.val = h.val → IsMask (M19.view.read (Elt Ideal) (st19 c i M8 M9 f8 f9 M20 M19 f19) (ix3 t u h')) fun k => ¬ x.inV b h (128 * t.val + (4 * u.val + k))
  hqs : ∀ h, (M2.view.read (Elt Ideal) f2 (ix2 b h) : EReal) = x.qs b h
  hks : ∀ g, (M3.view.read (Elt Ideal) f3 (ix2 b g) : EReal) = x.ks b g
  hvs : ∀ g, (M4.view.read (Elt Ideal) f4 (ix2 b g) : EReal) = x.vs b g

variable {c i M2 M3 M4 M5 M6 M7 M8 M9 M10 M11 M13 M14 M15 M16 M17 M18 M19 M20 f2 f3 f4 f5 f6 f7 f8 f9 f10 f11 f13 f14 f15 f17 f18 f19 x b}

theorem hd_eq (i : grid0.Coords) (r : Fin 7) : hd i r = Inp.hd (grp i) r := Fin.ext (by show 7 * (i 1).val + r.val = (i 1).val * 7 + r.val; omega)

variable (G : Good c i M2 M3 M4 M5 M6 M7 M8 M9 M10 M11 M13 M14 M15 M16 M17 M18 M19 M20 f2 f3 f4 f5 f6 f7 f8 f9 f10 f11 f13 f14 f15 f17 f18 f19 x b)
include G

theorem qsOf_eq (r : Fin 7) : (qsOf c i M2 f2 r : EReal) = x.qs b (Inp.hd (grp i) r) := by
  refine (readAt_at M2.view _ f2 _ (ix2 b (Inp.hd (grp i) r)) fun a => ?_).trans (G.hqs _)
  have h0 : ((Shape.Idx.first (show 0 < S1x1.numel by decide) : S1x1.Idx) 0).val < 1 := Fin.isLt _
  have h1 : ((Shape.Idx.first (show 0 < S1x1.numel by decide) : S1x1.Idx) 1).val < 1 := Fin.isLt _
  match a with
  | 0 =>
    show b.val = k0_off11 i (k0_off11_at r).1 (k0_off11_at r).2 0 + 1 * ((Shape.Idx.first (show 0 < S1x1.numel by decide) : S1x1.Idx) 0).val
    rw [off11_at]; show b.val = (i 0).val + _; have := G.hb; omega
  | 1 =>
    show (i 1).val * 7 + r.val = k0_off11 i (k0_off11_at r).1 (k0_off11_at r).2 1 + 1 * ((Shape.Idx.first (show 0 < S1x1.numel by decide) : S1x1.Idx) 1).val
    rw [off11_at]; show (i 1).val * 7 + r.val = 7 * (i 1).val + r.val + _; omega

theorem ksOf_eq : (ksOf c i M3 f3 : EReal) = x.ks b (grp i) := by
  refine (readAt_at M3.view _ f3 _ (ix2 b (grp i)) fun a => ?_).trans (G.hks _)
  have h0 : ((Shape.Idx.first (show 0 < S1x1.numel by decide) : S1x1.Idx) 0).val < 1 := Fin.isLt _
  have h1 : ((Shape.Idx.first (show 0 < S1x1.numel by decide) : S1x1.Idx) 1).val < 1 := Fin.isLt _
  match a with
  | 0 =>
    show b.val = k0_off12 i 0 + 1 * ((Shape.Idx.first (show 0 < S1x1.numel by decide) : S1x1.Idx) 0).val
    rw [off12_at]; show b.val = (i 0).val + _; have := G.hb; omega
  | 1 =>
    show (i 1).val = k0_off12 i 1 + 1 * ((Shape.Idx.first (show 0 < S1x1.numel by decide) : S1x1.Idx) 1).val
    rw [off12_at]; show (i 1).val = (i 1).val + _; omega

theorem vsOf_eq : (vsOf c i M4 f4 : EReal) = x.vs b (grp i) := by
  refine (readAt_at M4.view _ f4 _ (ix2 b (grp i)) fun a => ?_).trans (G.hvs _)
  have h0 : ((Shape.Idx.first (show 0 < S1x1.numel by decide) : S1x1.Idx) 0).val < 1 := Fin.isLt _
  have h1 : ((Shape.Idx.first (show 0 < S1x1.numel by decide) : S1x1.Idx) 1).val < 1 := Fin.isLt _
  match a with
  | 0 =>
    show b.val = k0_off12 i 0 + 1 * ((Shape.Idx.first (show 0 < S1x1.numel by decide) : S1x1.Idx) 0).val
    rw [off12_at]; show b.val = (i 0).val + _; have := G.hb; omega
  | 1 =>
    show (i 1).val = k0_off12 i 1 + 1 * ((Shape.Idx.first (show 0 < S1x1.numel by decide) : S1x1.Idx) 1).val
    rw [off12_at]; show (i 1).val = (i 1).val + _; omega

theorem keysOf_eq (q : Fin 7) (j : Fin (keys q)) (e : Fin 128) : (keysOf c i M14 (st14 c i M6 f6 M14 f14) q (ix2 j e) : EReal) = x.k b (j.castLE (keys_le q)) (grp i) e := by
  refine ((Cert.Tiles.cast_down _ _ j e).trans ?_).trans (G.hk _ _)
  exact readAt3 M14.view _ (offK_inb i q) 0 j e (grp i) (j.castLE (keys_le q)) e (by rw [offK_eq]; rfl) (by rw [offK_eq]; show j.val = 0 + j.val; omega) (by rw [offK_eq]; show e.val = 0 + e.val; omega)

theorem valuesOf_eq (q : Fin 7) (d : Fin 128) (j : Fin (keys q)) : (valuesOf c i M15 (st15 c i M7 f7 M15 f15 M16) q (ix2 d j) : EReal) = x.v b (j.castLE (keys_le q)) (grp i) d := by
  refine ((Cert.Tiles.cast_down _ _ d j).trans ?_).trans (G.hv _ _)
  exact readAt3 M15.view _ (offV_inb i q) 0 d j (grp i) d (j.castLE (keys_le q)) (by rw [offV_eq]; rfl) (by rw [offV_eq]; show d.val = 0 + d.val; omega) (by rw [offV_eq]; show j.val = 0 + j.val; omega)

theorem headQ_eq (r q : Fin 7) (l : Fin 128) (e : Fin 128) : (headQ c i M13 (st13 c i M5 f5 M13 f13) r q (ix2 l e) : EReal) = x.q b (query q l.val) (Inp.hd (grp i) r) e := by
  refine ((Cert.Tiles.cast_down _ _ l e).trans ?_).trans (G.hq r _ _)
  exact readAt3 M13.view _ (offQ_inb i r q) 0 l e ⟨(7 * (i 1).val + r.val) % 16, Nat.mod_lt _ (by omega)⟩ (query q l.val) e (by rw [offQ_eq]; rfl)
    (by rw [offQ_eq]; show 128 * q.val + l.val % 128 = 128 * q.val + l.val; omega) (by rw [offQ_eq]; show e.val = 0 + e.val; omega)

theorem pairC_eq (r r' : Fin 7) (l : Fin 256) : (pairC c i M2 M3 f2 f3 r r' (ix2 0 l) : EReal) = x.kC b (grp i) (if l.val < 128 then r else r') := by
  have hc : ∀ r, (qsOf c i M2 f2 r : EReal) * (ksOf c i M3 f3 : EReal) * (((Real.log 2)⁻¹ * (Real.sqrt 128)⁻¹ : ℝ) : EReal) = x.kC b (grp i) r := fun r => by
    rw [qsOf_eq G, ksOf_eq G]; rfl
  have h : (pairC c i M2 M3 f2 f3 r r' (ix2 0 l) : EReal) = Scalar.select (IntOp.cmpi .slt (BitVec.ofNat 32 l.val) (BitVec.ofNat 32 128))
      ((qsOf c i M2 f2 r : EReal) * (ksOf c i M3 f3 : EReal) * (((Real.log 2)⁻¹ * (Real.sqrt 128)⁻¹ : ℝ) : EReal)) ((qsOf c i M2 f2 r' : EReal) * (ksOf c i M3 f3 : EReal) * (((Real.log 2)⁻¹ * (Real.sqrt 128)⁻¹ : ℝ) : EReal)) := by
    pointwise [pairC, k0_pay295, bodyRun.sl.v1713]
    rfl
  rw [h, slt_small l.val 128 (by omega) (by omega), hc, hc]
  split <;> rfl

theorem oneC_eq (r : Fin 7) (l : Fin 128) : (oneC c i M2 M3 f2 f3 r (ix2 0 l) : EReal) = x.kC b (grp i) r := by
  have h : (oneC c i M2 M3 f2 f3 r (ix2 0 l) : EReal) = (qsOf c i M2 f2 r : EReal) * (ksOf c i M3 f3 : EReal) * (((Real.log 2)⁻¹ * (Real.sqrt 128)⁻¹ : ℝ) : EReal) := rfl
  rw [h, qsOf_eq G, ksOf_eq G]; rfl

theorem eyePair_eq (y l : Fin 256) : (eyePair c M17 (st17 c i M17 f17) (ix2 y l) : EReal) = if y = l then ⊥ else 0 :=
  (readAt2 M17.view _ _ y l y l (by show _ = 0 + _; omega) (by show _ = 0 + _; omega)).trans (G.he y l)
theorem eyeOne_eq (y l : Fin 128) : (eyeOne c M17 (st17 c i M17 f17) (ix2 y l) : EReal) = if y = l then ⊥ else 0 := by
  refine (readAt2 M17.view _ _ y l ⟨y.val, by omega⟩ ⟨l.val, by omega⟩ (by show y.val = 0 + y.val; omega) (by show l.val = 0 + l.val; omega)).trans ((G.he _ _).trans ?_)
  simp only [Fin.mk.injEq, Fin.ext_iff]

/-- A head's mask words, in the half they are stored in. -/
theorem slash_head (r : Fin 7) (t : Fin 7) (g : Fin 4) (a : Fin 8) (l : Fin 128) :
    IsMask (slashTile c i M10 M11 f10 f11 M18 f18 r t g (ix4 0 0 a l)) fun k => ¬ ∃ o, o + (4 * (8 * g.val + a.val) + k) = 128 * t.val + l.val ∧ x.inS b (Inp.hd (grp i) r) o := by
  rw [← hd_eq]; exact slashTile_mask c i M10 M11 f10 f11 M18 f18 r (x.inS b) G.hS t g a l
theorem col_head (r : Fin 7) (t : Fin 7) (g : Fin 4) (a : Fin 8) (l : Fin 128) :
    IsMask (colTile c i M8 M9 f8 f9 M20 M19 f19 r t g (ix4 0 0 a l)) fun k => ¬ x.inV b (Inp.hd (grp i) r) (128 * t.val + (4 * (8 * g.val + a.val) + k)) := by
  rw [← hd_eq]; exact colTile_mask c i M8 M9 f8 f9 M20 M19 f19 r (x.inV b) G.hV t g a l

abbrev HoldsHead (x : Inp) (b : Fin 2) (i : grid0.Coords) (v21 v22 : View sig .tc .vmem S2x7x32x128 .i32) (L21 L22 : List (View.Piece (Elt Ideal) S2x7x32x128 .i32)) (s : Fin 2) (r : Fin 7) : Prop :=
  Holds v21 v22 L21 L22 (x.inS b (Inp.hd (grp i) r)) (x.inV b (Inp.hd (grp i) r)) s

theorem holds_last (v21 v22 : View sig .tc .vmem S2x7x32x128 .i32) (L21 L22 : List (View.Piece (Elt Ideal) S2x7x32x128 .i32)) (s : Fin 2) (r : Fin 7) :
    HoldsHead x b i v21 v22 (tiles s (slashTile c i M10 M11 f10 f11 M18 f18 r) L21 order) (tiles s (colTile c i M8 M9 f8 f9 M20 M19 f19 r) L22 order) s r where
  slash f t u l := tiles_pred v21 f s _ L21 (fun _ t u l w => IsMask w fun k => ¬ ∃ o, o + (4 * u.val + k) = 128 * t.val + l.val ∧ x.inS b (Inp.hd (grp i) r) o)
    (fun t g a l => slash_head G r t g a l) s t u l fun h => absurd rfl h
  vert f t u l := tiles_pred v22 f s _ L22 (fun _ t u l w => IsMask w fun k => ¬ x.inV b (Inp.hd (grp i) r) (128 * t.val + (4 * u.val + k)))
    (fun t g a l => col_head G r t g a l) s t u l fun h => absurd rfl h

omit G in
theorem holds_other (v21 v22 : View sig .tc .vmem S2x7x32x128 .i32) (L21 L22 : List (View.Piece (Elt Ideal) S2x7x32x128 .i32)) (s s' : Fin 2) (hs : s' ≠ s) (r : Fin 7) (w w' : Fin 7 → Fin 4 → S1x1x8x128.Idx → BitVec 32)
    (H : HoldsHead x b i v21 v22 L21 L22 s' r) : HoldsHead x b i v21 v22 (tiles s w L21 order) (tiles s w' L22 order) s' r where
  slash f t u l := tiles_pred v21 f s w L21 (fun z t u l w => z ≠ s → IsMask w fun k => ¬ ∃ o, o + (4 * u.val + k) = 128 * t.val + l.val ∧ x.inS b (Inp.hd (grp i) r) o)
    (fun t g a l h => absurd rfl h) s' t u l (fun _ _ => H.slash f t u l) hs
  vert f t u l := tiles_pred v22 f s w' L22 (fun z t u l w => z ≠ s → IsMask w fun k => ¬ x.inV b (Inp.hd (grp i) r) (128 * t.val + (4 * u.val + k)))
    (fun t g a l h => absurd rfl h) s' t u l (fun _ _ => H.vert f t u l) hs

/-- The operands of a pair of heads, and of one. -/
theorem fits_pair (r r' : Fin 7) (L21 L22 : List (View.Piece (Elt Ideal) S2x7x32x128 .i32)) (H : HoldsHead x b i M21.view M22.view L21 L22 0 r) (H' : HoldsHead x b i M21.view M22.view L21 L22 1 r') :
    Fits (W := 256) (pairQ c i M13 (st13 c i M5 f5 M13 f13) r r') (keysOf c i M14 (st14 c i M6 f6 M14 f14)) (valuesOf c i M15 (st15 c i M7 f7 M15 f15 M16))
      (maskPair M21.view M22.view L21 L22) (eyePair c M17 (st17 c i M17 f17)) (pairC c i M2 M3 f2 f3 r r') (vsOf c i M4 f4) x b (grp i) (fun l => if l.val < 128 then r else r') where
  hQ q l e := by
    refine (below_apply _ _ _ l e).trans ?_
    have hm : query q (l.val % 128) = query q l.val := Fin.ext (by show 128 * q.val + l.val % 128 % 128 = 128 * q.val + l.val % 128; omega)
    split
    · exact (headQ_eq G r q _ e).trans (by rw [hm])
    · exact (headQ_eq G r' q _ e).trans (by rw [hm])
  hK := keysOf_eq G
  hV := valuesOf_eq G
  hB q k hk a l := by
    refine (beside_apply _ _ _ a l).trans ?_
    by_cases hl : l.val < 128
    · rw [if_pos hl]; exact (maskTile_apply H q k hk a ⟨l.val % 128, Nat.mod_lt _ (by omega)⟩).trans (ite_iff (not_congr (by rw [show (if l.val < 128 then r else r') = r from if_pos hl]; rfl)) _ _)
    · rw [if_neg hl]; exact (maskTile_apply H' q k hk a ⟨l.val % 128, Nat.mod_lt _ (by omega)⟩).trans (ite_iff (not_congr (by rw [show (if l.val < 128 then r else r') = r' from if_neg hl]; rfl)) _ _)
  hE := eyePair_eq G
  hC := pairC_eq G r r'
  hs := vsOf_eq G

theorem fits_one (r : Fin 7) (L21 L22 : List (View.Piece (Elt Ideal) S2x7x32x128 .i32)) (H : HoldsHead x b i M21.view M22.view L21 L22 0 r) :
    Fits (W := 128) (headQ c i M13 (st13 c i M5 f5 M13 f13) r) (keysOf c i M14 (st14 c i M6 f6 M14 f14)) (valuesOf c i M15 (st15 c i M7 f7 M15 f15 M16))
      (maskTile M21.view M22.view L21 L22 0) (eyeOne c M17 (st17 c i M17 f17)) (oneC c i M2 M3 f2 f3 r) (vsOf c i M4 f4) x b (grp i) (fun _ => r) where
  hQ q l e := headQ_eq G r q l e
  hK := keysOf_eq G
  hV := valuesOf_eq G
  hB q k hk a l := by
    refine (maskTile_apply H q k hk a l).trans (ite_iff (not_congr ?_) _ _)
    unfold Inp.vis
    rw [show (query q l.val).val = 128 * q.val + l.val by show 128 * q.val + l.val % 128 = _; omega]
  hE := eyeOne_eq G
  hC := oneC_eq G r
  hs := vsOf_eq G

/-- One head's rows of a pair's output. -/
theorem pair_first (r r' : Fin 7) (L21 L22 : List (View.Piece (Elt Ideal) S2x7x32x128 .i32)) (L23) (H : HoldsHead x b i M21.view M22.view L21 L22 0 r) (H' : HoldsHead x b i M21.view M22.view L21 L22 1 r') (q : Fin 7) (y d : Fin 128) :
    (firstRows (pairAll c i M2 M3 M4 M5 M6 M7 M13 M14 M15 M16 M17 M21 M22 M23 f2 f3 f4 f5 f6 f7 f13 f14 f15 f17 r r' L21 L22 L23 q) (ix3 0 y d) : EReal) = x.kOut (keys q) (keys_le q) b (query q y.val) (grp i) r d := by
  refine (firstRows_apply _ y d).trans ((outAll_apply (Or.inl rfl) M23.view L23 (fits_pair M21 M22 G r r' L21 L22 H H') q d ⟨y.val, by omega⟩).trans ?_)
  dsimp only
  rw [if_pos y.isLt]
theorem pair_last (r r' : Fin 7) (L21 L22 : List (View.Piece (Elt Ideal) S2x7x32x128 .i32)) (L23) (H : HoldsHead x b i M21.view M22.view L21 L22 0 r) (H' : HoldsHead x b i M21.view M22.view L21 L22 1 r') (q : Fin 7) (y d : Fin 128) :
    (lastRows (pairAll c i M2 M3 M4 M5 M6 M7 M13 M14 M15 M16 M17 M21 M22 M23 f2 f3 f4 f5 f6 f7 f13 f14 f15 f17 r r' L21 L22 L23 q) (ix3 0 y d) : EReal) = x.kOut (keys q) (keys_le q) b (query q y.val) (grp i) r' d := by
  refine (lastRows_apply _ y d).trans ((outAll_apply (Or.inl rfl) M23.view L23 (fits_pair M21 M22 G r r' L21 L22 H H') q d ⟨128 + y.val, by omega⟩).trans ?_)
  have hm : query q (128 + y.val) = query q y.val := Fin.ext (by show 128 * q.val + (128 + y.val) % 128 = 128 * q.val + y.val % 128; omega)
  dsimp only
  rw [if_neg (by omega), hm]

/-- What is stored for head `r`, block `q`. -/
theorem payload_apply (r q : Fin 7) (y d : Fin 128) :
    (payload c i M2 M3 M4 M5 M6 M7 M8 M9 M10 M11 M13 M14 M15 M16 M17 M18 M19 M20 M21 M22 M23 f2 f3 f4 f5 f6 f7 f8 f9 f10 f11 f13 f14 f15 f17 f18 f19 r q (ix3 0 y d) : EReal)
      = x.kOut (keys q) (keys_le q) b (query q y.val) (grp i) r d := by
  match r with
  | 0 => exact pair_first M21 M22 M23 G 0 1 _ _ _ (holds_other _ _ _ _ 1 0 (by decide) 0 _ _ (holds_last G _ _ _ _ 0 0)) (holds_last G _ _ _ _ 1 1) q y d
  | 1 => exact pair_last M21 M22 M23 G 0 1 _ _ _ (holds_other _ _ _ _ 1 0 (by decide) 0 _ _ (holds_last G _ _ _ _ 0 0)) (holds_last G _ _ _ _ 1 1) q y d
  | 2 => exact pair_first M21 M22 M23 G 2 3 _ _ _ (holds_other _ _ _ _ 1 0 (by decide) 2 _ _ (holds_last G _ _ _ _ 0 2)) (holds_last G _ _ _ _ 1 3) q y d
  | 3 => exact pair_last M21 M22 M23 G 2 3 _ _ _ (holds_other _ _ _ _ 1 0 (by decide) 2 _ _ (holds_last G _ _ _ _ 0 2)) (holds_last G _ _ _ _ 1 3) q y d
  | 4 => exact pair_first M21 M22 M23 G 4 5 _ _ _ (holds_other _ _ _ _ 1 0 (by decide) 4 _ _ (holds_last G _ _ _ _ 0 4)) (holds_last G _ _ _ _ 1 5) q y d
  | 5 => exact pair_last M21 M22 M23 G 4 5 _ _ _ (holds_other _ _ _ _ 1 0 (by decide) 4 _ _ (holds_last G _ _ _ _ 0 4)) (holds_last G _ _ _ _ 1 5) q y d
  | 6 =>
    have H : HoldsHead x b i M21.view M22.view (bodyRun.sl.H21_196 c i M10 M11 M18 f10 f11 f18) (bodyRun.sl.H22_196 c i M8 M9 M19 M20 f8 f9 f19) 0 6 := by
      rw [H21_196_eq, H22_196_eq]; exact holds_last G _ _ _ _ 0 6
    exact (onlyRows_apply _ y d).trans (outAll_apply (Or.inr rfl) M23.view _ (fits_one M21 M22 G 6 _ _ H) q d y)
end Cert.KernelIdeal.Hand
end
-- ==== Proof.Blocks.lean ====
module

public import proofs.«01_k».proof.Proof.KernelIdealFrame
public import proofs.«01_k».proof.Proof.Spec
public import Idealize.ShloMosaic.Lib.Pipeline.ValueKit

@[expose] public section

set_option maxRecDepth 16384

noncomputable section

/-! The blocks of the arguments, at coordinates. -/
namespace Cert.KernelIdeal.Hand

open Cert.KernelIdeal Cert.KernelIdeal.Gen Cert.Spec
open Idealize.ShloMosaic Idealize.ShloMosaic.TcCoe Idealize.SL.Sem

/-- The arguments a memory holds on core `c`. -/
def inp (m : (ℓ : Loc nD τ sig) → Buf (Elt Ideal) ℓ) (c : Dev nD) : Inp where
  q b i h e := m ((c.tc : Thread nD τ).loc main_arg0) (ix4 b i h e)
  qs b h := m ((c.tc : Thread nD τ).loc main_arg1) (ix2 b h)
  k b i h e := m ((c.tc : Thread nD τ).loc main_arg2) (ix4 b i h e)
  ks b h := m ((c.tc : Thread nD τ).loc main_arg3) (ix2 b h)
  v b i h e := m ((c.tc : Thread nD τ).loc main_arg4) (ix4 b i h e)
  vs b h := m ((c.tc : Thread nD τ).loc main_arg5) (ix2 b h)
  vi b h u := m ((c.tc : Thread nD τ).loc main_arg6) (ix3 b h u)
  vc b h := m ((c.tc : Thread nD τ).loc main_arg7) (ix2 b h)
  so b h u := m ((c.tc : Thread nD τ).loc main_arg8) (ix3 b h u)
  sc b h := m ((c.tc : Thread nD τ).loc main_arg9) (ix2 b h)

/-- Batch and group of a point. -/
def bat (t : Fin cfg0.N) : Fin 2 := ⟨t.val / 8, by have : t.val < 16 := t.isLt; omega⟩
def gro (t : Fin cfg0.N) : Fin 8 := ⟨t.val % 8, by omega⟩

theorem co0 : ∀ t : Fin grid0.N, (grid0.coords t 0).val = t.val / 8 := by decide +kernel
theorem co1 : ∀ t : Fin grid0.N, (grid0.coords t 1).val = t.val % 8 := by decide +kernel
theorem ind0 : ∀ t : Fin grid0.N, win0_0.index t = ![0, 0] := by decide +kernel
theorem ind1 : ∀ t : Fin grid0.N, win0_1.index t = ![0, 0] := by decide +kernel
theorem ind2 : ∀ t : Fin grid0.N, win0_2.index t = ![0, 0] := by decide +kernel
theorem ind3 : ∀ t : Fin grid0.N, t.val % 8 < 7 → win0_3.index t = ![t.val / 8, 0, t.val % 8, 0] := by decide +kernel
theorem ind4 : ∀ t : Fin grid0.N, win0_4.index t = ![t.val / 8, 0, 0, 0] := by decide +kernel
theorem ind5 : ∀ t : Fin grid0.N, win0_5.index t = ![t.val / 8, 0, 0, 0] := by decide +kernel
theorem ind6 : ∀ t : Fin grid0.N, win0_6.index t = ![t.val / 8, 0, 0] := by decide +kernel
theorem ind7 : ∀ t : Fin grid0.N, win0_7.index t = ![0, 0] := by decide +kernel
theorem ind8 : ∀ t : Fin grid0.N, win0_8.index t = ![t.val / 8, 0, 0] := by decide +kernel
theorem ind9 : ∀ t : Fin grid0.N, win0_9.index t = ![0, 0] := by decide +kernel
theorem ind10 : ∀ t : Fin grid0.N, win0_10.index t = ![t.val / 8, 0, t.val % 8] := by decide +kernel

variable (m : (ℓ : Loc nD τ sig) → Buf (Elt Ideal) ℓ) (c : Dev nD) (t : Fin cfg0.N)

theorem blk0 (b : Fin 2) (h : Fin 56) : iblk m c 0 t (ix2 b h) = (inp m c).qs b h := by
  show _ = m ((c.tc : Thread nD τ).loc main_arg1) (ix2 b h)
  blk_simp [iblk, V]
  refine congrArg _ ?_
  blk_ext [ind0]
theorem blk1 (b : Fin 2) (h : Fin 8) : iblk m c 1 t (ix2 b h) = (inp m c).ks b h := by
  show _ = m ((c.tc : Thread nD τ).loc main_arg3) (ix2 b h)
  blk_simp [iblk, V]
  refine congrArg _ ?_
  blk_ext [ind1]
theorem blk2 (b : Fin 2) (h : Fin 8) : iblk m c 2 t (ix2 b h) = (inp m c).vs b h := by
  show _ = m ((c.tc : Thread nD τ).loc main_arg5) (ix2 b h)
  blk_simp [iblk, V]
  refine congrArg _ ?_
  blk_ext [ind2]
theorem blk7 (b : Fin 2) (h : Fin 56) : iblk m c 7 t (ix2 b h) = (inp m c).vc b h := by
  show _ = m ((c.tc : Thread nD τ).loc main_arg7) (ix2 b h)
  blk_simp [iblk, V]
  refine congrArg _ ?_
  blk_ext [ind7]
theorem blk9 (b : Fin 2) (h : Fin 56) : iblk m c 9 t (ix2 b h) = (inp m c).sc b h := by
  show _ = m ((c.tc : Thread nD τ).loc main_arg9) (ix2 b h)
  blk_simp [iblk, V]
  refine congrArg _ ?_
  blk_ext [ind9]
theorem blk3 (hg : t.val % 8 < 7) (j : Fin 896) (h : Fin 8) (d : Fin 128) : iblk m c 3 t (ix4 0 j h d) = (inp m c).q (bat t) j ⟨8 * (t.val % 8) + h.val, by omega⟩ d := by
  show _ = m ((c.tc : Thread nD τ).loc main_arg0) (ix4 (bat t) j ⟨8 * (t.val % 8) + h.val, _⟩ d)
  blk_simp [iblk, V]
  refine congrArg _ ?_
  have e := ind3 t hg
  blk_ext [e, bat]
theorem blk4 (j : Fin 896) (h : Fin 8) (d : Fin 128) : iblk m c 4 t (ix4 0 j h d) = (inp m c).k (bat t) j h d := by
  show _ = m ((c.tc : Thread nD τ).loc main_arg2) (ix4 (bat t) j h d)
  blk_simp [iblk, V]
  refine congrArg _ ?_
  blk_ext [ind4, bat]
theorem blk5 (j : Fin 896) (h : Fin 8) (d : Fin 128) : iblk m c 5 t (ix4 0 j h d) = (inp m c).v (bat t) j h d := by
  show _ = m ((c.tc : Thread nD τ).loc main_arg4) (ix4 (bat t) j h d)
  blk_simp [iblk, V]
  refine congrArg _ ?_
  blk_ext [ind5, bat]
theorem blk6 (h : Fin 56) (u : Fin 160) : iblk m c 6 t (ix3 0 h u) = (inp m c).vi (bat t) h u := by
  show _ = m ((c.tc : Thread nD τ).loc main_arg6) (ix3 (bat t) h u)
  blk_simp [iblk, V]
  refine congrArg _ ?_
  blk_ext [ind6, bat]
theorem blk8 (h : Fin 56) (u : Fin 240) : iblk m c 8 t (ix3 0 h u) = (inp m c).so (bat t) h u := by
  show _ = m ((c.tc : Thread nD τ).loc main_arg8) (ix3 (bat t) h u)
  blk_simp [iblk, V]
  refine congrArg _ ?_
  blk_ext [ind8, bat]
end Cert.KernelIdeal.Hand
end
-- ==== Proof.State.lean ====
module

public import proofs.«01_k».proof.Proof.Stored
public import proofs.«01_k».proof.Proof.Blocks

@[expose] public section

set_option maxRecDepth 65536

noncomputable section

/-! What the scratch holds between points, and that a point keeps it. -/
namespace Cert.KernelIdeal.Hand

open Cert.KernelIdeal Cert.KernelIdeal.Gen Cert.Slab Cert.Words Cert.Spec
open Idealize.ShloMosaic Idealize.ShloMosaic.TcCoe Idealize.SL.Sem

/-- The queries' scratch after a point that has a chunk to put by: that chunk in its half, the other half kept. -/
theorem st13_apply (c : Dev nD) (i : grid0.Coords) (M5 : Memref sig .tc .vmem S1x896x8x128 .fp8e4m3) (f5 : Bf (F := Ideal) c M5)
    (M13 : Memref sig .tc .vmem S16x896x128 .fp8e4m3) (f13 : Bf (F := Ideal) c M13) (hg : (i 1).val < 7) (h : Fin 16) (j : Fin 896) (d : Fin 128) :
    (M13.view.read (Elt Ideal) (st13 c i M5 f5 M13 f13) (ix3 h j d) : EReal)
      = if h.val / 8 = (i 1).val % 2 then (M5.view.read (Elt Ideal) f5 (ix4 0 j ⟨h.val % 8, Nat.mod_lt _ (by omega)⟩ d) : EReal) else (M13.view.read (Elt Ideal) f13 (ix3 h j d) : EReal) := by
  have hc : k0_cond2 i = 1#1 := cond2_pos i hg
  have hg2 : (i 1).val % 2 < 2 := Nat.mod_lt _ (by omega)
  unfold st13; rw [dif_pos hc]
  let G : Fin 16 → Fin 896 → Fin 128 → Elt Ideal .fp8e4m3 := fun h j d =>
    if h.val / 8 = (i 1).val % 2 then M5.view.read (Elt Ideal) f5 (ix4 0 j ⟨h.val % 8, Nat.mod_lt _ (by omega)⟩ d) else M13.view.read (Elt Ideal) f13 (ix3 h j d)
  refine read_slab M13.view f13 (8 * ((i 1).val % 2) + 7) (by omega) _ _ _ G h j d (k0_off2_eq i 7) ?_ fun h7 => read_slab M13.view f13 (8 * ((i 1).val % 2) + 6) (by omega) _ _ _ G h j d (k0_off2_eq i 6) ?_ fun h6 =>
    read_slab M13.view f13 (8 * ((i 1).val % 2) + 5) (by omega) _ _ _ G h j d (k0_off2_eq i 5) ?_ fun h5 => read_slab M13.view f13 (8 * ((i 1).val % 2) + 4) (by omega) _ _ _ G h j d (k0_off2_eq i 4) ?_ fun h4 =>
    read_slab M13.view f13 (8 * ((i 1).val % 2) + 3) (by omega) _ _ _ G h j d (k0_off2_eq i 3) ?_ fun h3 => read_slab M13.view f13 (8 * ((i 1).val % 2) + 2) (by omega) _ _ _ G h j d (k0_off2_eq i 2) ?_ fun h2 =>
    read_slab M13.view f13 (8 * ((i 1).val % 2) + 1) (by omega) _ _ _ G h j d (k0_off2_eq i 1) ?_ fun h1 => read_slab M13.view f13 (8 * ((i 1).val % 2) + 0) (by omega) _ _ _ G h j d (k0_off2_eq i 0) ?_ fun h0 =>
    (show _ = ite _ _ _ from (if_neg (by omega : ¬ h.val / 8 = (i 1).val % 2)).symm)
  all_goals
    intro a b
    refine Eq.trans ?_ (show _ = ite _ _ _ from (if_pos (by dsimp only; omega)).symm)
    pointwise [k0_pay83, bodyRun.sl.v8792, bodyRun.sl.v8790, bodyRun.sl.v8785, bodyRun.sl.v8783_1, bodyRun.sl.v8778_1, bodyRun.sl.v8776_1, bodyRun.sl.v8771_1, bodyRun.sl.v8769_1, bodyRun.sl.v8764, bodyRun.sl.v8762, bodyRun.sl.v8757, bodyRun.sl.v8755, bodyRun.sl.v8750, bodyRun.sl.v8748, bodyRun.sl.v8743]
    rw [head_load c M5 f5 _ (by omega) _ a b]
    exact congrArg (fun q => M5.view.read (Elt Ideal) f5 (ix4 0 a q b)) (Fin.ext (by dsimp only; omega))

/-- The scratch that a batch prepares once. -/
structure Held (c : Dev nD) (s1 : Bf (F := Ideal) c scM1) (s2 : Bf (F := Ideal) c scM2) (s4 : Bf (F := Ideal) c scM4) (s5 : Bf (F := Ideal) c scM5) (s6 : Bf (F := Ideal) c scM6) (x : Inp) (b : Fin 2) : Prop where
  hk : ∀ h j e, (scM1.view.read (Elt Ideal) s1 (ix3 h j e) : EReal) = x.k b j h e
  hv : ∀ h d j, (scM2.view.read (Elt Ideal) s2 (ix3 h d j) : EReal) = x.v b j h d
  he : ∀ y l : Fin 256, (scM4.view.read (Elt Ideal) s4 (ix2 y l) : EReal) = if y = l then ⊥ else 0
  hS : ∀ (T : Fin 8) (h : Fin 56) (l : Fin 128), IsMask (scM5.view.read (Elt Ideal) s5 (ix3 T h l)) fun k => ¬ ∃ o, 128 + o + k = 128 * T.val + l.val ∧ x.inS b h o
  hV : ∀ (t : Fin 7) (u : Fin 32) (h : Fin 56) (h' : Fin 128), h'.val = h.val → IsMask (scM6.view.read (Elt Ideal) s6 (ix3 t u h')) fun k => ¬ x.inV b h (128 * t.val + (4 * u.val + k))

/-- The chunk of queries a point leaves for the next. -/
def Chunk (c : Dev nD) (s0 : Bf (F := Ideal) c scM0) (x : Inp) (b : Fin 2) (n : ℕ) : Prop :=
  ∀ h : Fin 56, h.val / 8 = n → ∀ j e, (scM0.view.read (Elt Ideal) s0 (ix3 ⟨h.val % 16, Nat.mod_lt _ (Nat.succ_pos _)⟩ j e) : EReal) = x.q b j h e

theorem toInt_small (u : ℕ) (hu : u < 1000) : (BitVec.ofNat 32 u).toInt = u := by
  rw [BitVec.toInt_ofNat', Int.bmod_eq_of_le (by omega) (by omega)]

variable {m : (ℓ : Loc nD τ sig) → Buf (Elt Ideal) ℓ} {c : Dev nD} {t : Fin cfg0.N}
  {x0 : Bf (F := Ideal) c (ms0_0 t)} {x1 : Bf (F := Ideal) c (ms0_1 t)} {x2 : Bf (F := Ideal) c (ms0_2 t)} {x3 : Bf (F := Ideal) c (ms0_3 t)} {x4 : Bf (F := Ideal) c (ms0_4 t)} {x5 : Bf (F := Ideal) c (ms0_5 t)} {x6 : Bf (F := Ideal) c (ms0_6 t)} {x7 : Bf (F := Ideal) c (ms0_7 t)} {x8 : Bf (F := Ideal) c (ms0_8 t)} {x9 : Bf (F := Ideal) c (ms0_9 t)}
  {s0 : Bf (F := Ideal) c scM0} {s1 : Bf (F := Ideal) c scM1} {s2 : Bf (F := Ideal) c scM2} {s4 : Bf (F := Ideal) c scM4} {s5 : Bf (F := Ideal) c scM5} {s6 : Bf (F := Ideal) c scM6}
  (O : Ops m c t x0 x1 x2 x3 x4 x5 x6 x7 x8 x9)
include O

theorem slash_iff (h : Fin 56) (o : ℕ) : Slash c (grid0.coords t) (ms0_8 t) (ms0_9 t) x8 x9 h o ↔ (inp m c).inS (bat t) h o := by
  unfold Slash Inp.inS
  refine exists_congr fun u => ?_
  have hb : (grid0.coords t 0 : Fin 2) = bat t := Fin.ext (co0 t)
  have e8 : (ms0_8 t).view.read (Elt Ideal) x8 (ix3 0 h u) = (inp m c).so (bat t) h u := (congrFun O.e8 _).trans (blk8 m c t h u)
  have e9 : (ms0_9 t).view.read (Elt Ideal) x9 (ix2 (grid0.coords t 0) h) = (inp m c).sc (bat t) h := (congrFun O.e9 _).trans ((blk9 m c t (grid0.coords t 0) h).trans (by rw [hb]))
  rw [toInt_small u.val (by omega), e8, e9]
  exact And.comm
theorem vert_iff (h : Fin 56) (o : ℕ) : Vert c (grid0.coords t) (ms0_6 t) (ms0_7 t) x6 x7 h o ↔ (inp m c).inV (bat t) h o := by
  unfold Vert Inp.inV
  refine exists_congr fun u => ?_
  have hb : (grid0.coords t 0 : Fin 2) = bat t := Fin.ext (co0 t)
  have e6 : (ms0_6 t).view.read (Elt Ideal) x6 (ix3 0 h u) = (inp m c).vi (bat t) h u := (congrFun O.e6 _).trans (blk6 m c t h u)
  have e7 : (ms0_7 t).view.read (Elt Ideal) x7 (ix2 (grid0.coords t 0) h) = (inp m c).vc (bat t) h := (congrFun O.e7 _).trans ((blk7 m c t (grid0.coords t 0) h).trans (by rw [hb]))
  rw [toInt_small u.val (by omega), e6, e7]
  exact And.comm

/-- After a point's preparation the scratch holds the point's batch. -/
theorem held_after (H : t.val % 8 ≠ 0 → Held c s1 s2 s4 s5 s6 (inp m c) (bat t)) :
    Held c (st14 c (grid0.coords t) (ms0_4 t) x4 scM1 s1) (st15 c (grid0.coords t) (ms0_5 t) x5 scM2 s2 scM3) (st17 c (grid0.coords t) scM4 s4)
      (st18 c (grid0.coords t) (ms0_8 t) (ms0_9 t) x8 x9 scM5 s5) (st19 c (grid0.coords t) (ms0_6 t) (ms0_7 t) x6 x7 scM7 scM6 s6) (inp m c) (bat t) := by
  by_cases h0 : t.val % 8 = 0
  · have hc : k0_cond1 (grid0.coords t) = 1#1 := cond1_pos _ ((co1 t).trans h0)
    refine ⟨fun h j e => ?_, fun h d j => ?_, fun y l => ?_, fun T h l => ?_, fun T u h h' hh => ?_⟩
    · unfold st14; rw [dif_pos hc]
      exact (prep_k c _ _ _ _ h j e).trans ((congrFun O.e4 _).trans (blk4 m c t j h e))
    · unfold st15; rw [dif_pos hc]
      exact (prep_v c _ _ _ _ _ h d j).trans ((congrFun O.e5 _).trans (blk5 m c t j h d))
    · unfold st17; rw [dif_pos hc]
      exact prep_eye c _ _ y l
    · unfold st18; rw [dif_pos hc]
      exact (slash_table c (grid0.coords t) (ms0_8 t) (ms0_9 t) x8 x9 hc scM5 s5 T h l).congr fun k _ => not_congr (exists_congr fun o => and_congr_right fun _ => slash_iff O h o)
    · have e : h' = ⟨h.val, by have := h.isLt; omega⟩ := Fin.ext hh
      rw [e]
      exact (vert_table c (grid0.coords t) (ms0_6 t) (ms0_7 t) x6 x7 scM7 scM6 s6 hc T u h).congr fun k _ => not_congr (vert_iff O h _)
  · have hc : ¬ k0_cond1 (grid0.coords t) = 1#1 := cond1_neg _ (by rw [co1 t]; exact h0)
    unfold st14 st15 st17 st18 st19
    rw [dif_neg hc, dif_neg hc, dif_neg hc, dif_neg hc, dif_neg hc]
    exact H h0

/-- The chunk a point puts by, … -/
theorem chunk_after (hg : t.val % 8 < 7) : Chunk c (st13 c (grid0.coords t) (ms0_3 t) x3 scM0 s0) (inp m c) (bat t) (t.val % 8) := by
  intro h hh j e
  have e1 : (grid0.coords t 1).val = t.val % 8 := co1 t
  rw [st13_apply c _ _ _ _ _ (by rw [e1]; exact hg), if_pos (by rw [e1]; show h.val % 16 / 8 = _; omega)]
  refine (congrFun O.e3 _).trans ((blk3 m c t hg j _ e).trans ?_)
  exact congrArg (fun h => (inp m c).q (bat t) j h e) (Fin.ext (by show 8 * (t.val % 8) + h.val % 16 % 8 = h.val; omega))
omit O in
/-- … and the one before it, kept. -/
theorem chunk_kept (n : ℕ) (hn : n + 1 = t.val % 8) (H : Chunk c s0 (inp m c) (bat t) n) : Chunk c (st13 c (grid0.coords t) (ms0_3 t) x3 scM0 s0) (inp m c) (bat t) n := by
  intro h hh j e
  have e1 : (grid0.coords t 1).val = t.val % 8 := co1 t
  by_cases hg : t.val % 8 < 7
  · rw [st13_apply c _ _ _ _ _ (by rw [e1]; exact hg), if_neg (by rw [e1]; show ¬ h.val % 16 / 8 = _; omega)]
    exact H h hh j e
  · unfold st13; rw [dif_neg (cond2_neg _ (by rw [e1]; exact hg))]
    exact H h hh j e

theorem good_at (H : t.val % 8 ≠ 0 → Held c s1 s2 s4 s5 s6 (inp m c) (bat t) ∧ Chunk c s0 (inp m c) (bat t) (t.val % 8 - 1)) :
    Good c (grid0.coords t) (ms0_0 t) (ms0_1 t) (ms0_2 t) (ms0_3 t) (ms0_4 t) (ms0_5 t) (ms0_6 t) (ms0_7 t) (ms0_8 t) (ms0_9 t) scM0 scM1 scM2 scM3 scM4 scM5 scM6 scM7
      x0 x1 x2 x3 x4 x5 x6 x7 x8 x9 s0 s1 s2 s4 s5 s6 (inp m c) (bat t) := by
  have A := held_after O fun h => (H h).1
  have e1 : (grid0.coords t 1).val = t.val % 8 := co1 t
  refine ⟨(co0 t).symm, fun j e => A.hk _ j e, fun d j => A.hv _ d j, fun r j e => ?_, A.he, A.hS, A.hV, fun h => (congrFun O.e0 _).trans (blk0 m c t _ h), fun h => (congrFun O.e1 _).trans (blk1 m c t _ h), fun h => (congrFun O.e2 _).trans (blk2 m c t _ h)⟩
  have hv : (Inp.hd (grp (grid0.coords t)) r).val = 7 * (t.val % 8) + r.val := by show (grid0.coords t 1).val * 7 + r.val = _; rw [e1]; omega
  have hs : (⟨(7 * (grid0.coords t 1).val + r.val) % 16, Nat.mod_lt _ (by omega)⟩ : Fin 16) = ⟨(Inp.hd (grp (grid0.coords t)) r).val % 16, Nat.mod_lt _ (Nat.succ_pos _)⟩ := Fin.ext (by show (7 * (grid0.coords t 1).val + r.val) % 16 = (Inp.hd (grp (grid0.coords t)) r).val % 16; rw [hv, e1])
  rw [hs]
  by_cases hd : (Inp.hd (grp (grid0.coords t)) r).val / 8 = t.val % 8
  · have : t.val % 8 < 7 := by have := (Inp.hd (grp (grid0.coords t)) r).isLt; omega
    exact chunk_after O this _ hd j e
  · have h0 : t.val % 8 ≠ 0 := by omega
    exact chunk_kept (t.val % 8 - 1) (by omega) (H h0).2 _ (by omega) j e
end Cert.KernelIdeal.Hand
end
-- ==== Proof.Left.lean ====
module

public import proofs.«01_k».proof.Proof.Outs

@[expose] public section

set_option maxRecDepth 65536

noncomputable section

/-! What a point's run leaves, in the terms of the lemmas. -/
namespace Cert.KernelIdeal.Hand

open Cert.KernelIdeal Cert.KernelIdeal.Gen
open Idealize.ShloMosaic

variable (c : Dev nD) (i : grid0.Coords)
    (M2 : Memref sig .tc .smem S2x56 .f32) (h2 : M2.IsWhole)
    (M3 : Memref sig .tc .smem S2x8 .f32) (h3 : M3.IsWhole)
    (M4 : Memref sig .tc .smem S2x8 .f32) (h4 : M4.IsWhole)
    (M5 : Memref sig .tc .vmem S1x896x8x128 .fp8e4m3) (h5 : M5.IsWhole)
    (M6 : Memref sig .tc .vmem S1x896x8x128 .fp8e4m3) (h6 : M6.IsWhole)
    (M7 : Memref sig .tc .vmem S1x896x8x128 .fp8e4m3) (h7 : M7.IsWhole)
    (M8 : Memref sig .tc .vmem S1x56x160 .i32) (h8 : M8.IsWhole)
    (M9 : Memref sig .tc .vmem S2x56 .i32) (h9 : M9.IsWhole)
    (M10 : Memref sig .tc .vmem S1x56x240 .i32) (h10 : M10.IsWhole)
    (M11 : Memref sig .tc .vmem S2x56 .i32) (h11 : M11.IsWhole)
    (M12 : Memref sig .tc .vmem S1x896x896 .bf16) (h12 : M12.IsWhole)
    (M13 : Memref sig .tc .vmem S16x896x128 .fp8e4m3) (h13 : M13.IsWhole)
    (M14 : Memref sig .tc .vmem S8x896x128 .fp8e4m3) (h14 : M14.IsWhole)
    (M15 : Memref sig .tc .vmem S8x128x896 .bf16) (h15 : M15.IsWhole)
    (M16 : Memref sig .tc .vmem S8x896x128 .fp8e4m3) (h16 : M16.IsWhole)
    (M17 : Memref sig .tc .vmem S256x256 .fp8e5m2) (h17 : M17.IsWhole)
    (M18 : Memref sig .tc .vmem S8x56x128 .i32) (h18 : M18.IsWhole)
    (M19 : Memref sig .tc .vmem S7x32x128 .i32) (h19 : M19.IsWhole)
    (M20 : Memref sig .tc .vmem S128x128 .i32) (h20 : M20.IsWhole)
    (M21 : Memref sig .tc .vmem S2x7x32x128 .i32) (h21 : M21.IsWhole)
    (M22 : Memref sig .tc .vmem S2x7x32x128 .i32) (h22 : M22.IsWhole)
    (M23 : Memref sig .tc .vmem S2x896x256 .f32) (h23 : M23.IsWhole)
      (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17) (f18 : Bf (F := Ideal) c M18) (f19 : Bf (F := Ideal) c M19) (f20 : Bf (F := Ideal) c M20) (f21 : Bf (F := Ideal) c M21) (f22 : Bf (F := Ideal) c M22) (f23 : Bf (F := Ideal) c M23)

set_option maxHeartbeats 0 in
theorem left12 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).1 = M12.view.writes (Elt Ideal) f12 (outs (payload c i M2 M3 M4 M5 M6 M7 M8 M9 M10 M11 M13 M14 M15 M16 M17 M18 M19 M20 M21 M22 M23 f2 f3 f4 f5 f6 f7 f8 f9 f10 f11 f13 f14 f15 f17 f18 f19) outOrder) := rfl
theorem left13 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).2.1 = st13 c i M5 f5 M13 f13 := rfl
theorem left14 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).2.2.1 = st14 c i M6 f6 M14 f14 := rfl
theorem left15 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).2.2.2.1 = st15 c i M7 f7 M15 f15 M16 := rfl
theorem left17 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).2.2.2.2.1 = st17 c i M17 f17 := rfl
theorem left18 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).2.2.2.2.2.1 = st18 c i M10 M11 f10 f11 M18 f18 := rfl
theorem left19 : (bodyRun c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f2 f3 f4 f5 f6 f7 f8 f9 f10 f11 f12 f13 f14 f15 f16 f17 f18 f19 f20 f21 f22 f23).2.2.2.2.2.2.1 = st19 c i M8 M9 f8 f9 M20 M19 f19 := rfl
end Cert.KernelIdeal.Hand
end
-- ==== Proof.Kernel.lean ====
module

public import proofs.«01_k».proof.Proof.State
public import proofs.«01_k».proof.Proof.Left
public import Idealize.ShloMosaic.Lib.Pipeline.ArrRel

@[expose] public section

set_option maxRecDepth 65536

noncomputable section

/-! The kernel's run, and its result at an index. -/
namespace Cert.KernelIdeal.Hand

open Cert.KernelIdeal Cert.KernelIdeal.Gen Cert.Slab Cert.Words Cert.Spec
open Idealize.ShloMosaic Idealize.ShloMosaic.TcCoe Idealize.SL.Sem
open Idealize.ShloMosaic.Pipeline (RDat)

/-- The result from the keys that block `q` needs. -/
def cell (x : Inp) (q : Fin 7) (b : Fin 2) (i : Fin 896) (g : Fin 8) (r : Fin 7) (d : Fin 128) : EReal := x.kOut (keys q) (keys_le q) b i g r d

/-- The output stores, read back. -/
theorem outs_read (v : View sig .tc .vmem S1x896x896 .bf16) (f : v.ty.Contents (Elt Ideal)) (P : Fin 7 → Fin 7 → FVec Ideal S1x128x128 .bf16) (r q : Fin 7) (y d : Fin 128)
    (z : S1x896x896.Idx) (h1 : (z 1).val = 128 * q.val + y.val) (h2 : (z 2).val = 128 * r.val + d.val) (o : List (Fin 7 × Fin 7)) (ho : (r, q) ∈ o) :
    v.read (Elt Ideal) (v.writes (Elt Ideal) f (outs P o)) z = P r q (ix3 0 y d) := by
  induction o with
  | nil => exact absurd ho (by simp)
  | cons p o ih =>
    obtain ⟨pr, pq⟩ := p
    refine read_cons_unit v f _ _ _ _ _ (fun x hx => ?_) fun hx => ?_
    · have e1 : (z 1).val = 128 * pq.val + (x 1).val := hx 1
      have e2 : (z 2).val = 128 * pr.val + (x 2).val := hx 2
      have b0 : (x 0).val < 1 := (x 0).isLt
      have b1 : (x 1).val < 128 := (x 1).isLt
      have b2 : (x 2).val < 128 := (x 2).isLt
      have eq : pq = q := Fin.ext (by omega)
      have er : pr = r := Fin.ext (by omega)
      subst eq; subst er
      have ex : x = ix3 0 y d := funext fun b => match b with
        | 0 => Fin.ext (by show (x 0).val = 0; omega)
        | 1 => Fin.ext (by show (x 1).val = y.val; omega)
        | 2 => Fin.ext (by show (x 2).val = d.val; omega)
      rw [ex]
    · refine ih ((List.mem_cons.1 ho).resolve_left fun hm => ?_)
      obtain ⟨rfl, rfl⟩ := Prod.mk.inj hm
      obtain ⟨b, hb⟩ := hx
      have b0 : (z 0).val < 1 := (z 0).isLt
      match b, hb with
      | 0, hb => have hb : (z 0).val < 0 ∨ 0 + 1 ≤ (z 0).val := hb; omega
      | 1, hb => have hb : (z 1).val < 128 * q.val ∨ 128 * q.val + 128 ≤ (z 1).val := hb; omega
      | 2, hb => have hb : (z 2).val < 128 * r.val ∨ 128 * r.val + 128 ≤ (z 2).val := hb; omega

variable (m : (ℓ : Loc nD τ sig) → Buf (Elt Ideal) ℓ)

/-- What the run maintains: within a batch its prepared scratch and the last chunk of queries; at each point the result's block. -/
def track (c : Dev nD) : Track Ideal c where
  Inv n s0 s1 s2 s4 s5 s6 := n % 8 ≠ 0 → ∀ b : Fin 2, b.val = n / 8 → Held c s1 s2 s4 s5 s6 (inp m c) b ∧ Chunk c s0 (inp m c) b (n % 8 - 1)
  Res t X := ∀ (r q : Fin 7) (y d : Fin 128) (z : S1x896x896.Idx), (z 1).val = 128 * q.val + y.val → (z 2).val = 128 * r.val + d.val →
    (X z : EReal) = cell (inp m c) q (bat t) (query q y.val) (gro t) r d

theorem track_zero (c : Dev nD) (s0 s1 s2 s4 s5 s6) : (track m c).Inv 0 s0 s1 s2 s4 s5 s6 := fun h => absurd rfl h

theorem inv_after {m : (ℓ : Loc nD τ sig) → Buf (Elt Ideal) ℓ} {c : Dev nD} {t : Fin cfg0.N}
    {x0 : Bf (F := Ideal) c (ms0_0 t)} {x1 : Bf (F := Ideal) c (ms0_1 t)} {x2 : Bf (F := Ideal) c (ms0_2 t)} {x3 : Bf (F := Ideal) c (ms0_3 t)} {x4 : Bf (F := Ideal) c (ms0_4 t)} {x5 : Bf (F := Ideal) c (ms0_5 t)} {x6 : Bf (F := Ideal) c (ms0_6 t)} {x7 : Bf (F := Ideal) c (ms0_7 t)} {x8 : Bf (F := Ideal) c (ms0_8 t)} {x9 : Bf (F := Ideal) c (ms0_9 t)}
    {s0 : Bf (F := Ideal) c scM0} {s1 : Bf (F := Ideal) c scM1} {s2 : Bf (F := Ideal) c scM2} {s4 : Bf (F := Ideal) c scM4} {s5 : Bf (F := Ideal) c scM5} {s6 : Bf (F := Ideal) c scM6}
    (O : Ops m c t x0 x1 x2 x3 x4 x5 x6 x7 x8 x9) (H : t.val % 8 ≠ 0 → Held c s1 s2 s4 s5 s6 (inp m c) (bat t) ∧ Chunk c s0 (inp m c) (bat t) (t.val % 8 - 1))
    (a0 : Bf (F := Ideal) c scM0) (a1 : Bf (F := Ideal) c scM1) (a2 : Bf (F := Ideal) c scM2) (a4 : Bf (F := Ideal) c scM4) (a5 : Bf (F := Ideal) c scM5) (a6 : Bf (F := Ideal) c scM6)
    (e0 : a0 = st13 c (grid0.coords t) (ms0_3 t) x3 scM0 s0) (e1 : a1 = st14 c (grid0.coords t) (ms0_4 t) x4 scM1 s1) (e2 : a2 = st15 c (grid0.coords t) (ms0_5 t) x5 scM2 s2 scM3)
    (e4 : a4 = st17 c (grid0.coords t) scM4 s4) (e5 : a5 = st18 c (grid0.coords t) (ms0_8 t) (ms0_9 t) x8 x9 scM5 s5) (e6 : a6 = st19 c (grid0.coords t) (ms0_6 t) (ms0_7 t) x6 x7 scM7 scM6 s6) :
    (track m c).Inv (t.val + 1) a0 a1 a2 a4 a5 a6 := by
  subst e0 e1 e2 e4 e5 e6
  intro hn b hb
  have hbt : b = bat t := Fin.ext (hb.trans (by show (t.val + 1) / 8 = t.val / 8; omega))
  subst hbt
  refine ⟨held_after O fun h => (H h).1, ?_⟩
  have := chunk_after (s0 := s0) O (show t.val % 8 < 7 by omega)
  rw [show (t.val + 1) % 8 - 1 = t.val % 8 by omega]
  exact this

theorem keeps (c : Dev nD) : Keeps m c (track m c) := by
  intro t x0 x1 x2 x3 x4 x5 x6 x7 x8 x9 x10 s0 s1 s2 s3 s4 s5 s6 s7 s8 s9 s10 O I r
  have H : t.val % 8 ≠ 0 → Held c s1 s2 s4 s5 s6 (inp m c) (bat t) ∧ Chunk c s0 (inp m c) (bat t) (t.val % 8 - 1) := fun h => I h (bat t) rfl
  refine ⟨?_, ?_⟩
  · have e : r.1 = _ := left12 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    rw [e]
    intro rr q y d z h1 h2
    refine (outs_read _ _ _ rr q y d z h1 h2 outOrder (mem_outOrder rr q)).trans ?_
    have hg : grp (grid0.coords t) = gro t := Fin.ext (co1 t)
    refine (payload_apply scM8 scM9 scM10 (good_at O H) rr q y d).trans ?_
    rw [hg]; rfl
  · have e13 : r.2.1 = _ := left13 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    have e14 : r.2.2.1 = _ := left14 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    have e15 : r.2.2.2.1 = _ := left15 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    have e17 : r.2.2.2.2.1 = _ := left17 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    have e18 : r.2.2.2.2.2.1 = _ := left18 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    have e19 : r.2.2.2.2.2.2.1 = _ := left19 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) x0 x1 x2 x3 x4 x5 x6 x7 x8 x9 x10 s0 s1 s2 s3 s4 s5 s6 s7 s8 s9 s10
    exact inv_after O H _ _ _ _ _ _ e13 e14 e15 e17 e18 e19

/-- The kernel's result. -/
def kres (c : Dev nD) : S2x896x7168.Idx → EReal := fun z =>
  cell (inp m c) ⟨(z 1).val / 128, by have : (z 1).val < 896 := (z 1).isLt; omega⟩ (z 0) (z 1) ⟨(z 2).val / 896, by have : (z 2).val < 7168 := (z 2).isLt; omega⟩
    ⟨(z 2).val / 128 % 7, by omega⟩ ⟨(z 2).val % 128, by omega⟩

theorem kres_at (c : Dev nD) (z : S2x896x7168.Idx) (q : Fin 7) (b : Fin 2) (i : Fin 896) (g : Fin 8) (r : Fin 7) (d : Fin 128) (hq : i.val / 128 = q.val) (h0 : (z 0).val = b.val) (h1 : (z 1).val = i.val)
    (h2 : (z 2).val = 896 * g.val + 128 * r.val + d.val) : kres m c z = cell (inp m c) q b i g r d := by
  unfold kres
  have e0 : (z 0 : Fin 2) = b := Fin.ext h0
  have e1 : (z 1 : Fin 896) = i := Fin.ext h1
  have eq : (⟨(z 1).val / 128, by have : (z 1).val < 896 := (z 1).isLt; omega⟩ : Fin 7) = q := Fin.ext (by show (z 1).val / 128 = _; omega)
  have eg : (⟨(z 2).val / 896, by have : (z 2).val < 7168 := (z 2).isLt; omega⟩ : Fin 8) = g := Fin.ext (by show (z 2).val / 896 = _; omega)
  have er : (⟨(z 2).val / 128 % 7, by omega⟩ : Fin 7) = r := Fin.ext (by show (z 2).val / 128 % 7 = _; omega)
  have ed : (⟨(z 2).val % 128, by omega⟩ : Fin 128) = d := Fin.ext (by show (z 2).val % 128 = _; omega)
  rw [eq, eg, er, ed]
  exact congrArg₂ (fun b i => cell (inp m c) q b i g r d) e0 e1

theorem value (r) (h : RDat.FramePost (cfgs 0) (rdat m (track m)) (V m) r) (c : Dev nD) :
    (r.2.mem ((c.tc : Thread nD τ).loc main_v0) : S2x896x7168.Idx → EReal) = kres m c := by
  obtain ⟨after, hL, hA⟩ := Pipeline.RDat.FramePost.exists_exact (cfg₁ := cfgs 0) (rdat := rdat m (track m)) (V := V m) h c
  refine (hA 10).trans ?_
  refine (((rdat m (track m)) c).withAfter after).arrAt_eq_of_covers 10 (kres m c) (by decide +kernel) fun t hf y => ?_
  obtain ⟨Y, -, hR⟩ := hL 10 t hf
  have hR : (track m c).Res t (after 10 t) := hR
  have b1 : (y 1).val < 896 := (y 1).isLt
  have b2 : (y 2).val < 896 := (y 2).isLt
  have b0 : (y 0).val < 1 := (y 0).isLt
  have hN : t.val < 16 := t.isLt
  refine (hR ⟨(y 2).val / 128, by omega⟩ ⟨(y 1).val / 128, by omega⟩ ⟨(y 1).val % 128, by omega⟩ ⟨(y 2).val % 128, by omega⟩ _ (by show (y 1).val = 128 * ((y 1).val / 128) + (y 1).val % 128; omega) (by show (y 2).val = 128 * ((y 2).val / 128) + (y 2).val % 128; omega)).trans ?_
  refine (kres_at m c _ _ _ _ _ _ _ ?_ ?_ ?_ ?_).symm
  · show (128 * ((y 1).val / 128) + (y 1).val % 128 % 128) / 128 = (y 1).val / 128; omega
  · blk_simp [ind10, bat]
  · blk_simp [ind10]; show (y 1).val = 128 * ((y 1).val / 128) + (y 1).val % 128 % 128; omega
  · blk_simp [ind10]; show t.val % 8 * 896 + (y 2).val = 896 * (t.val % 8) + 128 * ((y 2).val / 128) + (y 2).val % 128; omega
end Cert.KernelIdeal.Hand
end
-- ==== Proof.Algebra.lean ====
module

public import proofs.«01_k».proof.Defs
public import proofs.«01_k».proof.Proof.Kernel
public import proofs.«01_k».proof.Proof.Ref

@[expose] public section

set_option maxRecDepth 16384

noncomputable section

/-! The kernel and the reference leave equal results. -/
namespace Cert.Hand

open Idealize.ShloMosaic Idealize.ShloMosaic.TcCoe Idealize.SL.Sem Cert.Spec

theorem pre_facts : Cert.Pre_positive_scales.Facts := ⟨by decide +kernel, by decide +kernel⟩

theorem ofBool_one (p : Prop) [Decidable p] (h : BitVec.ofBool (decide p) = 1#1) : p := by
  by_cases hp : p
  · exact hp
  · rw [decide_eq_false hp] at h; exact absurd h (by decide)

theorem inf_word : Ideal.ofBits FTy.f32 0x7F800000#32 = (⊤ : EReal) := by
  simp [Ideal.ofBits, Ideal.ieee]

theorem gt_zero (x : EReal) (h : FloatOps.cmpf (F := Ideal) (φ := .f32) .ogt x (Ideal.ofBits FTy.f32 0x00000000#32) = 1#1) : 0 < x := by
  have h' := ofBool_one (Ideal.ofBits FTy.f32 0x00000000#32 < x) h
  rwa [Ideal.ofBits_zero_f32] at h'
theorem lt_top (x : EReal) (h : FloatOps.cmpf (F := Ideal) (φ := .f32) .olt x (Ideal.ofBits FTy.f32 0x7F800000#32) = 1#1) : x < ⊤ := by
  have h' := ofBool_one (x < Ideal.ofBits FTy.f32 0x7F800000#32) h
  rwa [inf_word] at h'

variable (m : (ℓ : Loc Cert.KernelIdeal.nD Cert.KernelIdeal.τ Cert.KernelIdeal.sig) → Buf (Elt Ideal) ℓ)

/-- The precondition, on the scales themselves. -/
theorem scales (hm : Cert.Pre_KernelIdeal_positive_scales (hPre_positive_scales := pre_facts) m) (c : Dev Cert.KernelIdeal.nD) :
    (∀ b h, 0 < (Cert.KernelIdeal.Hand.inp m c).qs b h ∧ (Cert.KernelIdeal.Hand.inp m c).qs b h < ⊤)
      ∧ ∀ b g, 0 < (Cert.KernelIdeal.Hand.inp m c).ks b g ∧ (Cert.KernelIdeal.Hand.inp m c).ks b g < ⊤ := by
  obtain ⟨h1, h2, h3, h4⟩ := hm c
  exact ⟨fun b h => ⟨gt_zero _ (congrFun h1 (ix2 b h)), lt_top _ (congrFun h2 (ix2 b h))⟩, fun b g => ⟨gt_zero _ (congrFun h3 (ix2 b g)), lt_top _ (congrFun h4 (ix2 b g))⟩⟩

theorem algebraic : Cert.algebraic_KernelIdeal_ReferenceIdeal_pre_positive_scales (hKernelIdeal := Cert.KernelIdeal.Gen.facts) (hReferenceIdeal := Cert.ReferenceIdeal.Gen.facts) (hPre_positive_scales := pre_facts) := by
  intro m g m' g' hm hargs
  refine ⟨fun c => Cert.KernelIdeal.Hand.kres m c, ?_, ?_⟩
  · refine (θ_run Cert.KernelIdeal.defs _ _).mono (fun r h c => ?_) (Cert.KernelIdeal.Hand.run_main m g (Cert.KernelIdeal.Hand.track m) (Cert.KernelIdeal.Hand.keeps m) (Cert.KernelIdeal.Hand.track_zero m))
    exact ⟨Cert.KernelIdeal.Hand.value m r h.1 c, (h.1.arr_in c 3 rfl).trans rfl, (h.1.arr_in c 0 rfl).trans rfl, (h.1.arr_in c 4 rfl).trans rfl, (h.1.arr_in c 1 rfl).trans rfl,
      (h.1.arr_in c 5 rfl).trans rfl, (h.1.arr_in c 2 rfl).trans rfl, (h.1.arr_in c 6 rfl).trans rfl, (h.1.arr_in c 7 rfl).trans rfl, (h.1.arr_in c 8 rfl).trans rfl, (h.1.arr_in c 9 rfl).trans rfl⟩
  · refine (θ_run Cert.ReferenceIdeal.defs _ _).mono (fun r h c => ?_) (Cert.ReferenceIdeal.Value.run m' g')
    refine ⟨((h c).1.trans (Cert.ReferenceIdeal.Value.fin_main_v79 m' c).symm).trans ?_, (h c).2⟩
    have ei : Cert.ReferenceIdeal.Hand.inp m' c = Cert.KernelIdeal.Hand.inp m c := by
      obtain ⟨a0, a1, a2, a3, a4, a5, a6, a7, a8, a9⟩ := hargs c
      exact (Inp.mk.injEq ..).mpr ⟨funext fun b => funext fun i => funext fun h => funext fun e => congrFun a0 _, funext fun b => funext fun h => congrFun a1 _,
        funext fun b => funext fun i => funext fun h => funext fun e => congrFun a2 _, funext fun b => funext fun h => congrFun a3 _,
        funext fun b => funext fun i => funext fun h => funext fun e => congrFun a4 _, funext fun b => funext fun h => congrFun a5 _,
        funext fun b => funext fun h => funext fun u => congrFun a6 _, funext fun b => funext fun h => congrFun a7 _,
        funext fun b => funext fun h => funext fun u => congrFun a8 _, funext fun b => funext fun h => congrFun a9 _⟩
    obtain ⟨hq, hk⟩ := scales m hm c
    refine funext fun (z : Cert.KernelIdeal.S2x896x7168.Idx) => ?_
    have b0 : (z 0).val < 2 := (z 0).isLt
    have b1 : (z 1).val < 896 := (z 1).isLt
    have b2 : (z 2).val < 7168 := (z 2).isLt
    have hy : ((z 2).val / 896 * 7 + (z 2).val / 128 % 7) * 128 + (z 2).val % 128 < 7168 := by omega
    have ez : z = ix3 (⟨(z 0).val, b0⟩ : Fin 2) (⟨(z 1).val, b1⟩ : Fin 896) (⟨((z 2).val / 896 * 7 + (z 2).val / 128 % 7) * 128 + (z 2).val % 128, hy⟩ : Fin 7168) := funext fun a => match a with
      | 0 => rfl
      | 1 => rfl
      | 2 => Fin.ext (by show (z 2).val = ((z 2).val / 896 * 7 + (z 2).val / 128 % 7) * 128 + (z 2).val % 128; omega)
    have hf := Cert.ReferenceIdeal.Hand.final m' c ⟨(z 0).val, b0⟩ ⟨(z 1).val, b1⟩ ⟨(z 2).val / 896, by omega⟩ ⟨(z 2).val / 128 % 7, by omega⟩ ⟨(z 2).val % 128, by omega⟩ hy
    have hkz := Cert.KernelIdeal.Hand.kres_at m c z ⟨(z 1).val / 128, by omega⟩ ⟨(z 0).val, b0⟩ ⟨(z 1).val, b1⟩ ⟨(z 2).val / 896, by omega⟩ ⟨(z 2).val / 128 % 7, by omega⟩ ⟨(z 2).val % 128, by omega⟩ rfl rfl rfl
      (by show (z 2).val = 896 * ((z 2).val / 896) + 128 * ((z 2).val / 128 % 7) + (z 2).val % 128; omega)
    have ho := kOut_eq_out (Cert.KernelIdeal.Hand.inp m c) (Cert.KernelIdeal.Hand.keys ⟨(z 1).val / 128, by omega⟩) (Cert.KernelIdeal.Hand.keys_le _) ⟨(z 0).val, b0⟩ ⟨(z 1).val, b1⟩ ⟨(z 2).val / 896, by omega⟩ ⟨(z 2).val / 128 % 7, by omega⟩ ⟨(z 2).val % 128, by omega⟩
      (by show (z 1).val < 128 * ((z 1).val / 128 + 1); omega) (hq _ _).1 (hq _ _).2 (hk _ _).1 (hk _ _).2
    refine Eq.trans ?_ (hkz.trans ho).symm
    rw [← ei]
    exact (congrArg (Cert.ReferenceIdeal.Hand.result m' c) ez).trans hf
end Cert.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.KernelIdealFrame
public import proofs.«01_k».proof.Proof.Ref
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Hand.pre_facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g,
  ⟨IdealRules.named_const.statement _ _ _ _ _ rfl, IdealRules.named_const.statement _ _ _ _ _ rfl⟩, Cert.Hand.algebraic⟩

end Cert.Proof

end
